-- ==== Defs.lean ====
def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_KvKernel (m : (ℓ : Loc Cert.KvKernel.nD Cert.KvKernel.τ Cert.KvKernel.sig) → Buf (Elt Bits) ℓ) : Prop :=
  True

def Pre_KvKernelIdeal (m : (ℓ : Loc Cert.KvKernelIdeal.nD Cert.KvKernelIdeal.τ Cert.KvKernelIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_CmpKernel (m : (ℓ : Loc Cert.CmpKernel.nD Cert.CmpKernel.τ Cert.CmpKernel.sig) → Buf (Elt Bits) ℓ) : Prop :=
  True

def Pre_CmpKernelIdeal (m : (ℓ : Loc Cert.CmpKernelIdeal.nD Cert.CmpKernelIdeal.τ Cert.CmpKernelIdeal.sig) → Buf (Elt Ideal) ℓ) : Prop :=
  True

def Pre_CmpReferenceIdeal (m : (ℓ : Loc Cert.CmpReferenceIdeal.nD Cert.CmpReferenceIdeal.τ Cert.CmpReferenceIdeal.sig) → Buf (Elt Ideal) ℓ) : Prop :=
  True

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1)
      ∧ r.2.mem ((c.tc : Thread Cert.GluKernel.nD Cert.GluKernel.τ).loc Cert.GluKernel.main_arg2) = m ((c.tc : Thread Cert.GluKernel.nD Cert.GluKernel.τ).loc Cert.GluKernel.main_arg2)
      ∧ r.2.mem ((c.tc : Thread Cert.GluKernel.nD Cert.GluKernel.τ).loc Cert.GluKernel.main_arg3) = m ((c.tc : Thread Cert.GluKernel.nD Cert.GluKernel.τ).loc Cert.GluKernel.main_arg3)
      ∧ r.2.mem ((c.tc : Thread Cert.GluKernel.nD Cert.GluKernel.τ).loc Cert.GluKernel.main_arg4) = m ((c.tc : Thread Cert.GluKernel.nD Cert.GluKernel.τ).loc Cert.GluKernel.main_arg4)
      ∧ r.2.mem ((c.tc : Thread Cert.GluKernel.nD Cert.GluKernel.τ).loc Cert.GluKernel.main_arg5) = m ((c.tc : Thread Cert.GluKernel.nD Cert.GluKernel.τ).loc Cert.GluKernel.main_arg5))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
      ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3)
      ∧ r.2.mem ((c.tc : Thread Cert.GluKernelIdeal.nD Cert.GluKernelIdeal.τ).loc Cert.GluKernelIdeal.main_arg4) = m ((c.tc : Thread Cert.GluKernelIdeal.nD Cert.GluKernelIdeal.τ).loc Cert.GluKernelIdeal.main_arg4)
      ∧ r.2.mem ((c.tc : Thread Cert.GluKernelIdeal.nD Cert.GluKernelIdeal.τ).loc Cert.GluKernelIdeal.main_arg5) = m ((c.tc : Thread Cert.GluKernelIdeal.nD Cert.GluKernelIdeal.τ).loc Cert.GluKernelIdeal.main_arg5))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3)
      ∧ r.2.mem ((c.tc : Thread Cert.GluReferenceIdeal.nD Cert.GluReferenceIdeal.τ).loc Cert.GluReferenceIdeal.main_arg4) = m ((c.tc : Thread Cert.GluReferenceIdeal.nD Cert.GluReferenceIdeal.τ).loc Cert.GluReferenceIdeal.main_arg4)
      ∧ r.2.mem ((c.tc : Thread Cert.GluReferenceIdeal.nD Cert.GluReferenceIdeal.τ).loc Cert.GluReferenceIdeal.main_arg5) = m ((c.tc : Thread Cert.GluReferenceIdeal.nD Cert.GluReferenceIdeal.τ).loc Cert.GluReferenceIdeal.main_arg5))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_KvKernel [hKvKernel : Cert.KvKernel.Facts] : Prop :=
  ∀ (m : (ℓ : Loc Cert.KvKernel.nD Cert.KvKernel.τ Cert.KvKernel.sig) → Buf (Elt Bits) ℓ) (g : Dev Cert.KvKernel.nD → PrngReg), Pre_KvKernel m →
    θ_run (Cert.KvKernel.defs (F := Bits)) (onTc (τ := Cert.KvKernel.τ) (Cert.KvKernel.main (F := Bits))) ⟨m, fun _ => 0, g⟩ (fun r => (∀ c : Dev Cert.KvKernel.nD,
      r.2.mem ((c.tc : Thread Cert.KvKernel.nD Cert.KvKernel.τ).loc Cert.KvKernel.main_arg0) = m ((c.tc : Thread Cert.KvKernel.nD Cert.KvKernel.τ).loc Cert.KvKernel.main_arg0)
      ∧ r.2.mem ((c.tc : Thread Cert.KvKernel.nD Cert.KvKernel.τ).loc Cert.KvKernel.main_arg1) = m ((c.tc : Thread Cert.KvKernel.nD Cert.KvKernel.τ).loc Cert.KvKernel.main_arg1)
      ∧ r.2.mem ((c.tc : Thread Cert.KvKernel.nD Cert.KvKernel.τ).loc Cert.KvKernel.main_arg2) = m ((c.tc : Thread Cert.KvKernel.nD Cert.KvKernel.τ).loc Cert.KvKernel.main_arg2))
      ∧ r.2.sem = fun _ => 0)

def quiescent_KvKernelIdeal [hKvKernelIdeal : Cert.KvKernelIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg), Pre_KvKernelIdeal m →
    θ_run (Cert.KvKernelIdeal.defs (F := Ideal)) (onTc (τ := Cert.KvKernelIdeal.τ) (Cert.KvKernelIdeal.main (F := Ideal))) ⟨m, fun _ => 0, g⟩ (fun r => (∀ c : Dev Cert.KvKernelIdeal.nD,
      r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
      ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1)
      ∧ r.2.mem ((c.tc : Thread Cert.KvKernelIdeal.nD Cert.KvKernelIdeal.τ).loc Cert.KvKernelIdeal.main_arg2) = m ((c.tc : Thread Cert.KvKernelIdeal.nD Cert.KvKernelIdeal.τ).loc Cert.KvKernelIdeal.main_arg2))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2))
      ∧ r.2.sem = fun _ => 0)

def quiescent_CmpKernel [hCmpKernel : Cert.CmpKernel.Facts] : Prop :=
  ∀ (m : (ℓ : Loc Cert.CmpKernel.nD Cert.CmpKernel.τ Cert.CmpKernel.sig) → Buf (Elt Bits) ℓ) (g : Dev Cert.CmpKernel.nD → PrngReg), Pre_CmpKernel m →
    θ_run (Cert.CmpKernel.defs (F := Bits)) (onTc (τ := Cert.CmpKernel.τ) (Cert.CmpKernel.main (F := Bits))) ⟨m, fun _ => 0, g⟩ (fun r => (∀ c : Dev Cert.CmpKernel.nD,
      r.2.mem ((c.tc : Thread Cert.CmpKernel.nD Cert.CmpKernel.τ).loc Cert.CmpKernel.main_arg0) = m ((c.tc : Thread Cert.CmpKernel.nD Cert.CmpKernel.τ).loc Cert.CmpKernel.main_arg0)
      ∧ r.2.mem ((c.tc : Thread Cert.CmpKernel.nD Cert.CmpKernel.τ).loc Cert.CmpKernel.main_arg1) = m ((c.tc : Thread Cert.CmpKernel.nD Cert.CmpKernel.τ).loc Cert.CmpKernel.main_arg1)
      ∧ r.2.mem ((c.tc : Thread Cert.CmpKernel.nD Cert.CmpKernel.τ).loc Cert.CmpKernel.main_arg2) = m ((c.tc : Thread Cert.CmpKernel.nD Cert.CmpKernel.τ).loc Cert.CmpKernel.main_arg2)
      ∧ r.2.mem ((c.tc : Thread Cert.CmpKernel.nD Cert.CmpKernel.τ).loc Cert.CmpKernel.main_arg3) = m ((c.tc : Thread Cert.CmpKernel.nD Cert.CmpKernel.τ).loc Cert.CmpKernel.main_arg3)
      ∧ r.2.mem ((c.tc : Thread Cert.CmpKernel.nD Cert.CmpKernel.τ).loc Cert.CmpKernel.main_arg4) = m ((c.tc : Thread Cert.CmpKernel.nD Cert.CmpKernel.τ).loc Cert.CmpKernel.main_arg4)
      ∧ r.2.mem ((c.tc : Thread Cert.CmpKernel.nD Cert.CmpKernel.τ).loc Cert.CmpKernel.main_arg5) = m ((c.tc : Thread Cert.CmpKernel.nD Cert.CmpKernel.τ).loc Cert.CmpKernel.main_arg5)
      ∧ r.2.mem ((c.tc : Thread Cert.CmpKernel.nD Cert.CmpKernel.τ).loc Cert.CmpKernel.main_arg6) = m ((c.tc : Thread Cert.CmpKernel.nD Cert.CmpKernel.τ).loc Cert.CmpKernel.main_arg6)
      ∧ r.2.mem ((c.tc : Thread Cert.CmpKernel.nD Cert.CmpKernel.τ).loc Cert.CmpKernel.main_arg7) = m ((c.tc : Thread Cert.CmpKernel.nD Cert.CmpKernel.τ).loc Cert.CmpKernel.main_arg7))
      ∧ r.2.sem = fun _ => 0)

def quiescent_CmpKernelIdeal [hCmpKernelIdeal : Cert.CmpKernelIdeal.Facts] : Prop :=
  ∀ (m : (ℓ : Loc Cert.CmpKernelIdeal.nD Cert.CmpKernelIdeal.τ Cert.CmpKernelIdeal.sig) → Buf (Elt Ideal) ℓ) (g : Dev Cert.CmpKernelIdeal.nD → PrngReg), Pre_CmpKernelIdeal m →
    θ_run (Cert.CmpKernelIdeal.defs (F := Ideal)) (onTc (τ := Cert.CmpKernelIdeal.τ) (Cert.CmpKernelIdeal.main (F := Ideal))) ⟨m, fun _ => 0, g⟩ (fun r => (∀ c : Dev Cert.CmpKernelIdeal.nD,
      r.2.mem ((c.tc : Thread Cert.CmpKernelIdeal.nD Cert.CmpKernelIdeal.τ).loc Cert.CmpKernelIdeal.main_arg0) = m ((c.tc : Thread Cert.CmpKernelIdeal.nD Cert.CmpKernelIdeal.τ).loc Cert.CmpKernelIdeal.main_arg0)
      ∧ r.2.mem ((c.tc : Thread Cert.CmpKernelIdeal.nD Cert.CmpKernelIdeal.τ).loc Cert.CmpKernelIdeal.main_arg1) = m ((c.tc : Thread Cert.CmpKernelIdeal.nD Cert.CmpKernelIdeal.τ).loc Cert.CmpKernelIdeal.main_arg1)
      ∧ r.2.mem ((c.tc : Thread Cert.CmpKernelIdeal.nD Cert.CmpKernelIdeal.τ).loc Cert.CmpKernelIdeal.main_arg2) = m ((c.tc : Thread Cert.CmpKernelIdeal.nD Cert.CmpKernelIdeal.τ).loc Cert.CmpKernelIdeal.main_arg2)
      ∧ r.2.mem ((c.tc : Thread Cert.CmpKernelIdeal.nD Cert.CmpKernelIdeal.τ).loc Cert.CmpKernelIdeal.main_arg3) = m ((c.tc : Thread Cert.CmpKernelIdeal.nD Cert.CmpKernelIdeal.τ).loc Cert.CmpKernelIdeal.main_arg3)
      ∧ r.2.mem ((c.tc : Thread Cert.CmpKernelIdeal.nD Cert.CmpKernelIdeal.τ).loc Cert.CmpKernelIdeal.main_arg4) = m ((c.tc : Thread Cert.CmpKernelIdeal.nD Cert.CmpKernelIdeal.τ).loc Cert.CmpKernelIdeal.main_arg4)
      ∧ r.2.mem ((c.tc : Thread Cert.CmpKernelIdeal.nD Cert.CmpKernelIdeal.τ).loc Cert.CmpKernelIdeal.main_arg5) = m ((c.tc : Thread Cert.CmpKernelIdeal.nD Cert.CmpKernelIdeal.τ).loc Cert.CmpKernelIdeal.main_arg5)
      ∧ r.2.mem ((c.tc : Thread Cert.CmpKernelIdeal.nD Cert.CmpKernelIdeal.τ).loc Cert.CmpKernelIdeal.main_arg6) = m ((c.tc : Thread Cert.CmpKernelIdeal.nD Cert.CmpKernelIdeal.τ).loc Cert.CmpKernelIdeal.main_arg6)
      ∧ r.2.mem ((c.tc : Thread Cert.CmpKernelIdeal.nD Cert.CmpKernelIdeal.τ).loc Cert.CmpKernelIdeal.main_arg7) = m ((c.tc : Thread Cert.CmpKernelIdeal.nD Cert.CmpKernelIdeal.τ).loc Cert.CmpKernelIdeal.main_arg7))
      ∧ r.2.sem = fun _ => 0)

def quiescent_CmpReferenceIdeal [hCmpReferenceIdeal : Cert.CmpReferenceIdeal.Facts] : Prop :=
  ∀ (m : (ℓ : Loc Cert.CmpReferenceIdeal.nD Cert.CmpReferenceIdeal.τ Cert.CmpReferenceIdeal.sig) → Buf (Elt Ideal) ℓ) (g : Dev Cert.CmpReferenceIdeal.nD → PrngReg), Pre_CmpReferenceIdeal m →
    θ_run (Cert.CmpReferenceIdeal.defs (F := Ideal)) (onTc (τ := Cert.CmpReferenceIdeal.τ) (Cert.CmpReferenceIdeal.main (F := Ideal))) ⟨m, fun _ => 0, g⟩ (fun r => (∀ c : Dev Cert.CmpReferenceIdeal.nD,
      r.2.mem ((c.tc : Thread Cert.CmpReferenceIdeal.nD Cert.CmpReferenceIdeal.τ).loc Cert.CmpReferenceIdeal.main_arg0) = m ((c.tc : Thread Cert.CmpReferenceIdeal.nD Cert.CmpReferenceIdeal.τ).loc Cert.CmpReferenceIdeal.main_arg0)
      ∧ r.2.mem ((c.tc : Thread Cert.CmpReferenceIdeal.nD Cert.CmpReferenceIdeal.τ).loc Cert.CmpReferenceIdeal.main_arg1) = m ((c.tc : Thread Cert.CmpReferenceIdeal.nD Cert.CmpReferenceIdeal.τ).loc Cert.CmpReferenceIdeal.main_arg1)
      ∧ r.2.mem ((c.tc : Thread Cert.CmpReferenceIdeal.nD Cert.CmpReferenceIdeal.τ).loc Cert.CmpReferenceIdeal.main_arg2) = m ((c.tc : Thread Cert.CmpReferenceIdeal.nD Cert.CmpReferenceIdeal.τ).loc Cert.CmpReferenceIdeal.main_arg2)
      ∧ r.2.mem ((c.tc : Thread Cert.CmpReferenceIdeal.nD Cert.CmpReferenceIdeal.τ).loc Cert.CmpReferenceIdeal.main_arg3) = m ((c.tc : Thread Cert.CmpReferenceIdeal.nD Cert.CmpReferenceIdeal.τ).loc Cert.CmpReferenceIdeal.main_arg3)
      ∧ r.2.mem ((c.tc : Thread Cert.CmpReferenceIdeal.nD Cert.CmpReferenceIdeal.τ).loc Cert.CmpReferenceIdeal.main_arg4) = m ((c.tc : Thread Cert.CmpReferenceIdeal.nD Cert.CmpReferenceIdeal.τ).loc Cert.CmpReferenceIdeal.main_arg4)
      ∧ r.2.mem ((c.tc : Thread Cert.CmpReferenceIdeal.nD Cert.CmpReferenceIdeal.τ).loc Cert.CmpReferenceIdeal.main_arg5) = m ((c.tc : Thread Cert.CmpReferenceIdeal.nD Cert.CmpReferenceIdeal.τ).loc Cert.CmpReferenceIdeal.main_arg5)
      ∧ r.2.mem ((c.tc : Thread Cert.CmpReferenceIdeal.nD Cert.CmpReferenceIdeal.τ).loc Cert.CmpReferenceIdeal.main_arg6) = m ((c.tc : Thread Cert.CmpReferenceIdeal.nD Cert.CmpReferenceIdeal.τ).loc Cert.CmpReferenceIdeal.main_arg6)
      ∧ r.2.mem ((c.tc : Thread Cert.CmpReferenceIdeal.nD Cert.CmpReferenceIdeal.τ).loc Cert.CmpReferenceIdeal.main_arg7) = m ((c.tc : Thread Cert.CmpReferenceIdeal.nD Cert.CmpReferenceIdeal.τ).loc Cert.CmpReferenceIdeal.main_arg7))
      ∧ r.2.sem = fun _ => 0)

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)) →
    ∃ (v0 : (c : Dev Cert.FfnKernelIdeal.nD) → Buf (Elt Ideal) ((c.tc : Thread Cert.FfnKernelIdeal.nD Cert.FfnKernelIdeal.τ).loc Cert.FfnKernelIdeal.main_v9)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v9) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v71) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_GluKernel_GluKernelIdeal : Prop :=
  True

def algebraic_GluKernelIdeal_GluReferenceIdeal [hGluKernelIdeal : Cert.GluKernelIdeal.Facts] [hGluReferenceIdeal : Cert.GluReferenceIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)
      ∧ m' ((c.tc : Thread Cert.GluReferenceIdeal.nD Cert.GluReferenceIdeal.τ).loc Cert.GluReferenceIdeal.main_arg2) = m ((c.tc : Thread Cert.GluKernelIdeal.nD Cert.GluKernelIdeal.τ).loc Cert.GluKernelIdeal.main_arg2)
      ∧ m' ((c.tc : Thread Cert.GluReferenceIdeal.nD Cert.GluReferenceIdeal.τ).loc Cert.GluReferenceIdeal.main_arg3) = m ((c.tc : Thread Cert.GluKernelIdeal.nD Cert.GluKernelIdeal.τ).loc Cert.GluKernelIdeal.main_arg3)
      ∧ m' ((c.tc : Thread Cert.GluReferenceIdeal.nD Cert.GluReferenceIdeal.τ).loc Cert.GluReferenceIdeal.main_arg4) = m ((c.tc : Thread Cert.GluKernelIdeal.nD Cert.GluKernelIdeal.τ).loc Cert.GluKernelIdeal.main_arg4)
      ∧ m' ((c.tc : Thread Cert.GluReferenceIdeal.nD Cert.GluReferenceIdeal.τ).loc Cert.GluReferenceIdeal.main_arg5) = m ((c.tc : Thread Cert.GluKernelIdeal.nD Cert.GluKernelIdeal.τ).loc Cert.GluKernelIdeal.main_arg5)) →
    ∃ (v0 : (c : Dev Cert.GluKernelIdeal.nD) → Buf (Elt Ideal) ((c.tc : Thread Cert.GluKernelIdeal.nD Cert.GluKernelIdeal.τ).loc Cert.GluKernelIdeal.main_v6)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v6) = v0 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
          ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
          ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3)
          ∧ r.2.mem ((c.tc : Thread Cert.GluKernelIdeal.nD Cert.GluKernelIdeal.τ).loc Cert.GluKernelIdeal.main_arg4) = m ((c.tc : Thread Cert.GluKernelIdeal.nD Cert.GluKernelIdeal.τ).loc Cert.GluKernelIdeal.main_arg4)
          ∧ r.2.mem ((c.tc : Thread Cert.GluKernelIdeal.nD Cert.GluKernelIdeal.τ).loc Cert.GluKernelIdeal.main_arg5) = m ((c.tc : Thread Cert.GluKernelIdeal.nD Cert.GluKernelIdeal.τ).loc Cert.GluKernelIdeal.main_arg5))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v58) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3)
          ∧ r.2.mem ((c.tc : Thread Cert.GluReferenceIdeal.nD Cert.GluReferenceIdeal.τ).loc Cert.GluReferenceIdeal.main_arg4) = m' ((c.tc : Thread Cert.GluReferenceIdeal.nD Cert.GluReferenceIdeal.τ).loc Cert.GluReferenceIdeal.main_arg4)
          ∧ r.2.mem ((c.tc : Thread Cert.GluReferenceIdeal.nD Cert.GluReferenceIdeal.τ).loc Cert.GluReferenceIdeal.main_arg5) = m' ((c.tc : Thread Cert.GluReferenceIdeal.nD Cert.GluReferenceIdeal.τ).loc Cert.GluReferenceIdeal.main_arg5))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v5)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v5) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v16) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_KvKernel_KvKernelIdeal : Prop :=
  True

def algebraic_KvKernelIdeal_KvReferenceIdeal [hKvKernelIdeal : Cert.KvKernelIdeal.Facts] [hKvReferenceIdeal : Cert.KvReferenceIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvKernelIdeal m →
    (∀ c : Dev Cert.KvKernelIdeal.nD,
      m' ((c.tc : Thread Cert.KvReferenceIdeal.nD Cert.KvReferenceIdeal.τ).loc Cert.KvReferenceIdeal.main_arg0) = m ((c.tc : Thread Cert.KvKernelIdeal.nD Cert.KvKernelIdeal.τ).loc Cert.KvKernelIdeal.main_arg0)
      ∧ m' ((c.tc : Thread Cert.KvReferenceIdeal.nD Cert.KvReferenceIdeal.τ).loc Cert.KvReferenceIdeal.main_arg1) = m ((c.tc : Thread Cert.KvKernelIdeal.nD Cert.KvKernelIdeal.τ).loc Cert.KvKernelIdeal.main_arg1)
      ∧ m' ((c.tc : Thread Cert.KvReferenceIdeal.nD Cert.KvReferenceIdeal.τ).loc Cert.KvReferenceIdeal.main_arg2) = m ((c.tc : Thread Cert.KvKernelIdeal.nD Cert.KvKernelIdeal.τ).loc Cert.KvKernelIdeal.main_arg2)) →
    ∃ (v0 : (c : Dev Cert.KvKernelIdeal.nD) → Buf (Elt Ideal) ((c.tc : Thread Cert.KvKernelIdeal.nD Cert.KvKernelIdeal.τ).loc Cert.KvKernelIdeal.main_v60_0)) (v1 : (c : Dev Cert.KvKernelIdeal.nD) → Buf (Elt Ideal) ((c.tc : Thread Cert.KvKernelIdeal.nD Cert.KvKernelIdeal.τ).loc Cert.KvKernelIdeal.main_v60_1)) (v2 : (c : Dev Cert.KvKernelIdeal.nD) → Buf (Elt Ideal) ((c.tc : Thread Cert.KvKernelIdeal.nD Cert.KvKernelIdeal.τ).loc Cert.KvKernelIdeal.main_v60_2)) (v3 : (c : Dev Cert.KvKernelIdeal.nD) → Buf (Elt Ideal) ((c.tc : Thread Cert.KvKernelIdeal.nD Cert.KvKernelIdeal.τ).loc Cert.KvKernelIdeal.main_v60_3)),
      θ_run (Cert.KvKernelIdeal.defs (F := Ideal)) (onTc (τ := Cert.KvKernelIdeal.τ) (Cert.KvKernelIdeal.main (F := Ideal))) ⟨m, fun _ => 0, g⟩ (fun r => ∀ c : Dev Cert.KvKernelIdeal.nD,
          r.2.mem ((c.tc : Thread Cert.KvKernelIdeal.nD Cert.KvKernelIdeal.τ).loc Cert.KvKernelIdeal.main_v60_0) = v0 c
          ∧ r.2.mem ((c.tc : Thread Cert.KvKernelIdeal.nD Cert.KvKernelIdeal.τ).loc Cert.KvKernelIdeal.main_v60_1) = v1 c
          ∧ r.2.mem ((c.tc : Thread Cert.KvKernelIdeal.nD Cert.KvKernelIdeal.τ).loc Cert.KvKernelIdeal.main_v60_2) = v2 c
          ∧ r.2.mem ((c.tc : Thread Cert.KvKernelIdeal.nD Cert.KvKernelIdeal.τ).loc Cert.KvKernelIdeal.main_v60_3) = v3 c
          ∧ r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
          ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1)
          ∧ r.2.mem ((c.tc : Thread Cert.KvKernelIdeal.nD Cert.KvKernelIdeal.τ).loc Cert.KvKernelIdeal.main_arg2) = m ((c.tc : Thread Cert.KvKernelIdeal.nD Cert.KvKernelIdeal.τ).loc Cert.KvKernelIdeal.main_arg2))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v112) = v0 c
          ∧ r.2.mem ((c.tc : Thread Cert.KvReferenceIdeal.nD Cert.KvReferenceIdeal.τ).loc Cert.KvReferenceIdeal.main_v113) = v1 c
          ∧ r.2.mem ((c.tc : Thread Cert.KvReferenceIdeal.nD Cert.KvReferenceIdeal.τ).loc Cert.KvReferenceIdeal.main_v114) = v2 c
          ∧ r.2.mem ((c.tc : Thread Cert.KvReferenceIdeal.nD Cert.KvReferenceIdeal.τ).loc Cert.KvReferenceIdeal.main_v111) = v3 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2))

def preserves_CmpKernel_CmpKernelIdeal : Prop :=
  True

def algebraic_CmpKernelIdeal_CmpReferenceIdeal [hCmpKernelIdeal : Cert.CmpKernelIdeal.Facts] [hCmpReferenceIdeal : Cert.CmpReferenceIdeal.Facts] : Prop :=
  ∀ (m : (ℓ : Loc Cert.CmpKernelIdeal.nD Cert.CmpKernelIdeal.τ Cert.CmpKernelIdeal.sig) → Buf (Elt Ideal) ℓ) (g : Dev Cert.CmpKernelIdeal.nD → PrngReg)
    (m' : (ℓ : Loc Cert.CmpReferenceIdeal.nD Cert.CmpReferenceIdeal.τ Cert.CmpReferenceIdeal.sig) → Buf (Elt Ideal) ℓ) (g' : Dev Cert.CmpReferenceIdeal.nD → PrngReg), Pre_CmpKernelIdeal m →
    (∀ c : Dev Cert.CmpKernelIdeal.nD,
      m' ((c.tc : Thread Cert.CmpReferenceIdeal.nD Cert.CmpReferenceIdeal.τ).loc Cert.CmpReferenceIdeal.main_arg0) = m ((c.tc : Thread Cert.CmpKernelIdeal.nD Cert.CmpKernelIdeal.τ).loc Cert.CmpKernelIdeal.main_arg0)
      ∧ m' ((c.tc : Thread Cert.CmpReferenceIdeal.nD Cert.CmpReferenceIdeal.τ).loc Cert.CmpReferenceIdeal.main_arg1) = m ((c.tc : Thread Cert.CmpKernelIdeal.nD Cert.CmpKernelIdeal.τ).loc Cert.CmpKernelIdeal.main_arg1)
      ∧ m' ((c.tc : Thread Cert.CmpReferenceIdeal.nD Cert.CmpReferenceIdeal.τ).loc Cert.CmpReferenceIdeal.main_arg2) = m ((c.tc : Thread Cert.CmpKernelIdeal.nD Cert.CmpKernelIdeal.τ).loc Cert.CmpKernelIdeal.main_arg2)
      ∧ m' ((c.tc : Thread Cert.CmpReferenceIdeal.nD Cert.CmpReferenceIdeal.τ).loc Cert.CmpReferenceIdeal.main_arg3) = m ((c.tc : Thread Cert.CmpKernelIdeal.nD Cert.CmpKernelIdeal.τ).loc Cert.CmpKernelIdeal.main_arg3)
      ∧ m' ((c.tc : Thread Cert.CmpReferenceIdeal.nD Cert.CmpReferenceIdeal.τ).loc Cert.CmpReferenceIdeal.main_arg4) = m ((c.tc : Thread Cert.CmpKernelIdeal.nD Cert.CmpKernelIdeal.τ).loc Cert.CmpKernelIdeal.main_arg4)
      ∧ m' ((c.tc : Thread Cert.CmpReferenceIdeal.nD Cert.CmpReferenceIdeal.τ).loc Cert.CmpReferenceIdeal.main_arg5) = m ((c.tc : Thread Cert.CmpKernelIdeal.nD Cert.CmpKernelIdeal.τ).loc Cert.CmpKernelIdeal.main_arg5)
      ∧ m' ((c.tc : Thread Cert.CmpReferenceIdeal.nD Cert.CmpReferenceIdeal.τ).loc Cert.CmpReferenceIdeal.main_arg6) = m ((c.tc : Thread Cert.CmpKernelIdeal.nD Cert.CmpKernelIdeal.τ).loc Cert.CmpKernelIdeal.main_arg6)
      ∧ m' ((c.tc : Thread Cert.CmpReferenceIdeal.nD Cert.CmpReferenceIdeal.τ).loc Cert.CmpReferenceIdeal.main_arg7) = m ((c.tc : Thread Cert.CmpKernelIdeal.nD Cert.CmpKernelIdeal.τ).loc Cert.CmpKernelIdeal.main_arg7)) →
    ∃ (v0 : (c : Dev Cert.CmpKernelIdeal.nD) → Buf (Elt Ideal) ((c.tc : Thread Cert.CmpKernelIdeal.nD Cert.CmpKernelIdeal.τ).loc Cert.CmpKernelIdeal.main_v71_0)) (v1 : (c : Dev Cert.CmpKernelIdeal.nD) → Buf (Elt Ideal) ((c.tc : Thread Cert.CmpKernelIdeal.nD Cert.CmpKernelIdeal.τ).loc Cert.CmpKernelIdeal.main_v71_1)),
      θ_run (Cert.CmpKernelIdeal.defs (F := Ideal)) (onTc (τ := Cert.CmpKernelIdeal.τ) (Cert.CmpKernelIdeal.main (F := Ideal))) ⟨m, fun _ => 0, g⟩ (fun r => ∀ c : Dev Cert.CmpKernelIdeal.nD,
          r.2.mem ((c.tc : Thread Cert.CmpKernelIdeal.nD Cert.CmpKernelIdeal.τ).loc Cert.CmpKernelIdeal.main_v71_0) = v0 c
          ∧ r.2.mem ((c.tc : Thread Cert.CmpKernelIdeal.nD Cert.CmpKernelIdeal.τ).loc Cert.CmpKernelIdeal.main_v71_1) = v1 c
          ∧ r.2.mem ((c.tc : Thread Cert.CmpKernelIdeal.nD Cert.CmpKernelIdeal.τ).loc Cert.CmpKernelIdeal.main_arg0) = m ((c.tc : Thread Cert.CmpKernelIdeal.nD Cert.CmpKernelIdeal.τ).loc Cert.CmpKernelIdeal.main_arg0)
          ∧ r.2.mem ((c.tc : Thread Cert.CmpKernelIdeal.nD Cert.CmpKernelIdeal.τ).loc Cert.CmpKernelIdeal.main_arg1) = m ((c.tc : Thread Cert.CmpKernelIdeal.nD Cert.CmpKernelIdeal.τ).loc Cert.CmpKernelIdeal.main_arg1)
          ∧ r.2.mem ((c.tc : Thread Cert.CmpKernelIdeal.nD Cert.CmpKernelIdeal.τ).loc Cert.CmpKernelIdeal.main_arg2) = m ((c.tc : Thread Cert.CmpKernelIdeal.nD Cert.CmpKernelIdeal.τ).loc Cert.CmpKernelIdeal.main_arg2)
          ∧ r.2.mem ((c.tc : Thread Cert.CmpKernelIdeal.nD Cert.CmpKernelIdeal.τ).loc Cert.CmpKernelIdeal.main_arg3) = m ((c.tc : Thread Cert.CmpKernelIdeal.nD Cert.CmpKernelIdeal.τ).loc Cert.CmpKernelIdeal.main_arg3)
          ∧ r.2.mem ((c.tc : Thread Cert.CmpKernelIdeal.nD Cert.CmpKernelIdeal.τ).loc Cert.CmpKernelIdeal.main_arg4) = m ((c.tc : Thread Cert.CmpKernelIdeal.nD Cert.CmpKernelIdeal.τ).loc Cert.CmpKernelIdeal.main_arg4)
          ∧ r.2.mem ((c.tc : Thread Cert.CmpKernelIdeal.nD Cert.CmpKernelIdeal.τ).loc Cert.CmpKernelIdeal.main_arg5) = m ((c.tc : Thread Cert.CmpKernelIdeal.nD Cert.CmpKernelIdeal.τ).loc Cert.CmpKernelIdeal.main_arg5)
          ∧ r.2.mem ((c.tc : Thread Cert.CmpKernelIdeal.nD Cert.CmpKernelIdeal.τ).loc Cert.CmpKernelIdeal.main_arg6) = m ((c.tc : Thread Cert.CmpKernelIdeal.nD Cert.CmpKernelIdeal.τ).loc Cert.CmpKernelIdeal.main_arg6)
          ∧ r.2.mem ((c.tc : Thread Cert.CmpKernelIdeal.nD Cert.CmpKernelIdeal.τ).loc Cert.CmpKernelIdeal.main_arg7) = m ((c.tc : Thread Cert.CmpKernelIdeal.nD Cert.CmpKernelIdeal.τ).loc Cert.CmpKernelIdeal.main_arg7))
      ∧ θ_run (Cert.CmpReferenceIdeal.defs (F := Ideal)) (onTc (τ := Cert.CmpReferenceIdeal.τ) (Cert.CmpReferenceIdeal.main (F := Ideal))) ⟨m', fun _ => 0, g'⟩ (fun r => ∀ c : Dev Cert.CmpReferenceIdeal.nD,
          r.2.mem ((c.tc : Thread Cert.CmpReferenceIdeal.nD Cert.CmpReferenceIdeal.τ).loc Cert.CmpReferenceIdeal.main_v96) = v0 c
          ∧ r.2.mem ((c.tc : Thread Cert.CmpReferenceIdeal.nD Cert.CmpReferenceIdeal.τ).loc Cert.CmpReferenceIdeal.main_v97) = v1 c
          ∧ r.2.mem ((c.tc : Thread Cert.CmpReferenceIdeal.nD Cert.CmpReferenceIdeal.τ).loc Cert.CmpReferenceIdeal.main_arg0) = m' ((c.tc : Thread Cert.CmpReferenceIdeal.nD Cert.CmpReferenceIdeal.τ).loc Cert.CmpReferenceIdeal.main_arg0)
          ∧ r.2.mem ((c.tc : Thread Cert.CmpReferenceIdeal.nD Cert.CmpReferenceIdeal.τ).loc Cert.CmpReferenceIdeal.main_arg1) = m' ((c.tc : Thread Cert.CmpReferenceIdeal.nD Cert.CmpReferenceIdeal.τ).loc Cert.CmpReferenceIdeal.main_arg1)
          ∧ r.2.mem ((c.tc : Thread Cert.CmpReferenceIdeal.nD Cert.CmpReferenceIdeal.τ).loc Cert.CmpReferenceIdeal.main_arg2) = m' ((c.tc : Thread Cert.CmpReferenceIdeal.nD Cert.CmpReferenceIdeal.τ).loc Cert.CmpReferenceIdeal.main_arg2)
          ∧ r.2.mem ((c.tc : Thread Cert.CmpReferenceIdeal.nD Cert.CmpReferenceIdeal.τ).loc Cert.CmpReferenceIdeal.main_arg3) = m' ((c.tc : Thread Cert.CmpReferenceIdeal.nD Cert.CmpReferenceIdeal.τ).loc Cert.CmpReferenceIdeal.main_arg3)
          ∧ r.2.mem ((c.tc : Thread Cert.CmpReferenceIdeal.nD Cert.CmpReferenceIdeal.τ).loc Cert.CmpReferenceIdeal.main_arg4) = m' ((c.tc : Thread Cert.CmpReferenceIdeal.nD Cert.CmpReferenceIdeal.τ).loc Cert.CmpReferenceIdeal.main_arg4)
          ∧ r.2.mem ((c.tc : Thread Cert.CmpReferenceIdeal.nD Cert.CmpReferenceIdeal.τ).loc Cert.CmpReferenceIdeal.main_arg5) = m' ((c.tc : Thread Cert.CmpReferenceIdeal.nD Cert.CmpReferenceIdeal.τ).loc Cert.CmpReferenceIdeal.main_arg5)
          ∧ r.2.mem ((c.tc : Thread Cert.CmpReferenceIdeal.nD Cert.CmpReferenceIdeal.τ).loc Cert.CmpReferenceIdeal.main_arg6) = m' ((c.tc : Thread Cert.CmpReferenceIdeal.nD Cert.CmpReferenceIdeal.τ).loc Cert.CmpReferenceIdeal.main_arg6)
          ∧ r.2.mem ((c.tc : Thread Cert.CmpReferenceIdeal.nD Cert.CmpReferenceIdeal.τ).loc Cert.CmpReferenceIdeal.main_arg7) = m' ((c.tc : Thread Cert.CmpReferenceIdeal.nD Cert.CmpReferenceIdeal.τ).loc Cert.CmpReferenceIdeal.main_arg7))

def Claim : Prop :=
  ∃ (hFfnKernel : Cert.FfnKernel.Facts) (hFfnKernelIdeal : Cert.FfnKernelIdeal.Facts) (hFfnReferenceIdeal : Cert.FfnReferenceIdeal.Facts) (hGluKernel : Cert.GluKernel.Facts) (hGluKernelIdeal : Cert.GluKernelIdeal.Facts) (hGluReferenceIdeal : Cert.GluReferenceIdeal.Facts) (hOutKernel : Cert.OutKernel.Facts) (hOutKernelIdeal : Cert.OutKernelIdeal.Facts) (hOutReferenceIdeal : Cert.OutReferenceIdeal.Facts) (hKvKernel : Cert.KvKernel.Facts) (hKvKernelIdeal : Cert.KvKernelIdeal.Facts) (hKvReferenceIdeal : Cert.KvReferenceIdeal.Facts) (hCmpKernel : Cert.CmpKernel.Facts) (hCmpKernelIdeal : Cert.CmpKernelIdeal.Facts) (hCmpReferenceIdeal : Cert.CmpReferenceIdeal.Facts),
    quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_GluKernel (hGluKernel := hGluKernel)
    ∧ quiescent_GluKernelIdeal (hGluKernelIdeal := hGluKernelIdeal)
    ∧ quiescent_GluReferenceIdeal (hGluReferenceIdeal := hGluReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_KvKernel (hKvKernel := hKvKernel)
    ∧ quiescent_KvKernelIdeal (hKvKernelIdeal := hKvKernelIdeal)
    ∧ quiescent_KvReferenceIdeal (hKvReferenceIdeal := hKvReferenceIdeal)
    ∧ quiescent_CmpKernel (hCmpKernel := hCmpKernel)
    ∧ quiescent_CmpKernelIdeal (hCmpKernelIdeal := hCmpKernelIdeal)
    ∧ quiescent_CmpReferenceIdeal (hCmpReferenceIdeal := hCmpReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_GluKernel_GluKernelIdeal
    ∧ algebraic_GluKernelIdeal_GluReferenceIdeal (hGluKernelIdeal := hGluKernelIdeal) (hGluReferenceIdeal := hGluReferenceIdeal)
    ∧ preserves_OutKernel_OutKernelIdeal
    ∧ algebraic_OutKernelIdeal_OutReferenceIdeal (hOutKernelIdeal := hOutKernelIdeal) (hOutReferenceIdeal := hOutReferenceIdeal)
    ∧ preserves_KvKernel_KvKernelIdeal
    ∧ algebraic_KvKernelIdeal_KvReferenceIdeal (hKvKernelIdeal := hKvKernelIdeal) (hKvReferenceIdeal := hKvReferenceIdeal)
    ∧ preserves_CmpKernel_CmpKernelIdeal
    ∧ algebraic_CmpKernelIdeal_CmpReferenceIdeal (hCmpKernelIdeal := hCmpKernelIdeal) (hCmpReferenceIdeal := hCmpReferenceIdeal)
-- ==== FfnKernel.lean ====
abbrev S4x4096x1024 : Shape := ⟨3, ![4, 4096, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S16384x1024 : Shape := ⟨2, ![16384, 1024]⟩
abbrev S_ : Shape := ⟨0, ![]⟩
abbrev S8x2816 : Shape := ⟨2, ![8, 2816]⟩
abbrev S1 : Shape := ⟨1, ![1]⟩
abbrev S1x1024 : Shape := ⟨2, ![1, 1024]⟩
abbrev S1x2816 : Shape := ⟨2, ![1, 2816]⟩
abbrev S16x1024 : Shape := ⟨2, ![16, 1024]⟩
abbrev S1024x1024 : Shape := ⟨2, ![1024, 1024]⟩
abbrev S1024x1408 : Shape := ⟨2, ![1024, 1408]⟩
abbrev S8x1408 : Shape := ⟨2, ![8, 1408]⟩
abbrev S1x1408 : Shape := ⟨2, ![1, 1408]⟩
abbrev S1408x1024 : Shape := ⟨2, ![1408, 1024]⟩
abbrev S1040x1024 : Shape := ⟨2, ![1040, 1024]⟩
abbrev S1024x1 : Shape := ⟨2, ![1024, 1]⟩
abbrev S16 : Shape := ⟨1, ![16]⟩
abbrev S16x1 : Shape := ⟨2, ![16, 1]⟩
abbrev S1040x1408 : Shape := ⟨2, ![1040, 1408]⟩

abbrev nBuf : Space → Nat
  | .hbm => 19
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S16384x1024, .f32⟩
  | .hbm, ⟨8, _⟩ => ⟨S_, .f32⟩
  | .hbm, ⟨9, _⟩ => ⟨S8x2816, .f32⟩
  | .hbm, ⟨10, _⟩ => ⟨S_, .i32⟩
  | .hbm, ⟨11, _⟩ => ⟨S1, .i32⟩
  | .hbm, ⟨12, _⟩ => ⟨S8x2816, .f32⟩
  | .hbm, ⟨13, _⟩ => ⟨S1024x5632, .bf16⟩
  | .hbm, ⟨14, _⟩ => ⟨S1x1024, .f32⟩
  | .hbm, ⟨15, _⟩ => ⟨S1x2816, .f32⟩
  | .hbm, ⟨16, _⟩ => ⟨S2816x1024, .bf16⟩
  | .hbm, ⟨17, _⟩ => ⟨S1x1024, .f32⟩
  | .hbm, ⟨18, _⟩ => ⟨S16384x1024, .f32⟩
  | .local _ .vmem, ⟨0, _⟩ => ⟨S16x1024, .f32⟩
  | .local _ .vmem, ⟨1, _⟩ => ⟨S16x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S8x1408, .f32⟩
  | .local _ .vmem, ⟨10, _⟩ => ⟨S8x1408, .f32⟩
  | .local _ .vmem, ⟨11, _⟩ => ⟨S1x1408, .f32⟩
  | .local _ .vmem, ⟨12, _⟩ => ⟨S1x1408, .f32⟩
  | .local _ .vmem, ⟨13, _⟩ => ⟨S1408x1024, .bf16⟩
  | .local _ .vmem, ⟨14, _⟩ => ⟨S1408x1024, .bf16⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1040x1024, .bf16⟩
  | .local _ .vmem, ⟨19, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32_22 : BitVec 32 := 1#32
  let v54 : BitVec 1 := Scalar.cmpi .eq arg1 c1_i32_22
  let v55 : BitVec 32 := Scalar.extui v54
  let c0_i32_23 : BitVec 32 := 0#32
  let v56 : BitVec 1 := Scalar.cmpi .ne v55 c0_i32_23
  v56

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnReferenceIdeal.lean ====
abbrev S4x4096x1024 : Shape := ⟨3, ![4, 4096, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩
abbrev S4x4098x2816 : Shape := ⟨3, ![4, 4098, 2816]⟩
abbrev S1x2816 : Shape := ⟨2, ![1, 2816]⟩
abbrev S1x1x2816 : Shape := ⟨3, ![1, 1, 2816]⟩
abbrev S16384x1024 : Shape := ⟨2, ![16384, 1024]⟩

abbrev nBuf : Space → Nat
  | .hbm => 92
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x4096x5632, .f32⟩
  | .hbm, ⟨24, _⟩ => ⟨S4x4096x2816, .f32⟩
  | .hbm, ⟨25, _⟩ => ⟨S4x4096x2816, .f32⟩
  | .hbm, ⟨26, _⟩ => ⟨S_, .i32⟩
  | .hbm, ⟨27, _⟩ => ⟨S_, .f32⟩
  | .hbm, ⟨28, _⟩ => ⟨S4x4098x2816, .f32⟩
  | .hbm, ⟨29, _⟩ => ⟨S4x4096x2816, .f32⟩
  | .hbm, ⟨30, _⟩ => ⟨S1x2816, .f32⟩
  | .hbm, ⟨31, _⟩ => ⟨S2816, .f32⟩
  | .hbm, ⟨32, _⟩ => ⟨S1x1x2816, .f32⟩
  | .hbm, ⟨33, _⟩ => ⟨S4x4096x2816, .f32⟩
  | .hbm, ⟨34, _⟩ => ⟨S4x4096x2816, .f32⟩
  | .hbm, ⟨35, _⟩ => ⟨S_, .f32⟩
  | .hbm, ⟨36, _⟩ => ⟨S4x4096x2816, .f32⟩
  | .hbm, ⟨37, _⟩ => ⟨S4x4096x2816, .f32⟩
  | .hbm, ⟨38, _⟩ => ⟨S4x4096x2816, .f32⟩
  | .hbm, ⟨39, _⟩ => ⟨S1x2816, .f32⟩
  | .hbm, ⟨40, _⟩ => ⟨S2816, .f32⟩
  | .hbm, ⟨41, _⟩ => ⟨S1x1x2816, .f32⟩
  | .hbm, ⟨42, _⟩ => ⟨S4x4096x2816, .f32⟩
  | .hbm, ⟨43, _⟩ => ⟨S4x4096x2816, .f32⟩
  | .hbm, ⟨44, _⟩ => ⟨S4x4096x2816, .f32⟩
  | .hbm, ⟨45, _⟩ => ⟨S4x4096x2816, .f32⟩
  | .hbm, ⟨46, _⟩ => ⟨S1x2816, .f32⟩
  | .hbm, ⟨47, _⟩ => ⟨S2816, .f32⟩
  | .hbm, ⟨48, _⟩ => ⟨S1x1x2816, .f32⟩
  | .hbm, ⟨49, _⟩ => ⟨S4x4096x2816, .f32⟩
  | .hbm, ⟨50, _⟩ => ⟨S4x4096x2816, .f32⟩
  | .hbm, ⟨51, _⟩ => ⟨S4x4096x2816, .f32⟩
  | .hbm, ⟨52, _⟩ => ⟨S1x1x2816, .f32⟩
  | .hbm, ⟨53, _⟩ => ⟨S4x4096x2816, .f32⟩
  | .hbm, ⟨54, _⟩ => ⟨S4x4096x2816, .f32⟩
  | .hbm, ⟨55, _⟩ => ⟨S4x4096x2816, .f32⟩
  | .hbm, ⟨56, _⟩ => ⟨S4x4096x2816, .f32⟩
  | .hbm, ⟨57, _⟩ => ⟨S_, .f32⟩
  | .hbm, ⟨58, _⟩ => ⟨S4x4096x2816, .f32⟩
  | .hbm, ⟨59, _⟩ => ⟨S4x4096x2816, .f32⟩
  | .hbm, ⟨60, _⟩ => ⟨S4x4096x2816, .f32⟩
  | .hbm, ⟨61, _⟩ => ⟨S_, .f32⟩
  | .hbm, ⟨62, _⟩ => ⟨S4x4096x2816, .f32⟩
  | .hbm, ⟨63, _⟩ => ⟨S4x4096x2816, .f32⟩
  | .hbm, ⟨64, _⟩ => ⟨S4x4096x2816, .f32⟩
  | .hbm, ⟨65, _⟩ => ⟨S_, .f32⟩
  | .hbm, ⟨66, _⟩ => ⟨S4x4096x2816, .f32⟩
  | .hbm, ⟨67, _⟩ => ⟨S4x4096x2816, .f32⟩
  | .hbm, ⟨68, _⟩ => ⟨S_, .f32⟩
  | .hbm, ⟨69, _⟩ => ⟨S4x4096x2816, .f32⟩
  | .hbm, ⟨70, _⟩ => ⟨S4x4096x2816, .f32⟩
  | .hbm, ⟨71, _⟩ => ⟨S4x4096x2816, .f32⟩
  | .hbm, ⟨72, _⟩ => ⟨S4x4096x2816, .f32⟩
  | .hbm, ⟨73, _⟩ => ⟨S4x4096x1024, .f32⟩
  | .hbm, ⟨74, _⟩ => ⟨S4x4096x1024, .f32⟩
  | .hbm, ⟨75, _⟩ => ⟨S_, .f32⟩
  | .hbm, ⟨76, _⟩ => ⟨S4x4096, .f32⟩
  | .hbm, ⟨77, _⟩ => ⟨S4x4096x1, .f32⟩
  | .hbm, ⟨78, _⟩ => ⟨S_, .f32⟩
  | .hbm, ⟨79, _⟩ => ⟨S4x4096x1, .f32⟩
  | .hbm, ⟨80, _⟩ => ⟨S4x4096x1, .f32⟩
  | .hbm, ⟨81, _⟩ => ⟨S_, .f32⟩
  | .hbm, ⟨82, _⟩ => ⟨S4x4096x1, .f32⟩
  | .hbm, ⟨83, _⟩ => ⟨S4x4096x1, .f32⟩
  | .hbm, ⟨84, _⟩ => ⟨S4x4096x1, .f32⟩
  | .hbm, ⟨85, _⟩ => ⟨S4x4096x1024, .f32⟩
  | .hbm, ⟨86, _⟩ => ⟨S4x4096x1024, .f32⟩
  | .hbm, ⟨87, _⟩ => ⟨S1x1x1024, .f32⟩
  | .hbm, ⟨88, _⟩ => ⟨S4x4096x1024, .f32⟩
  | .hbm, ⟨89, _⟩ => ⟨S4x4096x1024, .f32⟩
  | .hbm, ⟨90, _⟩ => ⟨S4x4096x1024, .f32⟩
  | .hbm, ⟨91, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_4 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_cst_9 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩

abbrev nD : Nat := 1
abbrev τ : Topo := Topo.v7x

variable {F : FTy → Type} [FloatOps F]
-- ==== GluKernel.lean ====
abbrev S4x4096x1024 : Shape := ⟨3, ![4, 4096, 1024]⟩
abbrev S1024 : Shape := ⟨1, ![1024]⟩
abbrev S1024x2048 : Shape := ⟨2, ![1024, 2048]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩

abbrev nBuf : Space → Nat
  | .hbm => 13
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x2048, .f32⟩
  | .hbm, ⟨6, _⟩ => ⟨S16384x1024, .f32⟩
  | .hbm, ⟨7, _⟩ => ⟨S16384x1024, .f32⟩
  | .hbm, ⟨8, _⟩ => ⟨S1024x2048, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x2048, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GluReferenceIdeal.lean ====
abbrev S4x4096x1024 : Shape := ⟨3, ![4, 4096, 1024]⟩
abbrev S1024 : Shape := ⟨1, ![1024]⟩
abbrev S1024x2048 : Shape := ⟨2, ![1024, 2048]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x64x16 : Shape := ⟨4, ![4, 4096, 64, 16]⟩
abbrev S64x16 : Shape := ⟨2, ![64, 16]⟩
abbrev S1x1x64x16 : Shape := ⟨4, ![1, 1, 64, 16]⟩
abbrev S4x4096x2048 : Shape := ⟨3, ![4, 4096, 2048]⟩
abbrev S16384x1024 : Shape := ⟨2, ![16384, 1024]⟩

abbrev nBuf : Space → Nat
  | .hbm => 77
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x2048, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S4x4096x64x16, .f32⟩
  | .hbm, ⟨23, _⟩ => ⟨S4x4096x64x16, .f32⟩
  | .hbm, ⟨24, _⟩ => ⟨S64x16, .f32⟩
  | .hbm, ⟨25, _⟩ => ⟨S1x1x64x16, .f32⟩
  | .hbm, ⟨26, _⟩ => ⟨S4x4096x64x16, .f32⟩
  | .hbm, ⟨27, _⟩ => ⟨S4x4096x64x16, .f32⟩
  | .hbm, ⟨28, _⟩ => ⟨S4x4096x64x16, .f32⟩
  | .hbm, ⟨29, _⟩ => ⟨S4x4096x64x16, .f32⟩
  | .hbm, ⟨30, _⟩ => ⟨S4x4096x64x16, .f32⟩
  | .hbm, ⟨31, _⟩ => ⟨S_, .f32⟩
  | .hbm, ⟨32, _⟩ => ⟨S4x4096x64x16, .f32⟩
  | .hbm, ⟨33, _⟩ => ⟨S4x4096x64x16, .f32⟩
  | .hbm, ⟨34, _⟩ => ⟨S4x4096x64x16, .f32⟩
  | .hbm, ⟨35, _⟩ => ⟨S_, .f32⟩
  | .hbm, ⟨36, _⟩ => ⟨S4x4096x64x16, .f32⟩
  | .hbm, ⟨37, _⟩ => ⟨S4x4096x64x16, .f32⟩
  | .hbm, ⟨38, _⟩ => ⟨S4x4096x64x16, .f32⟩
  | .hbm, ⟨39, _⟩ => ⟨S_, .f32⟩
  | .hbm, ⟨40, _⟩ => ⟨S4x4096x64x16, .f32⟩
  | .hbm, ⟨41, _⟩ => ⟨S4x4096x64x16, .f32⟩
  | .hbm, ⟨42, _⟩ => ⟨S_, .f32⟩
  | .hbm, ⟨43, _⟩ => ⟨S4x4096x64x16, .f32⟩
  | .hbm, ⟨44, _⟩ => ⟨S4x4096x64x16, .f32⟩
  | .hbm, ⟨45, _⟩ => ⟨S4x4096x64x16, .f32⟩
  | .hbm, ⟨46, _⟩ => ⟨S4x4096x1024, .f32⟩
  | .hbm, ⟨47, _⟩ => ⟨S4x4096x2048, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S_, .f32⟩
  | .hbm, ⟨53, _⟩ => ⟨S4x4096x1024, .f32⟩
  | .hbm, ⟨54, _⟩ => ⟨S4x4096x1024, .f32⟩
  | .hbm, ⟨55, _⟩ => ⟨S_, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S_, .f32⟩
  | .hbm, ⟨61, _⟩ => ⟨S4x4096, .f32⟩
  | .hbm, ⟨62, _⟩ => ⟨S4x4096x1, .f32⟩
  | .hbm, ⟨63, _⟩ => ⟨S_, .f32⟩
  | .hbm, ⟨64, _⟩ => ⟨S4x4096x1, .f32⟩
  | .hbm, ⟨65, _⟩ => ⟨S4x4096x1, .f32⟩
  | .hbm, ⟨66, _⟩ => ⟨S_, .f32⟩
  | .hbm, ⟨67, _⟩ => ⟨S4x4096x1, .f32⟩
  | .hbm, ⟨68, _⟩ => ⟨S4x4096x1, .f32⟩
  | .hbm, ⟨69, _⟩ => ⟨S4x4096x1, .f32⟩
  | .hbm, ⟨70, _⟩ => ⟨S4x4096x1024, .f32⟩
  | .hbm, ⟨71, _⟩ => ⟨S4x4096x1024, .f32⟩
  | .hbm, ⟨72, _⟩ => ⟨S1x1x1024, .f32⟩
  | .hbm, ⟨73, _⟩ => ⟨S4x4096x1024, .f32⟩
  | .hbm, ⟨74, _⟩ => ⟨S4x4096x1024, .f32⟩
  | .hbm, ⟨75, _⟩ => ⟨S4x4096x1024, .f32⟩
  | .hbm, ⟨76, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]
-- ==== OutKernel.lean ====
abbrev S4x4096x1024 : Shape := ⟨3, ![4, 4096, 1024]⟩
abbrev S4x4096x16x64 : Shape := ⟨4, ![4, 4096, 16, 64]⟩
abbrev S1024 : Shape := ⟨1, ![1024]⟩
abbrev S1024x1024 : Shape := ⟨2, ![1024, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S4x4096x16x64, .f32⟩
  | .hbm, ⟨2, _⟩ => ⟨S1024, .f32⟩
  | .hbm, ⟨3, _⟩ => ⟨S1024x1024, .f32⟩
  | .hbm, ⟨4, _⟩ => ⟨S16384x1024, .f32⟩
  | .hbm, ⟨5, _⟩ => ⟨S4x4096x16x64, .bf16⟩
  | .hbm, ⟨6, _⟩ => ⟨S16384x1024, .bf16⟩
  | .hbm, ⟨7, _⟩ => ⟨S1024x1024, .bf16⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutReferenceIdeal.lean ====
abbrev S4x4096x1024 : Shape := ⟨3, ![4, 4096, 1024]⟩
abbrev S4x4096x16x64 : Shape := ⟨4, ![4, 4096, 16, 64]⟩
abbrev S1024 : Shape := ⟨1, ![1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x16x64, .f32⟩
  | .hbm, ⟨2, _⟩ => ⟨S1024, .f32⟩
  | .hbm, ⟨3, _⟩ => ⟨S1024x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KvKernel.lean ====
abbrev S4x4096x1024 : Shape := ⟨3, ![4, 4096, 1024]⟩
abbrev S1024 : Shape := ⟨1, ![1024]⟩
abbrev S1024x1536 : Shape := ⟨2, ![1024, 1536]⟩
abbrev S512 : Shape := ⟨1, ![512]⟩
abbrev S_ : Shape := ⟨0, ![]⟩
abbrev S512x1 : Shape := ⟨2, ![512, 1]⟩
abbrev S1024x512 : Shape := ⟨2, ![1024, 512]⟩
abbrev S1024x1024 : Shape := ⟨2, ![1024, 1024]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S16384x1024 : Shape := ⟨2, ![16384, 1024]⟩
abbrev S128x4096 : Shape := ⟨2, ![128, 4096]⟩
abbrev S1x1024 : Shape := ⟨2, ![1, 1024]⟩
abbrev S4x512x4096 : Shape := ⟨3, ![4, 512, 4096]⟩
abbrev S16384x512 : Shape := ⟨2, ![16384, 512]⟩
abbrev S512x1024 : Shape := ⟨2, ![512, 1024]⟩
abbrev S128x512 : Shape := ⟨2, ![128, 512]⟩
abbrev S1x512x512 : Shape := ⟨3, ![1, 512, 512]⟩
abbrev S512x512 : Shape := ⟨2, ![512, 512]⟩
abbrev S512x1536 : Shape := ⟨2, ![512, 1536]⟩

abbrev nBuf : Space → Nat
  | .hbm => 86
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x1536, .f32⟩
  | .hbm, ⟨3, _⟩ => ⟨S512, .i32⟩
  | .hbm, ⟨4, _⟩ => ⟨S512, .i1⟩
  | .hbm, ⟨5, _⟩ => ⟨S512, .i32⟩
  | .hbm, ⟨6, _⟩ => ⟨S512, .i1⟩
  | .hbm, ⟨7, _⟩ => ⟨S512, .i32⟩
  | .hbm, ⟨8, _⟩ => ⟨S512, .i1⟩
  | .hbm, ⟨9, _⟩ => ⟨S512, .i32⟩
  | .hbm, ⟨10, _⟩ => ⟨S512, .i1⟩
  | .hbm, ⟨11, _⟩ => ⟨S512, .i32⟩
  | .hbm, ⟨12, _⟩ => ⟨S512, .i1⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S512, .i32⟩
  | .hbm, ⟨17, _⟩ => ⟨S512x1, .i32⟩
  | .hbm, ⟨18, _⟩ => ⟨S1024x512, .f32⟩
  | .hbm, ⟨19, _⟩ => ⟨S_, .i32⟩
  | .hbm, ⟨20, _⟩ => ⟨S512, .i32⟩
  | .hbm, ⟨21, _⟩ => ⟨S512, .i32⟩
  | .hbm, ⟨22, _⟩ => ⟨S512, .i32⟩
  | .hbm, ⟨23, _⟩ => ⟨S512x1, .i32⟩
  | .hbm, ⟨24, _⟩ => ⟨S1024x512, .f32⟩
  | .hbm, ⟨25, _⟩ => ⟨S1024x1024, .f32⟩
  | .hbm, ⟨26, _⟩ => ⟨S1024x1024, .f32⟩
  | .hbm, ⟨27, _⟩ => ⟨S1024x1024, .bf16⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S512, .i32⟩
  | .hbm, ⟨32, _⟩ => ⟨S512x1, .i32⟩
  | .hbm, ⟨33, _⟩ => ⟨S1024x512, .f32⟩
  | .hbm, ⟨34, _⟩ => ⟨S_, .i32⟩
  | .hbm, ⟨35, _⟩ => ⟨S512, .i32⟩
  | .hbm, ⟨36, _⟩ => ⟨S512, .i32⟩
  | .hbm, ⟨37, _⟩ => ⟨S512, .i32⟩
  | .hbm, ⟨38, _⟩ => ⟨S512x1, .i32⟩
  | .hbm, ⟨39, _⟩ => ⟨S1024x512, .f32⟩
  | .hbm, ⟨40, _⟩ => ⟨S_, .i32⟩
  | .hbm, ⟨41, _⟩ => ⟨S512, .i32⟩
  | .hbm, ⟨42, _⟩ => ⟨S512, .i32⟩
  | .hbm, ⟨43, _⟩ => ⟨S512, .i32⟩
  | .hbm, ⟨44, _⟩ => ⟨S512x1, .i32⟩
  | .hbm, ⟨45, _⟩ => ⟨S1024x512, .f32⟩
  | .hbm, ⟨46, _⟩ => ⟨S1024x1536, .f32⟩
  | .hbm, ⟨47, _⟩ => ⟨S1024x1536, .bf16⟩
  | .hbm, ⟨48, _⟩ => ⟨S4096, .i32⟩
  | .hbm, ⟨49, _⟩ => ⟨S8, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S4096, .f32⟩
  | .hbm, ⟨58, _⟩ => ⟨S4096x1, .f32⟩
  | .hbm, ⟨59, _⟩ => ⟨S1x8, .f32⟩
  | .hbm, ⟨60, _⟩ => ⟨S4096x8, .f32⟩
  | .hbm, ⟨61, _⟩ => ⟨S4096x8, .f32⟩
  | .hbm, ⟨62, _⟩ => ⟨S4096x8, .f32⟩
  | .hbm, ⟨63, _⟩ => ⟨S4096x8, .f32⟩
  | .hbm, ⟨64, _⟩ => ⟨S4096x8, .f32⟩
  | .hbm, ⟨65, _⟩ => ⟨S_, .f32⟩
  | .hbm, ⟨66, _⟩ => ⟨S4096x48, .f32⟩
  | .hbm, ⟨67, _⟩ => ⟨S4096x64, .f32⟩
  | .hbm, ⟨68, _⟩ => ⟨S4096x8, .f32⟩
  | .hbm, ⟨69, _⟩ => ⟨S_, .f32⟩
  | .hbm, ⟨70, _⟩ => ⟨S4096x48, .f32⟩
  | .hbm, ⟨71, _⟩ => ⟨S4096x64, .f32⟩
  | .hbm, ⟨72, _⟩ => ⟨S1x4096x1x64, .f32⟩
  | .hbm, ⟨73, _⟩ => ⟨S1x4096x2x64, .f32⟩
  | .hbm, ⟨74, _⟩ => ⟨S4096x128, .f32⟩
  | .hbm, ⟨75, _⟩ => ⟨S1x4096x1x64, .f32⟩
  | .hbm, ⟨76, _⟩ => ⟨S1x4096x2x64, .f32⟩
  | .hbm, ⟨77, _⟩ => ⟨S4096x128, .f32⟩
  | .hbm, ⟨78, _⟩ => ⟨S16384x1024, .f32⟩
  | .hbm, ⟨79, _⟩ => ⟨S128x4096, .f32⟩
  | .hbm, ⟨80, _⟩ => ⟨S128x4096, .f32⟩
  | .hbm, ⟨81, _⟩ => ⟨S1x1024, .f32⟩
  | .hbm, ⟨82, _⟩ => ⟨S4x512x4096, .bf16⟩
  | .hbm, ⟨83, _⟩ => ⟨S16384x512, .bf16⟩
  | .hbm, ⟨84, _⟩ => ⟨S16384x512, .bf16⟩
  | .hbm, ⟨85, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1536, .bf16⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S1x512x512, .bf16⟩
  | .local _ .vmem, ⟨10, _⟩ => ⟨S1x512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .f32⟩
  | .local _ .vmem, ⟨16, _⟩ => ⟨S512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_c_8 : Ref sig .tc := ⟨.hbm, 12, rfl⟩
abbrev main_c_9 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_10 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_11 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_12 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_13 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst : Ref sig .tc := ⟨.hbm, 51, rfl⟩
abbrev main_v33 : Ref sig .tc := ⟨.hbm, 52, rfl⟩
abbrev main_v34 : Ref sig .tc := ⟨.hbm, 53, rfl⟩
abbrev main_cst_14 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_15 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_16 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60_0 : Ref sig .tc := ⟨.hbm, 82, rfl⟩
abbrev main_v60_1 : Ref sig .tc := ⟨.hbm, 83, rfl⟩
abbrev main_v60_2 : Ref sig .tc := ⟨.hbm, 84, rfl⟩
abbrev main_v60_3 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KvReferenceIdeal.lean ====
abbrev S4x4096x1024 : Shape := ⟨3, ![4, 4096, 1024]⟩
abbrev S1024 : Shape := ⟨1, ![1024]⟩
abbrev S1024x1536 : Shape := ⟨2, ![1024, 1536]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x1536 : Shape := ⟨3, ![4, 4096, 1536]⟩
abbrev S4x4096x6x4x64 : Shape := ⟨5, ![4, 4096, 6, 4, 64]⟩
abbrev S4x4096x1x4x64 : Shape := ⟨5, ![4, 4096, 1, 4, 64]⟩
abbrev S4x4096x4x64 : Shape := ⟨4, ![4, 4096, 4, 64]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S4x4096x4x16 : Shape := ⟨4, ![4, 4096, 4, 16]⟩
abbrev S4x4096x4x8 : Shape := ⟨4, ![4, 4096, 4, 8]⟩
abbrev S1x4096x1x8 : Shape := ⟨4, ![1, 4096, 1, 8]⟩
abbrev S4x4096x4x48 : Shape := ⟨4, ![4, 4096, 4, 48]⟩
abbrev S4x4096x4x128 : Shape := ⟨4, ![4, 4096, 4, 128]⟩
abbrev S4x4096x512 : Shape := ⟨3, ![4, 4096, 512]⟩
abbrev S4x512x4096 : Shape := ⟨3, ![4, 512, 4096]⟩
abbrev S16384x512 : Shape := ⟨2, ![16384, 512]⟩

abbrev nBuf : Space → Nat
  | .hbm => 125
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x1536, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x1536, .f32⟩
  | .hbm, ⟨20, _⟩ => ⟨S4x4096x6x4x64, .f32⟩
  | .hbm, ⟨21, _⟩ => ⟨S4x4096x1x4x64, .f32⟩
  | .hbm, ⟨22, _⟩ => ⟨S4x4096x4x64, .f32⟩
  | .hbm, ⟨23, _⟩ => ⟨S4x4096x1x4x64, .f32⟩
  | .hbm, ⟨24, _⟩ => ⟨S4x4096x4x64, .f32⟩
  | .hbm, ⟨25, _⟩ => ⟨S4x4096x1x4x64, .f32⟩
  | .hbm, ⟨26, _⟩ => ⟨S4x4096x4x64, .f32⟩
  | .hbm, ⟨27, _⟩ => ⟨S4x4096x1x4x64, .f32⟩
  | .hbm, ⟨28, _⟩ => ⟨S4x4096x4x64, .f32⟩
  | .hbm, ⟨29, _⟩ => ⟨S4x4096x1x4x64, .f32⟩
  | .hbm, ⟨30, _⟩ => ⟨S4x4096x4x64, .f32⟩
  | .hbm, ⟨31, _⟩ => ⟨S4x4096x1x4x64, .f32⟩
  | .hbm, ⟨32, _⟩ => ⟨S4x4096x4x64, .f32⟩
  | .hbm, ⟨33, _⟩ => ⟨S4096, .i32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S4096, .f32⟩
  | .hbm, ⟨43, _⟩ => ⟨S4096x1, .f32⟩
  | .hbm, ⟨44, _⟩ => ⟨S1x8, .f32⟩
  | .hbm, ⟨45, _⟩ => ⟨S4096x8, .f32⟩
  | .hbm, ⟨46, _⟩ => ⟨S4096x8, .f32⟩
  | .hbm, ⟨47, _⟩ => ⟨S4096x8, .f32⟩
  | .hbm, ⟨48, _⟩ => ⟨S4096x8, .f32⟩
  | .hbm, ⟨49, _⟩ => ⟨S4096x1x8, .f32⟩
  | .hbm, ⟨50, _⟩ => ⟨S4096x8, .f32⟩
  | .hbm, ⟨51, _⟩ => ⟨S4096x1x8, .f32⟩
  | .hbm, ⟨52, _⟩ => ⟨S4x4096x4x16, .f32⟩
  | .hbm, ⟨53, _⟩ => ⟨S4x4096x4x8, .f32⟩
  | .hbm, ⟨54, _⟩ => ⟨S4x4096x4x8, .f32⟩
  | .hbm, ⟨55, _⟩ => ⟨S1x4096x1x8, .f32⟩
  | .hbm, ⟨56, _⟩ => ⟨S4x4096x4x8, .f32⟩
  | .hbm, ⟨57, _⟩ => ⟨S4x4096x4x8, .f32⟩
  | .hbm, ⟨58, _⟩ => ⟨S1x4096x1x8, .f32⟩
  | .hbm, ⟨59, _⟩ => ⟨S4x4096x4x8, .f32⟩
  | .hbm, ⟨60, _⟩ => ⟨S4x4096x4x8, .f32⟩
  | .hbm, ⟨61, _⟩ => ⟨S4x4096x4x8, .f32⟩
  | .hbm, ⟨62, _⟩ => ⟨S1x4096x1x8, .f32⟩
  | .hbm, ⟨63, _⟩ => ⟨S4x4096x4x8, .f32⟩
  | .hbm, ⟨64, _⟩ => ⟨S4x4096x4x8, .f32⟩
  | .hbm, ⟨65, _⟩ => ⟨S1x4096x1x8, .f32⟩
  | .hbm, ⟨66, _⟩ => ⟨S4x4096x4x8, .f32⟩
  | .hbm, ⟨67, _⟩ => ⟨S4x4096x4x8, .f32⟩
  | .hbm, ⟨68, _⟩ => ⟨S4x4096x4x8, .f32⟩
  | .hbm, ⟨69, _⟩ => ⟨S4x4096x4x16, .f32⟩
  | .hbm, ⟨70, _⟩ => ⟨S4x4096x4x48, .f32⟩
  | .hbm, ⟨71, _⟩ => ⟨S4x4096x4x64, .f32⟩
  | .hbm, ⟨72, _⟩ => ⟨S8, .f32⟩
  | .hbm, ⟨73, _⟩ => ⟨S8, .f32⟩
  | .hbm, ⟨74, _⟩ => ⟨S_, .f32⟩
  | .hbm, ⟨75, _⟩ => ⟨S8, .f32⟩
  | .hbm, ⟨76, _⟩ => ⟨S8, .f32⟩
  | .hbm, ⟨77, _⟩ => ⟨S_, .f32⟩
  | .hbm, ⟨78, _⟩ => ⟨S8, .f32⟩
  | .hbm, ⟨79, _⟩ => ⟨S8, .f32⟩
  | .hbm, ⟨80, _⟩ => ⟨S4096, .f32⟩
  | .hbm, ⟨81, _⟩ => ⟨S4096x1, .f32⟩
  | .hbm, ⟨82, _⟩ => ⟨S1x8, .f32⟩
  | .hbm, ⟨83, _⟩ => ⟨S4096x8, .f32⟩
  | .hbm, ⟨84, _⟩ => ⟨S4096x8, .f32⟩
  | .hbm, ⟨85, _⟩ => ⟨S4096x8, .f32⟩
  | .hbm, ⟨86, _⟩ => ⟨S4096x8, .f32⟩
  | .hbm, ⟨87, _⟩ => ⟨S4096x1x8, .f32⟩
  | .hbm, ⟨88, _⟩ => ⟨S4096x8, .f32⟩
  | .hbm, ⟨89, _⟩ => ⟨S4096x1x8, .f32⟩
  | .hbm, ⟨90, _⟩ => ⟨S4x4096x4x16, .f32⟩
  | .hbm, ⟨91, _⟩ => ⟨S4x4096x4x8, .f32⟩
  | .hbm, ⟨92, _⟩ => ⟨S4x4096x4x8, .f32⟩
  | .hbm, ⟨93, _⟩ => ⟨S1x4096x1x8, .f32⟩
  | .hbm, ⟨94, _⟩ => ⟨S4x4096x4x8, .f32⟩
  | .hbm, ⟨95, _⟩ => ⟨S4x4096x4x8, .f32⟩
  | .hbm, ⟨96, _⟩ => ⟨S1x4096x1x8, .f32⟩
  | .hbm, ⟨97, _⟩ => ⟨S4x4096x4x8, .f32⟩
  | .hbm, ⟨98, _⟩ => ⟨S4x4096x4x8, .f32⟩
  | .hbm, ⟨99, _⟩ => ⟨S4x4096x4x8, .f32⟩
  | .hbm, ⟨100, _⟩ => ⟨S1x4096x1x8, .f32⟩
  | .hbm, ⟨101, _⟩ => ⟨S4x4096x4x8, .f32⟩
  | .hbm, ⟨102, _⟩ => ⟨S4x4096x4x8, .f32⟩
  | .hbm, ⟨103, _⟩ => ⟨S1x4096x1x8, .f32⟩
  | .hbm, ⟨104, _⟩ => ⟨S4x4096x4x8, .f32⟩
  | .hbm, ⟨105, _⟩ => ⟨S4x4096x4x8, .f32⟩
  | .hbm, ⟨106, _⟩ => ⟨S4x4096x4x8, .f32⟩
  | .hbm, ⟨107, _⟩ => ⟨S4x4096x4x16, .f32⟩
  | .hbm, ⟨108, _⟩ => ⟨S4x4096x4x48, .f32⟩
  | .hbm, ⟨109, _⟩ => ⟨S4x4096x4x64, .f32⟩
  | .hbm, ⟨110, _⟩ => ⟨S4x4096x4x128, .f32⟩
  | .hbm, ⟨111, _⟩ => ⟨S4x4096x512, .f32⟩
  | .hbm, ⟨112, _⟩ => ⟨S4x512x4096, .f32⟩
  | .hbm, ⟨113, _⟩ => ⟨S4x4096x4x128, .f32⟩
  | .hbm, ⟨114, _⟩ => ⟨S4x4096x512, .f32⟩
  | .hbm, ⟨115, _⟩ => ⟨S16384x512, .f32⟩
  | .hbm, ⟨116, _⟩ => ⟨S4x4096x4x128, .f32⟩
  | .hbm, ⟨117, _⟩ => ⟨S4x4096x512, .f32⟩
  | .hbm, ⟨118, _⟩ => ⟨S16384x512, .f32⟩
  | .hbm, ⟨119, _⟩ => ⟨S4x4096x4x128, .f32⟩
  | .hbm, ⟨120, _⟩ => ⟨S4x4096x512, .f32⟩
  | .hbm, ⟨121, _⟩ => ⟨S16384x512, .f32⟩
  | .hbm, ⟨122, _⟩ => ⟨S4x512x4096, .bf16⟩
  | .hbm, ⟨123, _⟩ => ⟨S16384x512, .bf16⟩
  | .hbm, ⟨124, _⟩ => ⟨S16384x512, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_cst_4 : Ref sig .tc := ⟨.hbm, 74, rfl⟩
abbrev main_v66 : Ref sig .tc := ⟨.hbm, 75, rfl⟩
abbrev main_v67 : Ref sig .tc := ⟨.hbm, 76, rfl⟩
abbrev main_cst_5 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩

abbrev nD : Nat := 1
abbrev τ : Topo := Topo.v7x

variable {F : FTy → Type} [FloatOps F]
-- ==== CmpKernel.lean ====
abbrev S4x4096x4x64 : Shape := ⟨4, ![4, 4096, 4, 64]⟩
abbrev S32x64 : Shape := ⟨2, ![32, 64]⟩
abbrev S2048x128 : Shape := ⟨2, ![2048, 128]⟩
abbrev S128x64 : Shape := ⟨2, ![128, 64]⟩
abbrev S64 : Shape := ⟨1, ![64]⟩
abbrev S4x4096x4x128 : Shape := ⟨4, ![4, 4096, 4, 128]⟩
abbrev S2x16x64 : Shape := ⟨3, ![2, 16, 64]⟩
abbrev S2x16x1x64 : Shape := ⟨4, ![2, 16, 1, 64]⟩
abbrev S2x16x2x64 : Shape := ⟨4, ![2, 16, 2, 64]⟩
abbrev S2x2048 : Shape := ⟨2, ![2, 2048]⟩
abbrev S_ : Shape := ⟨0, ![]⟩
abbrev S2x16x64x128 : Shape := ⟨4, ![2, 16, 64, 128]⟩
abbrev S2x16x64x256 : Shape := ⟨4, ![2, 16, 64, 256]⟩
abbrev S2x16x1x64x256 : Shape := ⟨5, ![2, 16, 1, 64, 256]⟩
abbrev S2x16x2x64x256 : Shape := ⟨5, ![2, 16, 2, 64, 256]⟩
abbrev S2x2048x256 : Shape := ⟨3, ![2, 2048, 256]⟩
abbrev S128x128 : Shape := ⟨2, ![128, 128]⟩
abbrev S64x1 : Shape := ⟨2, ![64, 1]⟩
abbrev S1x128x128 : Shape := ⟨3, ![1, 128, 128]⟩
abbrev S2x128x128 : Shape := ⟨3, ![2, 128, 128]⟩
abbrev S256 : Shape := ⟨1, ![256]⟩
abbrev S8 : Shape := ⟨1, ![8]⟩
abbrev S256x1 : Shape := ⟨2, ![256, 1]⟩
abbrev S1x8 : Shape := ⟨2, ![1, 8]⟩
abbrev S256x8 : Shape := ⟨2, ![256, 8]⟩
abbrev S256x48 : Shape := ⟨2, ![256, 48]⟩
abbrev S256x64 : Shape := ⟨2, ![256, 64]⟩
abbrev S1x256x1x64 : Shape := ⟨4, ![1, 256, 1, 64]⟩
abbrev S256x128 : Shape := ⟨2, ![256, 128]⟩
abbrev S128x256 : Shape := ⟨2, ![128, 256]⟩
abbrev S4x4096x512 : Shape := ⟨3, ![4, 4096, 512]⟩
abbrev S4x4x128x256 : Shape := ⟨4, ![4, 4, 128, 256]⟩
abbrev S4x4x256x128 : Shape := ⟨4, ![4, 4, 256, 128]⟩
abbrev S1x4096x128 : Shape := ⟨3, ![1, 4096, 128]⟩
abbrev S1x1x128x256 : Shape := ⟨4, ![1, 1, 128, 256]⟩
abbrev S1x1x256x128 : Shape := ⟨4, ![1, 1, 256, 128]⟩
abbrev S1x256x128 : Shape := ⟨3, ![1, 256, 128]⟩
abbrev S256x2048 : Shape := ⟨2, ![256, 2048]⟩
abbrev S1x2048 : Shape := ⟨2, ![1, 2048]⟩
abbrev S1x2048x256 : Shape := ⟨3, ![1, 2048, 256]⟩
abbrev S2048x256 : Shape := ⟨2, ![2048, 256]⟩
abbrev S256x256 : Shape := ⟨2, ![256, 256]⟩

abbrev nBuf : Space → Nat
  | .hbm => 94
  | .vmem => 12
  | .smem => 0
  | _ => 0

abbrev bufTy : (tb : Table) → Fin (tcTables nBuf tb) → BufTy
  | .hbm, ⟨0, _⟩ => ⟨S4x4096x4x64, .f32⟩
  | .hbm, ⟨1, _⟩ => ⟨S4x4096x4x64, .f32⟩
  | .hbm, ⟨2, _⟩ => ⟨S32x64, .f32⟩
  | .hbm, ⟨3, _⟩ => ⟨S32x64, .f32⟩
  | .hbm, ⟨4, _⟩ => ⟨S2048x128, .f32⟩
  | .hbm, ⟨5, _⟩ => ⟨S128x64, .f32⟩
  | .hbm, ⟨6, _⟩ => ⟨S2048x128, .f32⟩
  | .hbm, ⟨7, _⟩ => ⟨S128x64, .f32⟩
  | .hbm, ⟨8, _⟩ => ⟨S64, .i32⟩
  | .hbm, ⟨9, _⟩ => ⟨S64, .i1⟩
  | .hbm, ⟨10, _⟩ => ⟨S4x4096x4x128, .f32⟩
  | .hbm, ⟨11, _⟩ => ⟨S2x16x64, .f32⟩
  | .hbm, ⟨12, _⟩ => ⟨S2x16x64, .f32⟩
  | .hbm, ⟨13, _⟩ => ⟨S2x16x1x64, .f32⟩
  | .hbm, ⟨14, _⟩ => ⟨S2x16x1x64, .f32⟩
  | .hbm, ⟨15, _⟩ => ⟨S2x16x2x64, .f32⟩
  | .hbm, ⟨16, _⟩ => ⟨S2x2048, .f32⟩
  | .hbm, ⟨17, _⟩ => ⟨S_, .f32⟩
  | .hbm, ⟨18, _⟩ => ⟨S2x16x64x128, .f32⟩
  | .hbm, ⟨19, _⟩ => ⟨S2x16x64x128, .f32⟩
  | .hbm, ⟨20, _⟩ => ⟨S2x16x64x256, .f32⟩
  | .hbm, ⟨21, _⟩ => ⟨S2x16x64x128, .f32⟩
  | .hbm, ⟨22, _⟩ => ⟨S2x16x64x256, .f32⟩
  | .hbm, ⟨23, _⟩ => ⟨S2x16x1x64x256, .f32⟩
  | .hbm, ⟨24, _⟩ => ⟨S2x16x1x64x256, .f32⟩
  | .hbm, ⟨25, _⟩ => ⟨S2x16x2x64x256, .f32⟩
  | .hbm, ⟨26, _⟩ => ⟨S2x2048x256, .f32⟩
  | .hbm, ⟨27, _⟩ => ⟨S2x2048x256, .bf16⟩
  | .hbm, ⟨28, _⟩ => ⟨S_, .f32⟩
  | .hbm, ⟨29, _⟩ => ⟨S128x64, .f32⟩
  | .hbm, ⟨30, _⟩ => ⟨S128x128, .f32⟩
  | .hbm, ⟨31, _⟩ => ⟨S128x128, .f32⟩
  | .hbm, ⟨32, _⟩ => ⟨S_, .i32⟩
  | .hbm, ⟨33, _⟩ => ⟨S64, .i32⟩
  | .hbm, ⟨34, _⟩ => ⟨S64, .i32⟩
  | .hbm, ⟨35, _⟩ => ⟨S64, .i32⟩
  | .hbm, ⟨36, _⟩ => ⟨S64x1, .i32⟩
  | .hbm, ⟨37, _⟩ => ⟨S128x64, .f32⟩
  | .hbm, ⟨38, _⟩ => ⟨S128x128, .f32⟩
  | .hbm, ⟨39, _⟩ => ⟨S128x128, .f32⟩
  | .hbm, ⟨40, _⟩ => ⟨S1x128x128, .f32⟩
  | .hbm, ⟨41, _⟩ => ⟨S1x128x128, .f32⟩
  | .hbm, ⟨42, _⟩ => ⟨S2x128x128, .f32⟩
  | .hbm, ⟨43, _⟩ => ⟨S2x128x128, .bf16⟩
  | .hbm, ⟨44, _⟩ => ⟨S128x128, .f32⟩
  | .hbm, ⟨45, _⟩ => ⟨S128x128, .bf16⟩
  | .hbm, ⟨46, _⟩ => ⟨S256, .i32⟩
  | .hbm, ⟨47, _⟩ => ⟨S_, .i32⟩
  | .hbm, ⟨48, _⟩ => ⟨S256, .i32⟩
  | .hbm, ⟨49, _⟩ => ⟨S256, .i32⟩
  | .hbm, ⟨50, _⟩ => ⟨S_, .i32⟩
  | .hbm, ⟨51, _⟩ => ⟨S256, .i32⟩
  | .hbm, ⟨52, _⟩ => ⟨S256, .i32⟩
  | .hbm, ⟨53, _⟩ => ⟨S_, .i32⟩
  | .hbm, ⟨54, _⟩ => ⟨S256, .i32⟩
  | .hbm, ⟨55, _⟩ => ⟨S256, .i32⟩
  | .hbm, ⟨56, _⟩ => ⟨S8, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S256, .f32⟩
  | .hbm, ⟨65, _⟩ => ⟨S256x1, .f32⟩
  | .hbm, ⟨66, _⟩ => ⟨S1x8, .f32⟩
  | .hbm, ⟨67, _⟩ => ⟨S256x8, .f32⟩
  | .hbm, ⟨68, _⟩ => ⟨S256x8, .f32⟩
  | .hbm, ⟨69, _⟩ => ⟨S256x8, .f32⟩
  | .hbm, ⟨70, _⟩ => ⟨S256x8, .f32⟩
  | .hbm, ⟨71, _⟩ => ⟨S256x8, .f32⟩
  | .hbm, ⟨72, _⟩ => ⟨S_, .f32⟩
  | .hbm, ⟨73, _⟩ => ⟨S256x48, .f32⟩
  | .hbm, ⟨74, _⟩ => ⟨S256x64, .f32⟩
  | .hbm, ⟨75, _⟩ => ⟨S256x8, .f32⟩
  | .hbm, ⟨76, _⟩ => ⟨S_, .f32⟩
  | .hbm, ⟨77, _⟩ => ⟨S256x48, .f32⟩
  | .hbm, ⟨78, _⟩ => ⟨S256x64, .f32⟩
  | .hbm, ⟨79, _⟩ => ⟨S1x256x1x64, .f32⟩
  | .hbm, ⟨80, _⟩ => ⟨S1x256x1x64, .f32⟩
  | .hbm, ⟨81, _⟩ => ⟨S256x64, .f32⟩
  | .hbm, ⟨82, _⟩ => ⟨S1x256x1x64, .f32⟩
  | .hbm, ⟨83, _⟩ => ⟨S1x256x1x64, .f32⟩
  | .hbm, ⟨84, _⟩ => ⟨S256x64, .f32⟩
  | .hbm, ⟨85, _⟩ => ⟨S_, .f32⟩
  | .hbm, ⟨86, _⟩ => ⟨S256x64, .f32⟩
  | .hbm, ⟨87, _⟩ => ⟨S256x128, .f32⟩
  | .hbm, ⟨88, _⟩ => ⟨S128x256, .f32⟩
  | .hbm, ⟨89, _⟩ => ⟨S256x128, .f32⟩
  | .hbm, ⟨90, _⟩ => ⟨S128x256, .f32⟩
  | .hbm, ⟨91, _⟩ => ⟨S4x4096x512, .f32⟩
  | .hbm, ⟨92, _⟩ => ⟨S4x4x128x256, .bf16⟩
  | .hbm, ⟨93, _⟩ => ⟨S4x4x256x128, .bf16⟩
  | .local _ .vmem, ⟨0, _⟩ => ⟨S1x4096x128, .f32⟩
  | .local _ .vmem, ⟨1, _⟩ => ⟨S1x4096x128, .f32⟩
  | .local _ .vmem, ⟨2, _⟩ => ⟨S2x2048, .f32⟩
  | .local _ .vmem, ⟨3, _⟩ => ⟨S2x2048x256, .bf16⟩
  | .local _ .vmem, ⟨4, _⟩ => ⟨S2x128x128, .bf16⟩
  | .local _ .vmem, ⟨5, _⟩ => ⟨S128x128, .bf16⟩
  | .local _ .vmem, ⟨6, _⟩ => ⟨S128x256, .f32⟩
  | .local _ .vmem, ⟨7, _⟩ => ⟨S128x256, .f32⟩
  | .local _ .vmem, ⟨8, _⟩ => ⟨S1x1x128x256, .bf16⟩
  | .local _ .vmem, ⟨9, _⟩ => ⟨S1x1x128x256, .bf16⟩
  | .local _ .vmem, ⟨10, _⟩ => ⟨S1x1x256x128, .bf16⟩
  | .local _ .vmem, ⟨11, _⟩ => ⟨S1x1x256x128, .bf16⟩
  | _, _ => ⟨S4x4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_3 : Ref sig .tc := ⟨.hbm, 47, rfl⟩
abbrev main_v34 : Ref sig .tc := ⟨.hbm, 48, rfl⟩
abbrev main_v35 : Ref sig .tc := ⟨.hbm, 49, rfl⟩
abbrev main_c_4 : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_10 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71_0 : Ref sig .tc := ⟨.hbm, 92, rfl⟩
abbrev main_v71_1 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== CmpReferenceIdeal.lean ====
abbrev S4x4096x4x64 : Shape := ⟨4, ![4, 4096, 4, 64]⟩
abbrev S32x64 : Shape := ⟨2, ![32, 64]⟩
abbrev S2048x128 : Shape := ⟨2, ![2048, 128]⟩
abbrev S128x64 : Shape := ⟨2, ![128, 64]⟩
abbrev S4x256x16x4x64 : Shape := ⟨5, ![4, 256, 16, 4, 64]⟩
abbrev S4x255x16x4x64 : Shape := ⟨5, ![4, 255, 16, 4, 64]⟩
abbrev S4x255x32x4x64 : Shape := ⟨5, ![4, 255, 32, 4, 64]⟩
abbrev S1x1x32x1x64 : Shape := ⟨5, ![1, 1, 32, 1, 64]⟩
abbrev S4x255x4x32x64 : Shape := ⟨5, ![4, 255, 4, 32, 64]⟩
abbrev S4x255x4x2048 : Shape := ⟨4, ![4, 255, 4, 2048]⟩
abbrev S4x255x4x128 : Shape := ⟨4, ![4, 255, 4, 128]⟩
abbrev S_ : Shape := ⟨0, ![]⟩
abbrev S4x255x4x64 : Shape := ⟨4, ![4, 255, 4, 64]⟩
abbrev S255 : Shape := ⟨1, ![255]⟩
abbrev S8 : Shape := ⟨1, ![8]⟩
abbrev S255x1 : Shape := ⟨2, ![255, 1]⟩
abbrev S1x8 : Shape := ⟨2, ![1, 8]⟩
abbrev S255x8 : Shape := ⟨2, ![255, 8]⟩
abbrev S255x1x8 : Shape := ⟨3, ![255, 1, 8]⟩
abbrev S4x255x4x16 : Shape := ⟨4, ![4, 255, 4, 16]⟩
abbrev S4x255x4x8 : Shape := ⟨4, ![4, 255, 4, 8]⟩
abbrev S1x255x1x8 : Shape := ⟨4, ![1, 255, 1, 8]⟩
abbrev S4x255x4x48 : Shape := ⟨4, ![4, 255, 4, 48]⟩
abbrev S4x4x64x255 : Shape := ⟨4, ![4, 4, 64, 255]⟩
abbrev S4x4x128x256 : Shape := ⟨4, ![4, 4, 128, 256]⟩
abbrev S4x4x255x128 : Shape := ⟨4, ![4, 4, 255, 128]⟩
abbrev S4x4x256x128 : Shape := ⟨4, ![4, 4, 256, 128]⟩

abbrev nBuf : Space → Nat
  | .hbm => 123
  | .vmem => 0
  | .smem => 0
  | _ => 0

abbrev bufTy : (tb : Table) → Fin (tcTables nBuf tb) → BufTy
  | .hbm, ⟨0, _⟩ => ⟨S4x4096x4x64, .f32⟩
  | .hbm, ⟨1, _⟩ => ⟨S4x4096x4x64, .f32⟩
  | .hbm, ⟨2, _⟩ => ⟨S32x64, .f32⟩
  | .hbm, ⟨3, _⟩ => ⟨S32x64, .f32⟩
  | .hbm, ⟨4, _⟩ => ⟨S2048x128, .f32⟩
  | .hbm, ⟨5, _⟩ => ⟨S128x64, .f32⟩
  | .hbm, ⟨6, _⟩ => ⟨S2048x128, .f32⟩
  | .hbm, ⟨7, _⟩ => ⟨S128x64, .f32⟩
  | .hbm, ⟨8, _⟩ => ⟨S4x256x16x4x64, .f32⟩
  | .hbm, ⟨9, _⟩ => ⟨S4x255x16x4x64, .f32⟩
  | .hbm, ⟨10, _⟩ => ⟨S4x255x16x4x64, .f32⟩
  | .hbm, ⟨11, _⟩ => ⟨S4x255x32x4x64, .f32⟩
  | .hbm, ⟨12, _⟩ => ⟨S1x1x32x1x64, .f32⟩
  | .hbm, ⟨13, _⟩ => ⟨S4x255x32x4x64, .f32⟩
  | .hbm, ⟨14, _⟩ => ⟨S4x255x32x4x64, .f32⟩
  | .hbm, ⟨15, _⟩ => ⟨S4x255x4x32x64, .f32⟩
  | .hbm, ⟨16, _⟩ => ⟨S4x255x4x2048, .f32⟩
  | .hbm, ⟨17, _⟩ => ⟨S4x255x4x128, .f32⟩
  | .hbm, ⟨18, _⟩ => ⟨S4x255x4x128, .f32⟩
  | .hbm, ⟨19, _⟩ => ⟨S4x255x4x128, .f32⟩
  | .hbm, ⟨20, _⟩ => ⟨S_, .f32⟩
  | .hbm, ⟨21, _⟩ => ⟨S4x255x4x128, .f32⟩
  | .hbm, ⟨22, _⟩ => ⟨S4x255x4x128, .f32⟩
  | .hbm, ⟨23, _⟩ => ⟨S4x255x4x128, .f32⟩
  | .hbm, ⟨24, _⟩ => ⟨S_, .f32⟩
  | .hbm, ⟨25, _⟩ => ⟨S4x255x4x128, .f32⟩
  | .hbm, ⟨26, _⟩ => ⟨S4x255x4x128, .f32⟩
  | .hbm, ⟨27, _⟩ => ⟨S4x255x4x128, .f32⟩
  | .hbm, ⟨28, _⟩ => ⟨S_, .f32⟩
  | .hbm, ⟨29, _⟩ => ⟨S4x255x4x128, .f32⟩
  | .hbm, ⟨30, _⟩ => ⟨S4x255x4x128, .f32⟩
  | .hbm, ⟨31, _⟩ => ⟨S_, .f32⟩
  | .hbm, ⟨32, _⟩ => ⟨S4x255x4x128, .f32⟩
  | .hbm, ⟨33, _⟩ => ⟨S4x255x4x128, .f32⟩
  | .hbm, ⟨34, _⟩ => ⟨S4x255x4x128, .f32⟩
  | .hbm, ⟨35, _⟩ => ⟨S4x255x4x64, .f32⟩
  | .hbm, ⟨36, _⟩ => ⟨S4x256x16x4x64, .f32⟩
  | .hbm, ⟨37, _⟩ => ⟨S4x255x16x4x64, .f32⟩
  | .hbm, ⟨38, _⟩ => ⟨S4x255x16x4x64, .f32⟩
  | .hbm, ⟨39, _⟩ => ⟨S4x255x32x4x64, .f32⟩
  | .hbm, ⟨40, _⟩ => ⟨S1x1x32x1x64, .f32⟩
  | .hbm, ⟨41, _⟩ => ⟨S4x255x32x4x64, .f32⟩
  | .hbm, ⟨42, _⟩ => ⟨S4x255x32x4x64, .f32⟩
  | .hbm, ⟨43, _⟩ => ⟨S4x255x4x32x64, .f32⟩
  | .hbm, ⟨44, _⟩ => ⟨S4x255x4x2048, .f32⟩
  | .hbm, ⟨45, _⟩ => ⟨S4x255x4x128, .f32⟩
  | .hbm, ⟨46, _⟩ => ⟨S4x255x4x128, .f32⟩
  | .hbm, ⟨47, _⟩ => ⟨S4x255x4x128, .f32⟩
  | .hbm, ⟨48, _⟩ => ⟨S_, .f32⟩
  | .hbm, ⟨49, _⟩ => ⟨S4x255x4x128, .f32⟩
  | .hbm, ⟨50, _⟩ => ⟨S4x255x4x128, .f32⟩
  | .hbm, ⟨51, _⟩ => ⟨S4x255x4x128, .f32⟩
  | .hbm, ⟨52, _⟩ => ⟨S_, .f32⟩
  | .hbm, ⟨53, _⟩ => ⟨S4x255x4x128, .f32⟩
  | .hbm, ⟨54, _⟩ => ⟨S4x255x4x128, .f32⟩
  | .hbm, ⟨55, _⟩ => ⟨S4x255x4x128, .f32⟩
  | .hbm, ⟨56, _⟩ => ⟨S_, .f32⟩
  | .hbm, ⟨57, _⟩ => ⟨S4x255x4x128, .f32⟩
  | .hbm, ⟨58, _⟩ => ⟨S4x255x4x128, .f32⟩
  | .hbm, ⟨59, _⟩ => ⟨S_, .f32⟩
  | .hbm, ⟨60, _⟩ => ⟨S4x255x4x128, .f32⟩
  | .hbm, ⟨61, _⟩ => ⟨S4x255x4x128, .f32⟩
  | .hbm, ⟨62, _⟩ => ⟨S4x255x4x128, .f32⟩
  | .hbm, ⟨63, _⟩ => ⟨S4x255x4x64, .f32⟩
  | .hbm, ⟨64, _⟩ => ⟨S255, .i32⟩
  | .hbm, ⟨65, _⟩ => ⟨S_, .i32⟩
  | .hbm, ⟨66, _⟩ => ⟨S255, .i32⟩
  | .hbm, ⟨67, _⟩ => ⟨S255, .i32⟩
  | .hbm, ⟨68, _⟩ => ⟨S_, .i32⟩
  | .hbm, ⟨69, _⟩ => ⟨S255, .i32⟩
  | .hbm, ⟨70, _⟩ => ⟨S255, .i32⟩
  | .hbm, ⟨71, _⟩ => ⟨S_, .i32⟩
  | .hbm, ⟨72, _⟩ => ⟨S255, .i32⟩
  | .hbm, ⟨73, _⟩ => ⟨S255, .i32⟩
  | .hbm, ⟨74, _⟩ => ⟨S8, .f32⟩
  | .hbm, ⟨75, _⟩ => ⟨S8, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S_, .f32⟩
  | .hbm, ⟨80, _⟩ => ⟨S8, .f32⟩
  | .hbm, ⟨81, _⟩ => ⟨S8, .f32⟩
  | .hbm, ⟨82, _⟩ => ⟨S255, .f32⟩
  | .hbm, ⟨83, _⟩ => ⟨S255x1, .f32⟩
  | .hbm, ⟨84, _⟩ => ⟨S1x8, .f32⟩
  | .hbm, ⟨85, _⟩ => ⟨S255x8, .f32⟩
  | .hbm, ⟨86, _⟩ => ⟨S255x8, .f32⟩
  | .hbm, ⟨87, _⟩ => ⟨S255x8, .f32⟩
  | .hbm, ⟨88, _⟩ => ⟨S255x8, .f32⟩
  | .hbm, ⟨89, _⟩ => ⟨S255x1x8, .f32⟩
  | .hbm, ⟨90, _⟩ => ⟨S255x8, .f32⟩
  | .hbm, ⟨91, _⟩ => ⟨S255x1x8, .f32⟩
  | .hbm, ⟨92, _⟩ => ⟨S4x255x4x16, .f32⟩
  | .hbm, ⟨93, _⟩ => ⟨S4x255x4x8, .f32⟩
  | .hbm, ⟨94, _⟩ => ⟨S4x255x4x8, .f32⟩
  | .hbm, ⟨95, _⟩ => ⟨S1x255x1x8, .f32⟩
  | .hbm, ⟨96, _⟩ => ⟨S4x255x4x8, .f32⟩
  | .hbm, ⟨97, _⟩ => ⟨S4x255x4x8, .f32⟩
  | .hbm, ⟨98, _⟩ => ⟨S1x255x1x8, .f32⟩
  | .hbm, ⟨99, _⟩ => ⟨S4x255x4x8, .f32⟩
  | .hbm, ⟨100, _⟩ => ⟨S4x255x4x8, .f32⟩
  | .hbm, ⟨101, _⟩ => ⟨S4x255x4x8, .f32⟩
  | .hbm, ⟨102, _⟩ => ⟨S1x255x1x8, .f32⟩
  | .hbm, ⟨103, _⟩ => ⟨S4x255x4x8, .f32⟩
  | .hbm, ⟨104, _⟩ => ⟨S4x255x4x8, .f32⟩
  | .hbm, ⟨105, _⟩ => ⟨S1x255x1x8, .f32⟩
  | .hbm, ⟨106, _⟩ => ⟨S4x255x4x8, .f32⟩
  | .hbm, ⟨107, _⟩ => ⟨S4x255x4x8, .f32⟩
  | .hbm, ⟨108, _⟩ => ⟨S4x255x4x8, .f32⟩
  | .hbm, ⟨109, _⟩ => ⟨S4x255x4x16, .f32⟩
  | .hbm, ⟨110, _⟩ => ⟨S4x255x4x48, .f32⟩
  | .hbm, ⟨111, _⟩ => ⟨S4x255x4x64, .f32⟩
  | .hbm, ⟨112, _⟩ => ⟨S4x4x64x255, .f32⟩
  | .hbm, ⟨113, _⟩ => ⟨S_, .i32⟩
  | .hbm, ⟨114, _⟩ => ⟨S_, .f32⟩
  | .hbm, ⟨115, _⟩ => ⟨S4x4x128x256, .f32⟩
  | .hbm, ⟨116, _⟩ => ⟨S4x255x4x128, .f32⟩
  | .hbm, ⟨117, _⟩ => ⟨S4x4x255x128, .f32⟩
  | .hbm, ⟨118, _⟩ => ⟨S_, .i32⟩
  | .hbm, ⟨119, _⟩ => ⟨S_, .f32⟩
  | .hbm, ⟨120, _⟩ => ⟨S4x4x256x128, .f32⟩
  | .hbm, ⟨121, _⟩ => ⟨S4x4x128x256, .bf16⟩
  | .hbm, ⟨122, _⟩ => ⟨S4x4x256x128, .bf16⟩
  | _, _ => ⟨S4x4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c : Ref sig .tc := ⟨.hbm, 65, rfl⟩
abbrev main_v49 : Ref sig .tc := ⟨.hbm, 66, rfl⟩
abbrev main_v50 : Ref sig .tc := ⟨.hbm, 67, rfl⟩
abbrev main_c_7 : Ref sig .tc := ⟨.hbm, 68, rfl⟩
abbrev main_v51 : Ref sig .tc := ⟨.hbm, 69, rfl⟩
abbrev main_v52 : Ref sig .tc := ⟨.hbm, 70, rfl⟩
abbrev main_c_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_c_11 : Ref sig .tc := ⟨.hbm, 113, rfl⟩
abbrev main_call0_v0 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_c_12 : Ref sig .tc := ⟨.hbm, 118, rfl⟩
abbrev main_call1_v0 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩

abbrev nD : Nat := 1
abbrev τ : Topo := Topo.v7x

variable {F : FTy → Type} [FloatOps F]
-- ==== Proof.Ffn.Math.lean ====
/-
  The feed-forward part of a layer as scalar mathematics over the extended reals: normalise the rows, project them to a
  gate and a value, convolve the gate over the last three rows of the sequence, activate, project back, normalise, add.
  Both programs are shown to compute `ffnRow`.
-/
module

public import Idealize.ShloMosaic.Lib.Pointwise

@[expose] public section

noncomputable section

namespace Cert.Ffn

open Idealize.ShloMosaic

/-- The rows of the four sequences, one after the other. -/
def rows (x : (⟨3, ![4, 4096, 1024]⟩ : Shape).Idx → EReal) (R : Fin 16384) (k : Fin 1024) : EReal :=
  x (ix3 ⟨R.val / 4096, by omega⟩ ⟨R.val % 4096, by omega⟩ k)

/-- RMS normalisation of the row `v`, scaled by `g`, at column `k`. -/
def rms (v g : Fin 1024 → EReal) (k : Fin 1024) : EReal :=
  v k * Ideal.rsqrt (Ideal.div (∑ l, v l * v l) (Ideal.ofBits .f32 0x44800000#32) + Ideal.ofBits .f32 0x358637BD#32) * g k

/-- The activation, in its tanh form. -/
def gelu (z : EReal) : EReal :=
  z * (Ideal.ofBits .f32 0x3F000000#32 * (1 + Ideal.tanh (Ideal.ofBits .f32 0x3F4C422A#32 *
    (z + Ideal.ofBits .f32 0x3D372713#32 * (z * (z * z))))))

/-- One hidden unit: the gate of the rows two back, one back and here, weighted by the three taps, plus the bias,
    activated, times the value. -/
def act (n2 n1 n0 wg wv : Fin 1024 → EReal) (c0 c1 c2 b : EReal) : EReal :=
  gelu (c0 * ∑ k, n2 k * wg k + c1 * ∑ k, n1 k * wg k + c2 * ∑ k, n0 k * wg k + b) * ∑ k, n0 k * wv k

/-- The normalised row `d` places before row `R`, and zero where that lies before the start of `R`'s sequence. -/
def back (X : Fin 16384 → Fin 1024 → EReal) (g : Fin 1024 → EReal) (d : ℕ) (R : Fin 16384) : Fin 1024 → EReal :=
  if R.val % 4096 < d then fun _ => 0 else rms (X ⟨R.val - d, by omega⟩) g

/-- The hidden unit `f` of row `R`. -/
def unit (X : Fin 16384 → Fin 1024 → EReal) (g : Fin 1024 → EReal) (w : Fin 1024 → Fin 5632 → EReal)
    (cw : Fin 3 → Fin 2816 → EReal) (cb : Fin 2816 → EReal) (R : Fin 16384) (f : Fin 2816) : EReal :=
  act (back X g 2 R) (back X g 1 R) (back X g 0 R) (fun k => w k ⟨f.val, by omega⟩) (fun k => w k ⟨2816 + f.val, by omega⟩)
    (cw 0 f) (cw 1 f) (cw 2 f) (cb f)

/-- Row `R`, column `l` of the result. -/
def ffnRow (X : Fin 16384 → Fin 1024 → EReal) (g gpost : Fin 1024 → EReal) (w : Fin 1024 → Fin 5632 → EReal)
    (cw : Fin 3 → Fin 2816 → EReal) (cb : Fin 2816 → EReal) (wo : Fin 2816 → Fin 1024 → EReal)
    (R : Fin 16384) (l : Fin 1024) : EReal :=
  X R l + rms (fun q => ∑ f : Fin 2816, unit X g w cw cb R f * wo f q) gpost l

/-- A sum over the hidden units is the sum over the first tile plus the sum over the second. -/
theorem sum_tiles (F : Fin 2816 → EReal) :
    ∑ f, F f = 0 + ∑ f : Fin 1408, F ⟨f.val, by omega⟩ + ∑ f : Fin 1408, F ⟨1408 + f.val, by omega⟩ := by
  rw [zero_add]
  exact Fin.sum_univ_two_halves 1408 1408 rfl F

end Cert.Ffn
-- ==== Proof.Ffn.Body.lean ====
module

public import proofs.«01_k».proof.Proof.Gen.FfnKernelIdeal.Value
public import proofs.«01_k».proof.Proof.Ffn.Math

@[expose] public section

set_option maxRecDepth 16384

noncomputable section

namespace Cert.Ffn

open Idealize.ShloMosaic Cert.FfnKernelIdeal Cert.FfnKernelIdeal.Gen

/-- The scratch's main rows: the tile's rows, normalised. -/
theorem pay4_apply (g : FVec Ideal S1x1024 .f32) (x : FVec Ideal S1024x1024 .f32) (r k : Fin 1024) :
    k0_pay4 (F := Ideal) g x (ix2 r k) = rms (fun l => x (ix2 r l)) (fun l => g (ix2 0 l)) k := by
  pointwise [k0_pay4, k0_pay3]
  rfl

/-- The scratch's halo rows: the sixteen rows before the tile, normalised and times `s`. -/
theorem pay8_apply (g : FVec Ideal S1x1024 .f32) (x : FVec Ideal S16x1024 .f32) (s : EReal) (r : Fin 16) (k : Fin 1024) :
    k0_pay8 (F := Ideal) (k0_pay3 g) s (k0_pay6 x) (k0_pay7 x) (Scalar.ofBits .f32 0x44800000#32) (ix2 r k)
      = rms (fun l => x (ix2 r l)) (fun l => g (ix2 0 l)) k * s := by
  pointwise [k0_pay8, k0_pay3, k0_pay6, k0_pay7]
  rfl

/-- The accumulator's reset. -/
theorem pay9_apply (i : S1024x1024.Idx) : (k0_pay9 (F := Ideal)) i = (0 : EReal) := by
  pointwise [k0_pay9]

/-- The halo's factor: zero on the first tile of a sequence, one elsewhere. -/
theorem keep_eq : ∀ i : Fin 16, k0_pay5 (F := Ideal) (BitVec.ofNat 32 i.val) = if i.val % 4 = 0 then (0 : EReal) else 1 := by
  intro i
  pointwise [k0_pay5]
  fin_cases i <;> rfl

/-- The value projection of the tile's rows. -/
theorem pay10_apply (v3 : FVec Ideal S1040x1024 .bf16) (v8 : FVec Ideal S1024x1408 .bf16) (r : Fin 1024) (f : Fin 1408) :
    k0_pay10 (F := Ideal) v3 v8 (ix2 r f) = ∑ k, v3 (ix2 ⟨16 + r.val, by omega⟩ k) * v8 (ix2 k f) := by
  pointwise [k0_pay10]

/-- The convolved gate of the tile's rows. -/
theorem pay11_apply (v3 : FVec Ideal S1040x1024 .bf16) (v4 : FVec Ideal S1024x1408 .bf16) (v11 : FVec Ideal S8x1408 .f32)
    (v26 : FVec Ideal S1x1408 .f32) (r : Fin 1024) (f : Fin 1408) :
    k0_pay11 (F := Ideal) v3 v4 v11 v26 (ix2 r f)
      = v11 (ix2 0 f) * ∑ k, v3 (ix2 ⟨14 + r.val, by omega⟩ k) * v4 (ix2 k f)
        + v11 (ix2 1 f) * ∑ k, v3 (ix2 ⟨15 + r.val, by omega⟩ k) * v4 (ix2 k f)
        + v11 (ix2 2 f) * ∑ k, v3 (ix2 ⟨16 + r.val, by omega⟩ k) * v4 (ix2 k f) + v26 (ix2 0 f) := by
  pointwise [k0_pay11]
  have e2 : (16 + r.val + 1040 - 2) % 1040 = 14 + r.val := by omega
  have e1 : (16 + r.val + 1040 - 1) % 1040 = 15 + r.val := by omega
  simp only [e1, e2]

/-- What one hidden tile adds to the accumulator `acc`. -/
theorem pay1_apply (v3 : FVec Ideal S1040x1024 .bf16) (wg wv : FVec Ideal S1024x1408 .bf16) (cw : FVec Ideal S8x1408 .f32)
    (cb : FVec Ideal S1x1408 .f32) (acc : FVec Ideal S1024x1024 .f32) (wo : FVec Ideal S1408x1024 .bf16) (r l : Fin 1024) :
    k0_pay1 (F := Ideal) (k0_pay10 v3 wv) (k0_pay11 v3 wg cw cb) (k0_pay12 v3 wg cw cb) acc wo (ix2 r l)
      = acc (ix2 r l) + ∑ f : Fin 1408,
          act (fun k => v3 (ix2 ⟨14 + r.val, by omega⟩ k)) (fun k => v3 (ix2 ⟨15 + r.val, by omega⟩ k))
            (fun k => v3 (ix2 ⟨16 + r.val, by omega⟩ k)) (fun k => wg (ix2 k f)) (fun k => wv (ix2 k f))
            (cw (ix2 0 f)) (cw (ix2 1 f)) (cw (ix2 2 f)) (cb (ix2 0 f)) * wo (ix2 f l) := by
  pointwise [k0_pay1, k0_pay12]
  congr 1
  refine Finset.sum_congr rfl fun f _ => ?_
  rw [pay10_apply, pay11_apply]
  rfl

/-- The result tile: the input rows plus the accumulator's rows, normalised. -/
theorem pay2_apply (x acc : FVec Ideal S1024x1024 .f32) (g : FVec Ideal S1x1024 .f32) (r l : Fin 1024) :
    k0_pay2 (F := Ideal) x acc g (ix2 r l)
      = x (ix2 r l) + rms (fun q => acc (ix2 r q)) (fun q => g (ix2 0 q)) l := by
  pointwise [k0_pay2]
  rfl

end Cert.Ffn
-- ==== Proof.Ffn.Cases.lean ====
/-
  What the kernel's body leaves in its two scratch buffers and its output block, as functions of the blocks it reads.
-/
module

public import proofs.«01_k».proof.Proof.Ffn.Body
public import proofs.«01_k».proof.Proof.Gen.FfnKernelIdeal.Value
public import Idealize.ShloMosaic.Lib.Tactic

@[expose] public section

set_option maxRecDepth 16384

noncomputable section

namespace Cert.Ffn

open Idealize.ShloMosaic Idealize.ShloMosaic.TcCoe Cert.FfnKernelIdeal Cert.FfnKernelIdeal.Gen

theorem hz : (![0, 0] : Fin 2 → Nat) = fun _ => 0 := funext fun a => by fin_cases a <;> rfl

/-- The scratch of normalised rows after a first point: sixteen halo rows times `s`, then the tile's rows. -/
def xn (g : FVec Ideal S1x1024 .f32) (s : EReal) (x0 : FVec Ideal S16x1024 .f32) (x1 : FVec Ideal S1024x1024 .f32) :
    FVec Ideal S1040x1024 .bf16 :=
  View.canon (Val := Elt Ideal) (s := S1040x1024) (e := .bf16)
    [⟨Rect.unit ![0, 0] ![16, 1024] inb_S1040x1024_S16x1024_0_0,
        k0_pay8 (F := Ideal) (k0_pay3 g) s (k0_pay6 x0) (k0_pay7 x0) (Scalar.ofBits .f32 0x44800000#32)⟩,
      ⟨Rect.unit ![16, 0] ![1024, 1024] inb_S1040x1024_S1024x1024_16_0, k0_pay4 (F := Ideal) g x1⟩]

/-- Its halo rows. -/
theorem xn_halo (g : FVec Ideal S1x1024 .f32) (s : EReal) (x0 : FVec Ideal S16x1024 .f32) (x1 : FVec Ideal S1024x1024 .f32)
    (q : Fin 1040) (r : Fin 16) (hq : q.val = r.val) (k : Fin 1024) :
    xn g s x0 x1 (ix2 q k) = rms (fun l => x0 (ix2 r l)) (fun l => g (ix2 0 l)) k * s := by
  rw [← pay8_apply]
  have e : (ix2 q k : S1040x1024.Idx) = (Rect.unit ![0, 0] ![16, 1024] inb_S1040x1024_S16x1024_0_0).emb (ix2 r k) := by
    funext a
    apply Fin.ext
    match a with
    | ⟨0, _⟩ => show q.val = 0 + 1 * r.val; omega
    | ⟨1, _⟩ => show k.val = 0 + 1 * k.val; omega
  rw [e]
  exact View.canon_cons_emb (Val := Elt Ideal) _ _ _ _

/-- Its main rows. -/
theorem xn_main (g : FVec Ideal S1x1024 .f32) (s : EReal) (x0 : FVec Ideal S16x1024 .f32) (x1 : FVec Ideal S1024x1024 .f32)
    (q : Fin 1040) (r : Fin 1024) (hq : q.val = 16 + r.val) (k : Fin 1024) :
    xn g s x0 x1 (ix2 q k) = rms (fun l => x1 (ix2 r l)) (fun l => g (ix2 0 l)) k := by
  rw [← pay4_apply]
  unfold xn
  rw [View.canon_cons_of_not_mem]
  · have e : (ix2 q k : S1040x1024.Idx) = (Rect.unit ![16, 0] ![1024, 1024] inb_S1040x1024_S1024x1024_16_0).emb (ix2 r k) := by
      funext a
      apply Fin.ext
      match a with
      | ⟨0, _⟩ => show q.val = 16 + 1 * r.val; omega
      | ⟨1, _⟩ => show k.val = 0 + 1 * k.val; omega
    rw [e]
    exact View.canon_cons_emb (Val := Elt Ideal) _ _ _ _
  · rw [Rect.mem_set_unit]
    intro h
    have h0 : q.val < 0 + 16 := (h (0 : Fin 2)).2
    omega

/-- A load of a whole buffer after some stores reads what the stores leave. -/
theorem readCov_whole {sig : RefSig} {κ : Kind} {sp : Space} {S : Shape} {e : EltTy} {off : Fin S.rank → Nat} (h : off = fun _ => 0)
    (inb : ∀ a, off a + S.size a ≤ S.size a) (v : View sig κ sp S e) (L : List (View.Piece (Elt Ideal) S e)) :
    v.readCov L (Rect.unit off S.size inb).toLoadRect = View.canon L := by
  rw [View.readCov_eq_canon']
  exact View.ld_unit_zero h inb (View.canon L)

variable (c : Dev nD) (i : grid0.Coords)
  (a2 : Memref sig .tc .vmem S16x1024 .f32) (h2 : a2.IsWhole)
  (a3 : Memref sig .tc .vmem S1024x1024 .f32) (h3 : a3.IsWhole)
  (a4 : Memref sig .tc .vmem S1x1024 .f32) (h4 : a4.IsWhole)
  (a5 : Memref sig .tc .vmem S1024x1408 .bf16) (h5 : a5.IsWhole)
  (a6 : Memref sig .tc .vmem S1024x1408 .bf16) (h6 : a6.IsWhole)
  (a7 : Memref sig .tc .vmem S8x1408 .f32) (h7 : a7.IsWhole)
  (a8 : Memref sig .tc .vmem S1x1408 .f32) (h8 : a8.IsWhole)
  (a9 : Memref sig .tc .vmem S1408x1024 .bf16) (h9 : a9.IsWhole)
  (a10 : Memref sig .tc .vmem S1x1024 .f32) (h10 : a10.IsWhole)
  (a11 : Memref sig .tc .vmem S1024x1024 .f32) (h11 : a11.IsWhole)
  (a12 : Memref sig .tc .vmem S1040x1024 .bf16) (h12 : a12.IsWhole)
  (a13 : Memref sig .tc .vmem S1024x1024 .f32) (h13 : a13.IsWhole)

variable (x0 : FVec Ideal S16x1024 .f32) (x1 : FVec Ideal S1024x1024 .f32) (x2 : FVec Ideal S1x1024 .f32) (x3 : FVec Ideal S1024x1408 .bf16) (x4 : FVec Ideal S1024x1408 .bf16) (x5 : FVec Ideal S8x1408 .f32) (x6 : FVec Ideal S1x1408 .f32) (x7 : FVec Ideal S1408x1024 .bf16) (x8 : FVec Ideal S1x1024 .f32)
variable (xs0 : FVec Ideal S1040x1024 .bf16) (xs1 : FVec Ideal S1024x1024 .f32)

/-- The second hidden tile adds its part to the accumulator. -/
theorem acc_second (hc0 : ¬cond0_0 i) (hc1 : cond0_1 i) :
    sout0_B_1 (F := Ideal) c i a2 h2 a3 h3 a4 h4 a5 h5 a6 h6 a7 h7 a8 h8 a9 h9 a10 h10 a11 h11 a12 h12 a13 h13 hc0 hc1
      x0 x1 x2 x3 x4 x5 x6 x7 x8 xs0 xs1
      = k0_pay1 (F := Ideal) (k0_pay10 xs0 x4) (k0_pay11 xs0 x3 x5 x6) (k0_pay12 xs0 x3 x5 x6) xs1 x7 := by
  unfold sout0_B_1
  rw [View.read_writes_junk_eq_canon]
  unfold kernelRun0_B
  dsimp only
  sl_unfold_words
  rw [View.canon_unit_zero hz]
  simp only [View.readAt_eq_ld, h5.read_unread, h6.read_unread, h7.read_unread, h8.read_unread, h9.read_unread,
    h12.read_unread, h13.read_unread, View.ld_unit_zero (S := S1040x1024) hz, View.ld_unit_zero (S := S1024x1408) hz,
    View.ld_unit_zero (S := S8x1408) hz, View.ld_unit_zero (S := S1x1408) hz, View.ld_unit_zero (S := S1408x1024) hz,
    View.ld_unit_zero (S := S1024x1024) hz]

/-- The output block: the input rows plus the finished accumulator's rows, normalised. -/
theorem out_second (hc0 : ¬cond0_0 i) (hc1 : cond0_1 i) :
    out0_B_9 (F := Ideal) c i a2 h2 a3 h3 a4 h4 a5 h5 a6 h6 a7 h7 a8 h8 a9 h9 a10 h10 a11 h11 a12 h12 a13 h13 hc0 hc1
      x0 x1 x2 x3 x4 x5 x6 x7 x8 xs0 xs1
      = k0_pay2 (F := Ideal) x1
          (k0_pay1 (F := Ideal) (k0_pay10 xs0 x4) (k0_pay11 xs0 x3 x5 x6) (k0_pay12 xs0 x3 x5 x6) xs1 x7) x8 := by
  unfold out0_B_9
  rw [View.read_writes_junk_eq_canon]
  unfold kernelRun0_B
  dsimp only
  sl_unfold_words
  rw [View.canon_unit_zero hz, readCov_whole (S := S1024x1024) hz, View.canon_unit_zero hz]
  simp only [View.readAt_eq_ld, h2.read_unread, h3.read_unread, h4.read_unread, h5.read_unread, h6.read_unread, h7.read_unread, h8.read_unread, h9.read_unread, h10.read_unread, h11.read_unread, h12.read_unread, h13.read_unread,
    View.ld_unit_zero (S := S1040x1024) hz, View.ld_unit_zero (S := S1024x1408) hz,
    View.ld_unit_zero (S := S8x1408) hz, View.ld_unit_zero (S := S1x1408) hz, View.ld_unit_zero (S := S1408x1024) hz,
    View.ld_unit_zero (S := S1024x1024) hz, View.ld_unit_zero (S := S1x1024) hz]

/-- The scratch of normalised rows after the first hidden tile. -/
theorem xn_first (hc0 : cond0_0 i) (hc1 : ¬cond0_1 i) :
    sout0_A_0 (F := Ideal) c i a2 h2 a3 h3 a4 h4 a5 h5 a6 h6 a7 h7 a8 h8 a9 h9 a10 h10 a11 h11 a12 h12 a13 h13 hc0 hc1
      x0 x1 x2 x3 x4 x5 x6 x7 x8
      = xn x2 (k0_pay5 (F := Ideal) (BitVec.ofNat 32 (i 0).val)) x0 x1 := by
  unfold sout0_A_0
  rw [View.read_writes_junk_eq_canon]
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread,
    View.ld_unit_zero (S := S1024x1024) hz, View.ld_unit_zero (S := S16x1024) hz, View.ld_unit_zero (S := S1x1024) hz]
  rfl

/-- The accumulator after the first hidden tile. -/
theorem acc_first (hc0 : cond0_0 i) (hc1 : ¬cond0_1 i) :
    sout0_A_1 (F := Ideal) c i a2 h2 a3 h3 a4 h4 a5 h5 a6 h6 a7 h7 a8 h8 a9 h9 a10 h10 a11 h11 a12 h12 a13 h13 hc0 hc1
      x0 x1 x2 x3 x4 x5 x6 x7 x8
      = k0_pay1 (F := Ideal) (k0_pay10 (xn x2 (k0_pay5 (F := Ideal) (BitVec.ofNat 32 (i 0).val)) x0 x1) x4)
          (k0_pay11 (xn x2 (k0_pay5 (F := Ideal) (BitVec.ofNat 32 (i 0).val)) x0 x1) x3 x5 x6)
          (k0_pay12 (xn x2 (k0_pay5 (F := Ideal) (BitVec.ofNat 32 (i 0).val)) x0 x1) x3 x5 x6) (k0_pay9 (F := Ideal)) x7 := by
  unfold sout0_A_1
  rw [View.read_writes_junk_eq_canon]
  unfold kernelRun0_A
  dsimp only
  sl_unfold_words
  rw [View.canon_cons_unit_zero (S := S1024x1024) hz, readCov_whole (S := S1024x1024) hz, View.canon_unit_zero hz,
    readCov_whole (S := S1040x1024) hz]
  simp only [View.readAt_eq_ld, h2.read_unread, h3.read_unread, h4.read_unread, h5.read_unread, h6.read_unread, h7.read_unread, h8.read_unread, h9.read_unread, h10.read_unread, h11.read_unread, h12.read_unread, h13.read_unread,
    View.ld_unit_zero (S := S1040x1024) hz, View.ld_unit_zero (S := S1024x1408) hz,
    View.ld_unit_zero (S := S8x1408) hz, View.ld_unit_zero (S := S1x1408) hz, View.ld_unit_zero (S := S1408x1024) hz,
    View.ld_unit_zero (S := S1024x1024) hz, View.ld_unit_zero (S := S1x1024) hz, View.ld_unit_zero (S := S16x1024) hz]
  rfl

end Cert.Ffn
-- ==== Proof.Ffn.Blocks.lean ====
/-
  The arrays the kernel is given, prepared from the arguments, and the blocks of them it reads at each grid point.
-/
module

public import proofs.«01_k».proof.Proof.Ffn.Math
public import proofs.«01_k».proof.Proof.Gen.FfnKernelIdeal.Value
public import Idealize.ShloMosaic.Lib.StableHlo.ReadAt
public import Idealize.ShloMosaic.Lib.Routing.OpsSet
public import Idealize.ShloMosaic.Lib.Routing.OpsPair
public import Idealize.ShloMosaic.Lib.Tactic

@[expose] public section

set_option maxRecDepth 16384

noncomputable section

namespace Cert.Ffn

open Idealize.ShloMosaic Idealize.ShloMosaic.TcCoe Cert.FfnKernelIdeal Cert.FfnKernelIdeal.Gen

variable (m : (ℓ : Loc nD τ sig) → Buf (Elt Ideal) ℓ) (c : Dev nD)

/-! ## The prepared arrays -/

/-- The input rows, all sequences one after the other. -/
theorem arr_x (R : Fin 16384) (k : Fin 1024) : (V m c main_v0 : FVec Ideal S16384x1024 .f32) (ix2 R k)
    = rows (m (c.tc.loc main_arg0)) R k := by
  unfold V rows
  after_reads_at

theorem arr_gpre (k : Fin 1024) : (V m c main_v5 : FVec Ideal S1x1024 .f32) (ix2 0 k)
    = (m (c.tc.loc main_arg1) : FVec Ideal S1024 .f32) (ix1 k) := by
  unfold V
  after_reads_at

theorem arr_win (k : Fin 1024) (f : Fin 5632) : (V m c main_v4 : FVec Ideal S1024x5632 .bf16) (ix2 k f)
    = (m (c.tc.loc main_arg3) : FVec Ideal S1024x5632 .f32) (ix2 k f) := by
  unfold V
  after_reads_at

theorem arr_cb (f : Fin 2816) : (V m c main_v6 : FVec Ideal S1x2816 .f32) (ix2 0 f)
    = (m (c.tc.loc main_arg5) : FVec Ideal S2816 .f32) (ix1 f) := by
  unfold V
  after_reads_at

theorem arr_wout (f : Fin 2816) (l : Fin 1024) : (V m c main_v7 : FVec Ideal S2816x1024 .bf16) (ix2 f l)
    = (m (c.tc.loc main_arg6) : FVec Ideal S2816x1024 .f32) (ix2 f l) := by
  unfold V
  after_reads_at

theorem arr_gpost (k : Fin 1024) : (V m c main_v8 : FVec Ideal S1x1024 .f32) (ix2 0 k)
    = (m (c.tc.loc main_arg2) : FVec Ideal S1024 .f32) (ix1 k) := by
  unfold V
  after_reads_at

/-- Update `(a, f)` of the taps lands at `(a, f)` of the table: the one index word is zero. -/
theorem lands (k : S3x2816.Idx) (a : Fin 8) (f : Fin 2816) :
    scatter_S8x2816_S1_S3x2816_01_n_0_0.resultIdx? k (broadcastInDim S1 ![] bcast_S_S1 (constantI S_ 32 0#32)) = some (ix2 a f)
      ↔ (k 0).val = a.val ∧ (k 1).val = f.val := by
  have s0 : scatter_S8x2816_S1_S3x2816_01_n_0_0.start k (broadcastInDim S1 ![] bcast_S_S1 (constantI S_ 32 0#32)) 0 = 0 := by
    unfold ScatterDims.start
    split <;> rfl
  have s1 : scatter_S8x2816_S1_S3x2816_01_n_0_0.start k (broadcastInDim S1 ![] bcast_S_S1 (constantI S_ 32 0#32)) 1 = 0 := by
    unfold ScatterDims.start
    split <;> rfl
  have w0 : scatter_S8x2816_S1_S3x2816_01_n_0_0.window k 0 = (k 0).val := by
    unfold ScatterDims.window
    rw [dif_pos (by decide)]
    rfl
  have w1 : scatter_S8x2816_S1_S3x2816_01_n_0_0.window k 1 = (k 1).val := by
    unfold ScatterDims.window
    rw [dif_pos (by decide)]
    rfl
  refine (Routing.resultIdx?_ix2 (R := 8) (C := 2816) scatter_S8x2816_S1_S3x2816_01_n_0_0 k _ a f).trans ?_
  rw [s0, s1, w0, w1]
  omega

/-- The three taps are the first three rows of a table of eight. -/
theorem arr_cw (a : Fin 3) (f : Fin 2816) : (V m c main_v3 : FVec Ideal S8x2816 .f32) (ix2 ⟨a.val, by omega⟩ f)
    = (m (c.tc.loc main_arg4) : FVec Ideal S3x2816 .f32) (ix2 a f) := by
  unfold V
  after_reads_at
  refine Routing.scatter_set_hit _ _ _ _ _ _ (fun k hk => ?_) (ix2 a f) ((lands _ _ _).2 ⟨rfl, rfl⟩)
  obtain ⟨h0, h1⟩ := (lands _ _ _).1 hk
  have e : k = (ix2 a f : S3x2816.Idx) := by
    funext x
    apply Fin.ext
    match x with
    | ⟨0, _⟩ => exact h0
    | ⟨1, _⟩ => exact h1
  rw [e]

/-! ## Their blocks -/

theorem idx0 : ∀ t : Fin cfg0.N, win0_0.index t 0 = 64 * (t.val / 2) - 1 ∧ win0_0.index t 1 = 0 :=
  (by decide +kernel : ∀ t : Fin grid0.N, _)

theorem blk0 (t : Fin cfg0.N) (r : Fin 16) (k : Fin 1024) : (iblk m c 0 t : FVec Ideal S16x1024 .f32) (ix2 r k)
    = (V m c main_v0 : FVec Ideal S16384x1024 .f32) (ix2 ⟨(64 * (t.val / 2) - 1) * 16 + r.val, by have := lt_of_lt_of_eq t.isLt N_0; omega⟩ k) := by
  unfold iblk
  rw [View.read_apply]
  show (V m c main_v0 : FVec Ideal S16384x1024 .f32) _ = _
  congr 1
  funext a
  apply Fin.ext
  match a with
  | ⟨0, _⟩ => show win0_0.index t 0 * 16 + 1 * r.val = (64 * (t.val / 2) - 1) * 16 + r.val; rw [(idx0 t).1]; omega
  | ⟨1, _⟩ => show win0_0.index t 1 * 1024 + 1 * k.val = k.val; rw [(idx0 t).2]; omega

theorem idx1 : ∀ t : Fin cfg0.N, win0_1.index t 0 = t.val / 2 ∧ win0_1.index t 1 = 0 :=
  (by decide +kernel : ∀ t : Fin grid0.N, _)

theorem blk1 (t : Fin cfg0.N) (r : Fin 1024) (k : Fin 1024) : (iblk m c 1 t : FVec Ideal S1024x1024 .f32) (ix2 r k)
    = (V m c main_v0 : FVec Ideal S16384x1024 .f32) (ix2 ⟨(t.val / 2) * 1024 + r.val, by have := lt_of_lt_of_eq t.isLt N_0; omega⟩ k) := by
  unfold iblk
  rw [View.read_apply]
  show (V m c main_v0 : FVec Ideal S16384x1024 .f32) _ = _
  congr 1
  funext a
  apply Fin.ext
  match a with
  | ⟨0, _⟩ => show win0_1.index t 0 * 1024 + 1 * r.val = (t.val / 2) * 1024 + r.val; rw [(idx1 t).1]; omega
  | ⟨1, _⟩ => show win0_1.index t 1 * 1024 + 1 * k.val = k.val; rw [(idx1 t).2]; omega

theorem idx2 : ∀ t : Fin cfg0.N, win0_2.index t 0 = 0 ∧ win0_2.index t 1 = 0 :=
  (by decide +kernel : ∀ t : Fin grid0.N, _)

theorem blk2 (t : Fin cfg0.N) (r : Fin 1) (k : Fin 1024) : (iblk m c 2 t : FVec Ideal S1x1024 .f32) (ix2 r k)
    = (V m c main_v5 : FVec Ideal S1x1024 .f32) (ix2 r k) := by
  unfold iblk
  rw [View.read_apply]
  show (V m c main_v5 : FVec Ideal S1x1024 .f32) _ = _
  congr 1
  funext a
  apply Fin.ext
  match a with
  | ⟨0, _⟩ => show win0_2.index t 0 * 1 + 1 * r.val = r.val; rw [(idx2 t).1]; omega
  | ⟨1, _⟩ => show win0_2.index t 1 * 1024 + 1 * k.val = k.val; rw [(idx2 t).2]; omega

theorem idx3 : ∀ t : Fin cfg0.N, win0_3.index t 0 = 0 ∧ win0_3.index t 1 = t.val % 2 :=
  (by decide +kernel : ∀ t : Fin grid0.N, _)

theorem blk3 (t : Fin cfg0.N) (r : Fin 1024) (k : Fin 1408) : (iblk m c 3 t : FVec Ideal S1024x1408 .bf16) (ix2 r k)
    = (V m c main_v4 : FVec Ideal S1024x5632 .bf16) (ix2 r ⟨(t.val % 2) * 1408 + k.val, by have := lt_of_lt_of_eq t.isLt N_0; omega⟩) := by
  unfold iblk
  rw [View.read_apply]
  show (V m c main_v4 : FVec Ideal S1024x5632 .bf16) _ = _
  congr 1
  funext a
  apply Fin.ext
  match a with
  | ⟨0, _⟩ => show win0_3.index t 0 * 1024 + 1 * r.val = r.val; rw [(idx3 t).1]; omega
  | ⟨1, _⟩ => show win0_3.index t 1 * 1408 + 1 * k.val = (t.val % 2) * 1408 + k.val; rw [(idx3 t).2]; omega

theorem idx4 : ∀ t : Fin cfg0.N, win0_4.index t 0 = 0 ∧ win0_4.index t 1 = 2 + t.val % 2 :=
  (by decide +kernel : ∀ t : Fin grid0.N, _)

theorem blk4 (t : Fin cfg0.N) (r : Fin 1024) (k : Fin 1408) : (iblk m c 4 t : FVec Ideal S1024x1408 .bf16) (ix2 r k)
    = (V m c main_v4 : FVec Ideal S1024x5632 .bf16) (ix2 r ⟨(2 + t.val % 2) * 1408 + k.val, by have := lt_of_lt_of_eq t.isLt N_0; omega⟩) := by
  unfold iblk
  rw [View.read_apply]
  show (V m c main_v4 : FVec Ideal S1024x5632 .bf16) _ = _
  congr 1
  funext a
  apply Fin.ext
  match a with
  | ⟨0, _⟩ => show win0_4.index t 0 * 1024 + 1 * r.val = r.val; rw [(idx4 t).1]; omega
  | ⟨1, _⟩ => show win0_4.index t 1 * 1408 + 1 * k.val = (2 + t.val % 2) * 1408 + k.val; rw [(idx4 t).2]; omega

theorem idx5 : ∀ t : Fin cfg0.N, win0_5.index t 0 = 0 ∧ win0_5.index t 1 = t.val % 2 :=
  (by decide +kernel : ∀ t : Fin grid0.N, _)

theorem blk5 (t : Fin cfg0.N) (r : Fin 8) (k : Fin 1408) : (iblk m c 5 t : FVec Ideal S8x1408 .f32) (ix2 r k)
    = (V m c main_v3 : FVec Ideal S8x2816 .f32) (ix2 r ⟨(t.val % 2) * 1408 + k.val, by have := lt_of_lt_of_eq t.isLt N_0; omega⟩) := by
  unfold iblk
  rw [View.read_apply]
  show (V m c main_v3 : FVec Ideal S8x2816 .f32) _ = _
  congr 1
  funext a
  apply Fin.ext
  match a with
  | ⟨0, _⟩ => show win0_5.index t 0 * 8 + 1 * r.val = r.val; rw [(idx5 t).1]; omega
  | ⟨1, _⟩ => show win0_5.index t 1 * 1408 + 1 * k.val = (t.val % 2) * 1408 + k.val; rw [(idx5 t).2]; omega

theorem idx6 : ∀ t : Fin cfg0.N, win0_6.index t 0 = 0 ∧ win0_6.index t 1 = t.val % 2 :=
  (by decide +kernel : ∀ t : Fin grid0.N, _)

theorem blk6 (t : Fin cfg0.N) (r : Fin 1) (k : Fin 1408) : (iblk m c 6 t : FVec Ideal S1x1408 .f32) (ix2 r k)
    = (V m c main_v6 : FVec Ideal S1x2816 .f32) (ix2 r ⟨(t.val % 2) * 1408 + k.val, by have := lt_of_lt_of_eq t.isLt N_0; omega⟩) := by
  unfold iblk
  rw [View.read_apply]
  show (V m c main_v6 : FVec Ideal S1x2816 .f32) _ = _
  congr 1
  funext a
  apply Fin.ext
  match a with
  | ⟨0, _⟩ => show win0_6.index t 0 * 1 + 1 * r.val = r.val; rw [(idx6 t).1]; omega
  | ⟨1, _⟩ => show win0_6.index t 1 * 1408 + 1 * k.val = (t.val % 2) * 1408 + k.val; rw [(idx6 t).2]; omega

theorem idx7 : ∀ t : Fin cfg0.N, win0_7.index t 0 = t.val % 2 ∧ win0_7.index t 1 = 0 :=
  (by decide +kernel : ∀ t : Fin grid0.N, _)

theorem blk7 (t : Fin cfg0.N) (r : Fin 1408) (k : Fin 1024) : (iblk m c 7 t : FVec Ideal S1408x1024 .bf16) (ix2 r k)
    = (V m c main_v7 : FVec Ideal S2816x1024 .bf16) (ix2 ⟨(t.val % 2) * 1408 + r.val, by have := lt_of_lt_of_eq t.isLt N_0; omega⟩ k) := by
  unfold iblk
  rw [View.read_apply]
  show (V m c main_v7 : FVec Ideal S2816x1024 .bf16) _ = _
  congr 1
  funext a
  apply Fin.ext
  match a with
  | ⟨0, _⟩ => show win0_7.index t 0 * 1408 + 1 * r.val = (t.val % 2) * 1408 + r.val; rw [(idx7 t).1]; omega
  | ⟨1, _⟩ => show win0_7.index t 1 * 1024 + 1 * k.val = k.val; rw [(idx7 t).2]; omega

theorem idx8 : ∀ t : Fin cfg0.N, win0_8.index t 0 = 0 ∧ win0_8.index t 1 = 0 :=
  (by decide +kernel : ∀ t : Fin grid0.N, _)

theorem blk8 (t : Fin cfg0.N) (r : Fin 1) (k : Fin 1024) : (iblk m c 8 t : FVec Ideal S1x1024 .f32) (ix2 r k)
    = (V m c main_v8 : FVec Ideal S1x1024 .f32) (ix2 r k) := by
  unfold iblk
  rw [View.read_apply]
  show (V m c main_v8 : FVec Ideal S1x1024 .f32) _ = _
  congr 1
  funext a
  apply Fin.ext
  match a with
  | ⟨0, _⟩ => show win0_8.index t 0 * 1 + 1 * r.val = r.val; rw [(idx8 t).1]; omega
  | ⟨1, _⟩ => show win0_8.index t 1 * 1024 + 1 * k.val = k.val; rw [(idx8 t).2]; omega

end Cert.Ffn
-- ==== Proof.Ffn.Value.lean ====
/-
  The kernel's result array: every row of every tile is the feed-forward part's row.
-/
module

public import proofs.«01_k».proof.Proof.Ffn.Cases
public import proofs.«01_k».proof.Proof.Ffn.Blocks

@[expose] public section

set_option maxRecDepth 16384

noncomputable section

namespace Cert.Ffn

open Idealize.ShloMosaic Idealize.ShloMosaic.TcCoe Cert.FfnKernelIdeal Cert.FfnKernelIdeal.Gen

variable (m : (ℓ : Loc nD τ sig) → Buf (Elt Ideal) ℓ) (c : Dev nD)

/-- The grid point of row tile `i` and hidden tile `j`. -/
abbrev pt (i : Fin 16) (j : Fin 2) : Fin cfg0.N := ⟨2 * i.val + j.val, lt_of_lt_of_eq (by omega) N_0.symm⟩

/-- Grid point `(i, 0)` hands the body the row tile's number. -/
theorem row_coord : ∀ i : Fin 16, ((grid0.coords (pt i 0)) 0).val = i.val :=
  (by decide +kernel : ∀ i : Fin 16, _)

/-- The scratch of normalised rows while row tile `i` is computed. -/
def xnAt (i : Fin 16) : FVec Ideal S1040x1024 .bf16 :=
  xn (iblk m c 2 (pt i 0)) (k0_pay5 (F := Ideal) (BitVec.ofNat 32 ((grid0.coords (pt i 0)) 0).val)) (iblk m c 0 (pt i 0))
    (iblk m c 1 (pt i 0))

/-- What point `t` adds to the accumulator `acc`. -/
def addTile (i : Fin 16) (t : Fin cfg0.N) (acc : FVec Ideal S1024x1024 .f32) : FVec Ideal S1024x1024 .f32 :=
  k0_pay1 (F := Ideal) (k0_pay10 (xnAt m c i) (iblk m c 4 t))
    (k0_pay11 (xnAt m c i) (iblk m c 3 t) (iblk m c 5 t) (iblk m c 6 t))
    (k0_pay12 (xnAt m c i) (iblk m c 3 t) (iblk m c 5 t) (iblk m c 6 t)) acc (iblk m c 7 t)

/-- The accumulator and the normalised rows after the first hidden tile of row tile `i`. -/
theorem after_first (i : Fin 16) : (outsAt0 m c (pt i 0).val (pt i 0).isLt).2
    = (xnAt m c i, addTile m c i (pt i 0) (k0_pay9 (F := Ideal))) := by
  rw [outsAt0_A m c (pt i 0) (by show (2 * i.val + 0) % 2 = 0; omega) (by show ¬(2 * i.val + 0) % 2 = 1; omega)]
  dsimp only
  rw [xn_first, acc_first]
  unfold addTile xnAt
  rfl

/-- The output block when row tile `i` is finished. -/
theorem after_second (i : Fin 16) : (outsAt0 m c (pt i 1).val (pt i 1).isLt).1
    = k0_pay2 (F := Ideal) (iblk m c 1 (pt i 1)) (addTile m c i (pt i 1) (addTile m c i (pt i 0) (k0_pay9 (F := Ideal))))
        (iblk m c 8 (pt i 1)) := by
  rw [outsAt0_B m c (pt i 1) (by show ¬(2 * i.val + 1) % 2 = 0; omega) (by show (2 * i.val + 1) % 2 = 1; omega)]
  dsimp only
  rw [out_second]
  have e : (outsAt0 m c ((pt i 1).val - 1) (Nat.lt_of_le_of_lt (Nat.sub_le _ _) (pt i 1).isLt)).2
      = (xnAt m c i, addTile m c i (pt i 0) (k0_pay9 (F := Ideal))) := by
    have hp : ∀ (n n' : ℕ) (h : n < cfg0.N) (h' : n' < cfg0.N), n = n' → outsAt0 m c n h = outsAt0 m c n' h' := by
      intro n n' h h' hn
      subst hn
      rfl
    rw [hp _ _ _ (pt i 0).isLt (by show 2 * i.val + 1 - 1 = 2 * i.val + 0; omega)]
    exact after_first m c i
  rw [e]
  rw [addTile.eq_def m c i (pt i 1)]

/-- The row of the scratch that lies `d ≤ 2` rows before tile row `r`: the normalised row `d` places back. -/
theorem xnAt_back (i : Fin 16) (r : Fin 1024) (d : ℕ) (hd : d ≤ 2) (q : Fin 1040) (hq : q.val + d = 16 + r.val) (R : Fin 16384)
    (hR : R.val = 1024 * i.val + r.val) (k : Fin 1024) : xnAt m c i (ix2 q k)
      = back (rows (m (c.tc.loc main_arg0))) (fun l => (m (c.tc.loc main_arg1) : FVec Ideal S1024 .f32) (ix1 l)) d R k := by
  have hg : (fun l => (iblk m c 2 (pt i 0) : FVec Ideal S1x1024 .f32) (ix2 0 l))
      = fun l => (m (c.tc.loc main_arg1) : FVec Ideal S1024 .f32) (ix1 l) :=
    funext fun l => (blk2 m c (pt i 0) 0 l).trans (arr_gpre m c l)
  have hp : (pt i 0).val / 2 = i.val := by show (2 * i.val + 0) / 2 = i.val; omega
  unfold xnAt
  by_cases h : q.val < 16
  · rw [xn_halo _ _ _ _ q ⟨q.val, h⟩ rfl, hg, row_coord, keep_eq]
    unfold back
    by_cases h4 : i.val % 4 = 0
    · rw [if_pos h4, if_pos (by omega), mul_zero]
    · rw [if_neg h4, if_neg (by omega), mul_one]
      congr 1
      funext l
      rw [blk0, arr_x]
      congr 1
      apply Fin.ext
      show (64 * ((pt i 0).val / 2) - 1) * 16 + q.val = R.val - d
      rw [hp]
      omega
  · rw [xn_main _ _ _ _ q ⟨q.val - 16, by omega⟩ (by show q.val = 16 + (q.val - 16); omega), hg]
    unfold back
    rw [if_neg (by omega)]
    congr 1
    funext l
    rw [blk1, arr_x]
    congr 1
    apply Fin.ext
    show (pt i 0).val / 2 * 1024 + (q.val - 16) = R.val - d
    rw [hp]
    omega

/-- What hidden tile `j` adds, at a row and column. -/
theorem addTile_apply (i : Fin 16) (j : Fin 2) (acc : FVec Ideal S1024x1024 .f32) (r l : Fin 1024) (R : Fin 16384)
    (hR : R.val = 1024 * i.val + r.val) : addTile m c i (pt i j) acc (ix2 r l)
      = acc (ix2 r l) + ∑ f : Fin 1408, unit (rows (m (c.tc.loc main_arg0)))
          (fun k => (m (c.tc.loc main_arg1) : FVec Ideal S1024 .f32) (ix1 k))
          (fun k f => (m (c.tc.loc main_arg3) : FVec Ideal S1024x5632 .f32) (ix2 k f))
          (fun a f => (m (c.tc.loc main_arg4) : FVec Ideal S3x2816 .f32) (ix2 a f))
          (fun f => (m (c.tc.loc main_arg5) : FVec Ideal S2816 .f32) (ix1 f)) R ⟨1408 * j.val + f.val, by omega⟩
          * (m (c.tc.loc main_arg6) : FVec Ideal S2816x1024 .f32) (ix2 ⟨1408 * j.val + f.val, by omega⟩ l) := by
  have hj : (pt i j).val % 2 = j.val := by show (2 * i.val + j.val) % 2 = j.val; omega
  unfold addTile
  rw [pay1_apply]
  refine congrArg (fun z => acc (ix2 r l) + z) (Finset.sum_congr rfl fun f _ => ?_)
  have eg : ∀ k, (iblk m c 3 (pt i j) : FVec Ideal S1024x1408 .bf16) (ix2 k f)
      = (m (c.tc.loc main_arg3) : FVec Ideal S1024x5632 .f32) (ix2 k ⟨1408 * j.val + f.val, by omega⟩) := fun k => by
    rw [blk3, arr_win]
    congr 2
    apply Fin.ext
    show (pt i j).val % 2 * 1408 + f.val = 1408 * j.val + f.val
    rw [hj]; omega
  have ev : ∀ k, (iblk m c 4 (pt i j) : FVec Ideal S1024x1408 .bf16) (ix2 k f)
      = (m (c.tc.loc main_arg3) : FVec Ideal S1024x5632 .f32) (ix2 k ⟨2816 + (1408 * j.val + f.val), by omega⟩) := fun k => by
    rw [blk4, arr_win]
    congr 2
    apply Fin.ext
    show (2 + (pt i j).val % 2) * 1408 + f.val = 2816 + (1408 * j.val + f.val)
    rw [hj]; omega
  have ec : ∀ a : Fin 3, (iblk m c 5 (pt i j) : FVec Ideal S8x1408 .f32) (ix2 ⟨a.val, by omega⟩ f)
      = (m (c.tc.loc main_arg4) : FVec Ideal S3x2816 .f32) (ix2 a ⟨1408 * j.val + f.val, by omega⟩) := fun a => by
    rw [blk5]
    refine Eq.trans ?_ (arr_cw m c a _)
    congr 2
    apply Fin.ext
    show (pt i j).val % 2 * 1408 + f.val = 1408 * j.val + f.val
    rw [hj]; omega
  have eb : (iblk m c 6 (pt i j) : FVec Ideal S1x1408 .f32) (ix2 0 f)
      = (m (c.tc.loc main_arg5) : FVec Ideal S2816 .f32) (ix1 ⟨1408 * j.val + f.val, by omega⟩) := by
    rw [blk6, arr_cb]
    congr 2
    apply Fin.ext
    show (pt i j).val % 2 * 1408 + f.val = 1408 * j.val + f.val
    rw [hj]; omega
  have eo : (iblk m c 7 (pt i j) : FVec Ideal S1408x1024 .bf16) (ix2 f l)
      = (m (c.tc.loc main_arg6) : FVec Ideal S2816x1024 .f32) (ix2 ⟨1408 * j.val + f.val, by omega⟩ l) := by
    rw [blk7, arr_wout]
    congr 2
    apply Fin.ext
    show (pt i j).val % 2 * 1408 + f.val = 1408 * j.val + f.val
    rw [hj]; omega
  have x2 : (fun k => xnAt m c i (ix2 ⟨14 + r.val, by omega⟩ k)) = _ :=
    funext fun k => xnAt_back m c i r 2 (by omega) ⟨14 + r.val, by omega⟩ (by show 14 + r.val + 2 = _; omega) R hR k
  have x1 : (fun k => xnAt m c i (ix2 ⟨15 + r.val, by omega⟩ k)) = _ :=
    funext fun k => xnAt_back m c i r 1 (by omega) ⟨15 + r.val, by omega⟩ (by show 15 + r.val + 1 = _; omega) R hR k
  have x0 : (fun k => xnAt m c i (ix2 ⟨16 + r.val, by omega⟩ k)) = _ :=
    funext fun k => xnAt_back m c i r 0 (by omega) ⟨16 + r.val, by omega⟩ (by show 16 + r.val + 0 = _; omega) R hR k
  rw [eo, eb, x2, x1, x0]
  simp only [eg, ev]
  rw [show (iblk m c 5 (pt i j) : FVec Ideal S8x1408 .f32) (ix2 0 f) = _ from ec 0,
    show (iblk m c 5 (pt i j) : FVec Ideal S8x1408 .f32) (ix2 1 f) = _ from ec 1,
    show (iblk m c 5 (pt i j) : FVec Ideal S8x1408 .f32) (ix2 2 f) = _ from ec 2]
  rfl

/-- The kernel's result at row `R`, column `l`. -/
theorem result_apply (R : Fin 16384) (l : Fin 1024) :
    (Value.G9 m c : FVec Ideal S16384x1024 .f32) (ix2 R l)
      = ffnRow (rows (m (c.tc.loc main_arg0))) (fun k => (m (c.tc.loc main_arg1) : FVec Ideal S1024 .f32) (ix1 k))
          (fun k => (m (c.tc.loc main_arg2) : FVec Ideal S1024 .f32) (ix1 k))
          (fun k f => (m (c.tc.loc main_arg3) : FVec Ideal S1024x5632 .f32) (ix2 k f))
          (fun a f => (m (c.tc.loc main_arg4) : FVec Ideal S3x2816 .f32) (ix2 a f))
          (fun f => (m (c.tc.loc main_arg5) : FVec Ideal S2816 .f32) (ix1 f))
          (fun f q => (m (c.tc.loc main_arg6) : FVec Ideal S2816x1024 .f32) (ix2 f q)) R l := by
  let i : Fin 16 := ⟨R.val / 1024, by omega⟩
  let r : Fin 1024 := ⟨R.val % 1024, by omega⟩
  have hR : R.val = 1024 * i.val + r.val := by show R.val = 1024 * (R.val / 1024) + R.val % 1024; omega
  have hpt : Value.pt9Of (ix2 R l) = (pt i 1).val := by
    show 2 * (1 * (R.val / 1024 - 0) + 1 * (l.val / 1024 - 0)) + 1 = 2 * (R.val / 1024) + 1
    omega
  have hloc : Value.loc9Of (ix2 R l) = (ix2 r l : S1024x1024.Idx) := by
    funext a
    apply Fin.ext
    match a with
    | ⟨0, _⟩ => rfl
    | ⟨1, _⟩ => show l.val % 1024 = l.val; omega
  have e : (Value.G9 m c : FVec Ideal S16384x1024 .f32) (ix2 R l) = (outsAt0 m c (pt i 1).val (pt i 1).isLt).1 (ix2 r l) := by
    unfold Value.G9
    rw [dif_pos (by rw [hpt]; exact (pt i 1).isLt), hloc, Value.outsAt0_sweep]
    rw [Value.fold0_congr m c _ _ _ (by rw [Nat.zero_add]; exact (pt i 1).isLt) hpt]
  rw [e, after_second, pay2_apply]
  unfold ffnRow
  have h1 : (iblk m c 1 (pt i 1) : FVec Ideal S1024x1024 .f32) (ix2 r l) = rows (m (c.tc.loc main_arg0)) R l := by
    rw [blk1, arr_x]
    refine congrArg (fun z => rows (m (c.tc.loc main_arg0)) z l) (Fin.ext ?_)
    show (2 * i.val + 1) / 2 * 1024 + r.val = R.val
    omega
  rw [h1]
  refine congrArg (fun z => rows (m (c.tc.loc main_arg0)) R l + z) ?_
  · have hg : (fun q => (iblk m c 8 (pt i 1) : FVec Ideal S1x1024 .f32) (ix2 0 q))
        = fun q => (m (c.tc.loc main_arg2) : FVec Ideal S1024 .f32) (ix1 q) :=
      funext fun q => (blk8 m c (pt i 1) 0 q).trans (arr_gpost m c q)
    rw [hg]
    refine congrArg (fun v => rms v _ l) (funext fun q => ?_)
    rw [addTile_apply m c i 1 _ r q R hR, addTile_apply m c i 0 _ r q R hR, sum_tiles, pay9_apply]
    refine congrArg (fun z => 0 + z + _) (Finset.sum_congr rfl fun f _ => ?_)
    have z : (⟨1408 * (0 : Fin 2).val + f.val, by have := f.isLt; show 1408 * 0 + f.val < 2816; omega⟩ : Fin 2816) = ⟨f.val, by omega⟩ :=
      Fin.ext (by show 1408 * 0 + f.val = f.val; omega)
    rw [z]

end Cert.Ffn
-- ==== Proof.Ffn.Reference.lean ====
/-
  What the feed-forward reference computes, at an index.

  The reference's result is one long term of array operations. It is cut here into four stages (the normalised input,
  the gate before and after the convolution, the hidden activation, the output projection) and each stage is read at
  an index as a scalar expression over the arguments.
-/
module

public import proofs.«01_k».proof.Proof.Gen.FfnReferenceIdeal.Run
public import proofs.«01_k».proof.Proof.Ffn.Math
public import Idealize.ShloMosaic.Lib.Tactic

@[expose] public section

set_option maxRecDepth 16384

noncomputable section

namespace Cert.Ffn

open Idealize.ShloMosaic Cert.FfnReferenceIdeal Cert.FfnReferenceIdeal.Gen

/-- RMS normalisation of every row, scaled by `g`. -/
def rNorm (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2
    (Host.rsqrt (addf (Host.divf (broadcastInDim S4x4096x1 ![0, 1] bcast_S4x4096_S4x4096x1_0_1
        (Host.reduceAdd (mulf x x) (constant (F := Ideal) S_ .f32 0x00000000#32) reducesTo_S4x4096x1024_S4x4096_d2 h_S_))
        (broadcastInDim S4x4096x1 ![] bcast_S_S4x4096x1 (constant (F := Ideal) S_ .f32 0x44800000#32)))
      (broadcastInDim S4x4096x1 ![] bcast_S_S4x4096x1 (constant (F := Ideal) S_ .f32 0x358637BD#32))))))
    (broadcastInDim S4x4096x1024 ![0, 1, 2] bcast_S1x1x1024_S4x4096x1024_0_1_2
      (broadcastInDim S1x1x1024 ![2] bcast_S1024_S1x1x1024_2 g))

/-- The product of the normalised rows with the input weights: gate columns first, value columns after them. -/
def rHid (n : FVec Ideal S4x4096x1024 .f32) (w : FVec Ideal S1024x5632 .f32) : FVec Ideal S4x4096x5632 .f32 :=
  Host.dotGeneral dot_S4x4096x1024_S1024x5632_S4x4096x5632_2_0_01_1_n_n none n w

/-- The gate columns with two zero rows put before every sequence. -/
def rPad (h : FVec Ideal S4x4096x5632 .f32) : FVec Ideal S4x4098x2816 .f32 :=
  pad S4x4098x2816 ![0, 2, 0] ![0, 0, 0] ![0, 0, 0]
    (extractStridedSlice S4x4096x2816 ![0, 0, 0] h slices_S4x4096x5632_S4x4096x2816_0_0_0 : FVec Ideal S4x4096x2816 .f32)
    (sitofp (F := Ideal) .f32 (constantI S_ 32 0#32)) pads_S4x4096x2816_S4x4098x2816_000_200_000 h_S_

/-- One tap's weights, spread over the rows. -/
def rTap0 (cw : FVec Ideal S3x2816 .f32) : FVec Ideal S4x4096x2816 .f32 :=
  broadcastInDim S4x4096x2816 ![0, 1, 2] bcast_S1x1x2816_S4x4096x2816_0_1_2 (broadcastInDim S1x1x2816 ![2] bcast_S2816_S1x1x2816_2
    (shapeCast S2816 (extractStridedSlice S1x2816 ![0, 0] cw slices_S3x2816_S1x2816_0_0) shapeCasts_S1x2816_S2816))
def rTap1 (cw : FVec Ideal S3x2816 .f32) : FVec Ideal S4x4096x2816 .f32 :=
  broadcastInDim S4x4096x2816 ![0, 1, 2] bcast_S1x1x2816_S4x4096x2816_0_1_2 (broadcastInDim S1x1x2816 ![2] bcast_S2816_S1x1x2816_2
    (shapeCast S2816 (extractStridedSlice S1x2816 ![1, 0] cw slices_S3x2816_S1x2816_1_0) shapeCasts_S1x2816_S2816))
def rTap2 (cw : FVec Ideal S3x2816 .f32) : FVec Ideal S4x4096x2816 .f32 :=
  broadcastInDim S4x4096x2816 ![0, 1, 2] bcast_S1x1x2816_S4x4096x2816_0_1_2 (broadcastInDim S1x1x2816 ![2] bcast_S2816_S1x1x2816_2
    (shapeCast S2816 (extractStridedSlice S1x2816 ![2, 0] cw slices_S3x2816_S1x2816_2_0) shapeCasts_S1x2816_S2816))

/-- The causal convolution of the padded gate, with its bias. -/
def rConv (p : FVec Ideal S4x4098x2816 .f32) (cw : FVec Ideal S3x2816 .f32) (cb : FVec Ideal S2816 .f32) : FVec Ideal S4x4096x2816 .f32 :=
  addf (addf (addf (addf (broadcastInDim S4x4096x2816 ![] bcast_S_S4x4096x2816 (constant (F := Ideal) S_ .f32 0x00000000#32))
      (mulf (extractStridedSlice S4x4096x2816 ![0, 0, 0] p slices_S4x4098x2816_S4x4096x2816_0_0_0) (rTap0 cw)))
      (mulf (extractStridedSlice S4x4096x2816 ![0, 1, 0] p slices_S4x4098x2816_S4x4096x2816_0_1_0) (rTap1 cw)))
      (mulf (extractStridedSlice S4x4096x2816 ![0, 2, 0] p slices_S4x4098x2816_S4x4096x2816_0_2_0) (rTap2 cw)))
    (broadcastInDim S4x4096x2816 ![0, 1, 2] bcast_S1x1x2816_S4x4096x2816_0_1_2 (broadcastInDim S1x1x2816 ![2] bcast_S2816_S1x1x2816_2 cb))

/-- The activated gate times the value columns. -/
def rAct (z : FVec Ideal S4x4096x2816 .f32) (h : FVec Ideal S4x4096x5632 .f32) : FVec Ideal S4x4096x2816 .f32 :=
  mulf (mulf z (mulf (broadcastInDim S4x4096x2816 ![] bcast_S_S4x4096x2816 (constant (F := Ideal) S_ .f32 0x3F000000#32))
      (addf (broadcastInDim S4x4096x2816 ![] bcast_S_S4x4096x2816 (constant (F := Ideal) S_ .f32 0x3F800000#32))
        (Host.tanh (mulf (broadcastInDim S4x4096x2816 ![] bcast_S_S4x4096x2816 (constant (F := Ideal) S_ .f32 0x3F4C422A#32))
          (addf z (mulf (broadcastInDim S4x4096x2816 ![] bcast_S_S4x4096x2816 (constant (F := Ideal) S_ .f32 0x3D372713#32)) (mulf (mulf z z) z))))))))
    (extractStridedSlice S4x4096x2816 ![0, 0, 2816] h slices_S4x4096x5632_S4x4096x2816_0_0_2816)

/-- The output projection. -/
def rOut (a : FVec Ideal S4x4096x2816 .f32) (w : FVec Ideal S2816x1024 .f32) : FVec Ideal S4x4096x1024 .f32 :=
  Host.dotGeneral dot_S4x4096x2816_S2816x1024_S4x4096x1024_2_0_01_1_n_n none a w

/-- The whole reference: the input plus the normalised projection, as one list of rows. -/
def rRes (x : FVec Ideal S4x4096x1024 .f32) (gpre gpost : FVec Ideal S1024 .f32) (w : FVec Ideal S1024x5632 .f32)
    (cw : FVec Ideal S3x2816 .f32) (cb : FVec Ideal S2816 .f32) (wo : FVec Ideal S2816x1024 .f32) : FVec Ideal S16384x1024 .f32 :=
  shapeCast S16384x1024 (addf x (rNorm (rOut (rAct (rConv (rPad (rHid (rNorm x gpre) w)) cw cb) (rHid (rNorm x gpre) w)) wo) gpost))
    shapeCasts_S4x4096x1024_S16384x1024

theorem res_eq (m : (ℓ : Loc nD τ sig) → Buf (Elt Ideal) ℓ) (c : Dev nD) :
    Cert.FfnReferenceIdeal.Value.res_out0 m c = rRes (m (c.tc.loc main_arg0)) (m (c.tc.loc main_arg1)) (m (c.tc.loc main_arg2))
      (m (c.tc.loc main_arg3)) (m (c.tc.loc main_arg4)) (m (c.tc.loc main_arg5)) (m (c.tc.loc main_arg6)) := by
  unfold Cert.FfnReferenceIdeal.Value.res_out0 Cert.FfnReferenceIdeal.Value.res_main_v71 rRes rOut rAct rConv rTap0 rTap1 rTap2 rPad rHid rNorm
  rfl

theorem rNorm_apply (x : FVec Ideal S4x4096x1024 .f32) (g : FVec Ideal S1024 .f32) (b : Fin 4) (t : Fin 4096) (k : Fin 1024) :
    rNorm x g (ix3 b t k) = rms (fun l => x (ix3 b t l)) (fun l => g (ix1 l)) k := by
  pointwise [rNorm]
  rfl

theorem rHid_apply (n : FVec Ideal S4x4096x1024 .f32) (w : FVec Ideal S1024x5632 .f32) (b : Fin 4) (t : Fin 4096) (f : Fin 5632) :
    rHid n w (ix3 b t f) = ∑ k : Fin 1024, n (ix3 b t k) * w (ix2 k f) := by
  pointwise [rHid]

theorem rPad_apply (h : FVec Ideal S4x4096x5632 .f32) (b : Fin 4) (t : Fin 4098) (f : Fin 2816) :
    rPad h (ix3 b t f) = if h0 : 2 ≤ t.val then h (ix3 b ⟨t.val - 2, by omega⟩ ⟨f.val, by omega⟩) else 0 := by
  pointwise [rPad]
  have hs : (FloatOps.sitofp (F := Ideal) .f32 0#32 : EReal) = 0 := by
    show ((((0#32 : BitVec 32).toInt : ℝ)) : EReal) = 0
    simp
  by_cases h0 : 2 ≤ t.val
  · rw [dif_pos ⟨h0, by omega⟩, dif_pos h0]
  · rw [dif_neg (fun hh => h0 hh.1), dif_neg h0, hs]

theorem rConv_apply (p : FVec Ideal S4x4098x2816 .f32) (cw : FVec Ideal S3x2816 .f32) (cb : FVec Ideal S2816 .f32)
    (b : Fin 4) (t : Fin 4096) (f : Fin 2816) : rConv p cw cb (ix3 b t f)
      = cw (ix2 0 f) * p (ix3 b ⟨t.val, by omega⟩ f) + cw (ix2 1 f) * p (ix3 b ⟨1 + t.val, by omega⟩ f)
        + cw (ix2 2 f) * p (ix3 b ⟨2 + t.val, by omega⟩ f) + cb (ix1 f) := by
  pointwise [rConv, rTap0, rTap1, rTap2]
  rw [mul_comm (cw (ix2 0 f)), mul_comm (cw (ix2 1 f)), mul_comm (cw (ix2 2 f))]

theorem rAct_apply (z : FVec Ideal S4x4096x2816 .f32) (h : FVec Ideal S4x4096x5632 .f32)
    (b : Fin 4) (t : Fin 4096) (f : Fin 2816) :
    rAct z h (ix3 b t f) = gelu (z (ix3 b t f)) * h (ix3 b t ⟨2816 + f.val, by omega⟩) := by
  pointwise [rAct]
  unfold gelu
  rw [mul_assoc (z (ix3 b t f)) (z (ix3 b t f)) (z (ix3 b t f))]

theorem rOut_apply (a : FVec Ideal S4x4096x2816 .f32) (w : FVec Ideal S2816x1024 .f32) (b : Fin 4) (t : Fin 4096) (l : Fin 1024) :
    rOut a w (ix3 b t l) = ∑ f : Fin 2816, a (ix3 b t f) * w (ix2 f l) := by
  pointwise [rOut]

/-- The gate of the row `d` places back: the padded gate read `2 - d` rows into its window. -/
theorem gate_back (x : FVec Ideal S4x4096x1024 .f32) (g : FVec Ideal S1024 .f32) (w : FVec Ideal S1024x5632 .f32)
    (R : Fin 16384) (f : Fin 2816) (d : ℕ) (hd : d ≤ 2) (u : Fin 4098) (hu : u.val = 2 - d + R.val % 4096) :
    rPad (rHid (rNorm x g) w) (ix3 ⟨R.val / 4096, by omega⟩ u f)
      = ∑ k : Fin 1024, back (rows x) (fun l => g (ix1 l)) d R k * w (ix2 k ⟨f.val, by omega⟩) := by
  rw [rPad_apply]
  unfold back
  by_cases h : R.val % 4096 < d
  · rw [dif_neg (by omega), if_pos h]
    simp
  · rw [dif_pos (by omega), if_neg h, rHid_apply]
    refine Finset.sum_congr rfl fun k _ => ?_
    rw [rNorm_apply]
    congr 2
    funext l
    unfold rows
    congr 2
    · apply Fin.ext
      show R.val / 4096 = (R.val - d) / 4096
      omega
    · apply Fin.ext
      show u.val - 2 = (R.val - d) % 4096
      omega

/-- The reference at row `R`, column `l`. -/
theorem rRes_apply (x : FVec Ideal S4x4096x1024 .f32) (gpre gpost : FVec Ideal S1024 .f32) (w : FVec Ideal S1024x5632 .f32)
    (cw : FVec Ideal S3x2816 .f32) (cb : FVec Ideal S2816 .f32) (wo : FVec Ideal S2816x1024 .f32) (R : Fin 16384) (l : Fin 1024) :
    rRes x gpre gpost w cw cb wo (ix2 R l)
      = ffnRow (rows x) (fun k => gpre (ix1 k)) (fun k => gpost (ix1 k)) (fun k f => w (ix2 k f)) (fun a f => cw (ix2 a f))
          (fun f => cb (ix1 f)) (fun f q => wo (ix2 f q)) R l := by
  pointwise [rRes]
  rw [rNorm_apply]
  unfold ffnRow
  congr 2
  funext q
  rw [rOut_apply]
  refine Finset.sum_congr rfl fun f _ => ?_
  congr 1
  rw [rAct_apply, rConv_apply, gate_back x gpre w R f 2 (by omega) _ (by show R.val % 4096 = _; omega),
    gate_back x gpre w R f 1 (by omega) _ (by show 1 + R.val % 4096 = _; omega),
    gate_back x gpre w R f 0 (by omega) _ (by show 2 + R.val % 4096 = _; omega), rHid_apply]
  unfold unit act
  congr 1
  refine Finset.sum_congr rfl fun k _ => ?_
  rw [rNorm_apply]
  unfold back
  rw [if_neg (by omega)]
  rfl

end Cert.Ffn
-- ==== Proof.Glu.Math.lean ====
/-
  The state-space layer's gated output as scalar mathematics over the extended reals: the recurrence's output plus the
  skip of the normalised input, activated, projected to a value and a gate, gated, normalised, added to the input.
-/
module

public import proofs.«01_k».proof.Proof.Ffn.Math

@[expose] public section

noncomputable section

namespace Cert.Glu

open Idealize.ShloMosaic Cert.Ffn

/-- The activated mix of a row `y` of the recurrence's output and the normalised input row `x`, at column `k`. -/
def mix (x y g d : Fin 1024 → EReal) (k : Fin 1024) : EReal :=
  gelu (y k + rms x g k * d k)

/-- The mix projected to column `f`: values first, gates after them. -/
def proj (x y g d : Fin 1024 → EReal) (w : Fin 1024 → Fin 2048 → EReal) (f : Fin 2048) : EReal :=
  ∑ k, mix x y g d k * w k f

/-- The value times the logistic function of the gate. -/
def gated (p : Fin 2048 → EReal) (q : Fin 1024) : EReal :=
  p ⟨q.val, by omega⟩ * Ideal.div 1 (1 + Ideal.exp (-(p ⟨1024 + q.val, by omega⟩)))

/-- Column `l` of the result's row, from the rows `x` and `y`. -/
def gluRow (x y g gpost d : Fin 1024 → EReal) (w : Fin 1024 → Fin 2048 → EReal) (l : Fin 1024) : EReal :=
  x l + rms (gated (proj x y g d w)) gpost l

end Cert.Glu
-- ==== Proof.Glu.Kernel.lean ====
/-
  What the gated-output kernel leaves in its result array, at an index: one tile of 512 rows from the tile's rows of the
  prepared arrays, and each tile in the place of the array its grid point names.
-/
module

public import proofs.«01_k».proof.Proof.Glu.Math
public import proofs.«01_k».proof.Proof.Gen.GluKernelIdeal.Value
public import Idealize.ShloMosaic.Lib.StableHlo.ReadAt
public import Idealize.ShloMosaic.Lib.Tactic

@[expose] public section

set_option maxRecDepth 16384

noncomputable section

namespace Cert.Glu

open Idealize.ShloMosaic Idealize.ShloMosaic.TcCoe Cert.GluKernelIdeal Cert.GluKernelIdeal.Gen Cert.Ffn

/-! ## One tile -/

/-- The tile's projected mix. -/
theorem pay3_apply (x : FVec Ideal S512x1024 .f32) (g : FVec Ideal S1x1024 .f32) (y : FVec Ideal S512x1024 .f32)
    (d : FVec Ideal S1x1024 .f32) (w : FVec Ideal S1024x2048 .bf16) (r : Fin 512) (f : Fin 2048) :
    k0_pay3 (F := Ideal) x g y d w (ix2 r f)
      = proj (fun l => x (ix2 r l)) (fun l => y (ix2 r l)) (fun l => g (ix2 0 l)) (fun l => d (ix2 0 l)) (fun k f => w (ix2 k f)) f := by
  pointwise [k0_pay3, k0_pay2]
  rfl

/-- The tile's result from its projected mix. -/
theorem pay1_apply (x : FVec Ideal S512x1024 .f32) (p : FVec Ideal S512x2048 .f32) (a : FVec Ideal S512x1024 .f32)
    (gpost : FVec Ideal S1x1024 .f32) (r : Fin 512) (l : Fin 1024)
    (ha : ∀ q : Fin 1024, a (ix2 r q) = p (ix2 r ⟨q.val, by omega⟩)) :
    k0_pay1 (F := Ideal) x p a gpost (ix2 r l)
      = x (ix2 r l) + rms (gated fun f => p (ix2 r f)) (fun q => gpost (ix2 0 q)) l := by
  pointwise [k0_pay1]
  simp only [ha]
  rfl

theorem pay4_apply (x : FVec Ideal S512x1024 .f32) (g : FVec Ideal S1x1024 .f32) (y : FVec Ideal S512x1024 .f32)
    (d : FVec Ideal S1x1024 .f32) (w : FVec Ideal S1024x2048 .bf16) (r : Fin 512) (q : Fin 1024) :
    k0_pay4 (F := Ideal) x g y d w (ix2 r q) = k0_pay3 (F := Ideal) x g y d w (ix2 r ⟨q.val, by omega⟩) := by
  pointwise [k0_pay4]

/-- The block a grid point leaves, at row `r` and column `l` of the tile. -/
theorem out_apply (x y : FVec Ideal S512x1024 .f32) (g d : FVec Ideal S1x1024 .f32) (w : FVec Ideal S1024x2048 .bf16)
    (gpost : FVec Ideal S1x1024 .f32) (r : Fin 512) (l : Fin 1024) :
    out0_6 (F := Ideal) x y g d w gpost (ix2 r l)
      = gluRow (fun k => x (ix2 r k)) (fun k => y (ix2 r k)) (fun k => g (ix2 0 k)) (fun k => gpost (ix2 0 k))
          (fun k => d (ix2 0 k)) (fun k f => w (ix2 k f)) l := by
  have hz : (![0, 0] : Fin 2 → ℕ) = fun _ => 0 := by decide
  unfold out0_6
  rw [View.canon_unit_zero hz]
  simp only [View.ld_unit_zero (S := S512x1024) hz, View.ld_unit_zero (S := S1x1024) hz, View.ld_unit_zero (S := S1024x2048) hz]
  rw [pay1_apply _ _ _ _ _ _ (fun q => pay4_apply x g y d w r q)]
  have e : k0_pay2 (F := Ideal) x (ix2 r l) = x (ix2 r l) := by pointwise [k0_pay2]
  rw [e]
  unfold gluRow
  refine congrArg (fun z => x (ix2 r l) + rms (gated z) _ l) (funext fun f => ?_)
  rw [pay3_apply]

/-! ## The prepared arrays and their blocks -/

variable (m : (ℓ : Loc nD τ sig) → Buf (Elt Ideal) ℓ) (c : Dev nD)

theorem arr_x (R : Fin 16384) (k : Fin 1024) : (V m c main_v0 : FVec Ideal S16384x1024 .f32) (ix2 R k)
    = rows (m (c.tc.loc main_arg0)) R k := by
  unfold V rows
  after_reads_at

theorem arr_y (R : Fin 16384) (k : Fin 1024) : (V m c main_v1 : FVec Ideal S16384x1024 .f32) (ix2 R k)
    = rows (m (c.tc.loc main_arg1)) R k := by
  unfold V rows
  after_reads_at

theorem arr_w (k : Fin 1024) (f : Fin 2048) : (V m c main_v2 : FVec Ideal S1024x2048 .bf16) (ix2 k f)
    = (m (c.tc.loc main_arg5) : FVec Ideal S1024x2048 .f32) (ix2 k f) := by
  unfold V
  after_reads_at

theorem arr_gpre (k : Fin 1024) : (V m c main_v3 : FVec Ideal S1x1024 .f32) (ix2 0 k)
    = (m (c.tc.loc main_arg2) : FVec Ideal S1024 .f32) (ix1 k) := by
  unfold V
  after_reads_at

theorem arr_d (k : Fin 1024) : (V m c main_v4 : FVec Ideal S1x1024 .f32) (ix2 0 k)
    = (m (c.tc.loc main_arg4) : FVec Ideal S1024 .f32) (ix1 k) := by
  unfold V
  after_reads_at

theorem arr_gpost (k : Fin 1024) : (V m c main_v5 : FVec Ideal S1x1024 .f32) (ix2 0 k)
    = (m (c.tc.loc main_arg3) : FVec Ideal S1024 .f32) (ix1 k) := by
  unfold V
  after_reads_at

theorem idx_rows : ∀ t : Fin cfg0.N, (win0_0.index t 0 = t.val ∧ win0_0.index t 1 = 0) ∧ (win0_1.index t 0 = t.val ∧ win0_1.index t 1 = 0)
    ∧ (win0_6.index t 0 = t.val ∧ win0_6.index t 1 = 0) :=
  (by decide +kernel : ∀ t : Fin grid0.N, _)

theorem idx_whole : ∀ t : Fin cfg0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) :=
  (by decide +kernel : ∀ t : Fin grid0.N, _)

/-- The array row of tile row `r` at grid point `t`. -/
abbrev rowAt (t : Fin cfg0.N) (r : Fin 512) : Fin 16384 := ⟨t.val * 512 + r.val, by have := lt_of_lt_of_eq t.isLt N_0; omega⟩

theorem blk0 (t : Fin cfg0.N) (r : Fin 512) (k : Fin 1024) : (iblk m c 0 t : FVec Ideal S512x1024 .f32) (ix2 r k)
    = (V m c main_v0 : FVec Ideal S16384x1024 .f32) (ix2 (rowAt t r) k) := by
  unfold iblk
  rw [View.read_apply]
  show (V m c main_v0 : FVec Ideal S16384x1024 .f32) _ = _
  congr 1
  funext a
  apply Fin.ext
  match a with
  | ⟨0, _⟩ => show win0_0.index t 0 * 512 + 1 * r.val = t.val * 512 + r.val; rw [(idx_rows t).1.1]; omega
  | ⟨1, _⟩ => show win0_0.index t 1 * 1024 + 1 * k.val = k.val; rw [(idx_rows t).1.2]; omega

theorem blk1 (t : Fin cfg0.N) (r : Fin 512) (k : Fin 1024) : (iblk m c 1 t : FVec Ideal S512x1024 .f32) (ix2 r k)
    = (V m c main_v1 : FVec Ideal S16384x1024 .f32) (ix2 (rowAt t r) k) := by
  unfold iblk
  rw [View.read_apply]
  show (V m c main_v1 : FVec Ideal S16384x1024 .f32) _ = _
  congr 1
  funext a
  apply Fin.ext
  match a with
  | ⟨0, _⟩ => show win0_1.index t 0 * 512 + 1 * r.val = t.val * 512 + r.val; rw [(idx_rows t).2.1.1]; omega
  | ⟨1, _⟩ => show win0_1.index t 1 * 1024 + 1 * k.val = k.val; rw [(idx_rows t).2.1.2]; omega

theorem blk2 (t : Fin cfg0.N) (k : Fin 1024) : (iblk m c 2 t : FVec Ideal S1x1024 .f32) (ix2 0 k)
    = (V m c main_v3 : FVec Ideal S1x1024 .f32) (ix2 0 k) := by
  unfold iblk
  rw [View.read_apply]
  show (V m c main_v3 : FVec Ideal S1x1024 .f32) _ = _
  congr 1
  funext a
  apply Fin.ext
  match a with
  | ⟨0, _⟩ => show win0_2.index t 0 * 1 + 1 * 0 = 0; rw [(idx_whole t).1.1]
  | ⟨1, _⟩ => show win0_2.index t 1 * 1024 + 1 * k.val = k.val; rw [(idx_whole t).1.2]; omega

theorem blk3 (t : Fin cfg0.N) (k : Fin 1024) : (iblk m c 3 t : FVec Ideal S1x1024 .f32) (ix2 0 k)
    = (V m c main_v4 : FVec Ideal S1x1024 .f32) (ix2 0 k) := by
  unfold iblk
  rw [View.read_apply]
  show (V m c main_v4 : FVec Ideal S1x1024 .f32) _ = _
  congr 1
  funext a
  apply Fin.ext
  match a with
  | ⟨0, _⟩ => show win0_3.index t 0 * 1 + 1 * 0 = 0; rw [(idx_whole t).2.1.1]
  | ⟨1, _⟩ => show win0_3.index t 1 * 1024 + 1 * k.val = k.val; rw [(idx_whole t).2.1.2]; omega

theorem blk4 (t : Fin cfg0.N) (k : Fin 1024) (f : Fin 2048) : (iblk m c 4 t : FVec Ideal S1024x2048 .bf16) (ix2 k f)
    = (V m c main_v2 : FVec Ideal S1024x2048 .bf16) (ix2 k f) := by
  unfold iblk
  rw [View.read_apply]
  show (V m c main_v2 : FVec Ideal S1024x2048 .bf16) _ = _
  congr 1
  funext a
  apply Fin.ext
  match a with
  | ⟨0, _⟩ => show win0_4.index t 0 * 1024 + 1 * k.val = k.val; rw [(idx_whole t).2.2.1.1]; omega
  | ⟨1, _⟩ => show win0_4.index t 1 * 2048 + 1 * f.val = f.val; rw [(idx_whole t).2.2.1.2]; omega

theorem blk5 (t : Fin cfg0.N) (k : Fin 1024) : (iblk m c 5 t : FVec Ideal S1x1024 .f32) (ix2 0 k)
    = (V m c main_v5 : FVec Ideal S1x1024 .f32) (ix2 0 k) := by
  unfold iblk
  rw [View.read_apply]
  show (V m c main_v5 : FVec Ideal S1x1024 .f32) _ = _
  congr 1
  funext a
  apply Fin.ext
  match a with
  | ⟨0, _⟩ => show win0_5.index t 0 * 1 + 1 * 0 = 0; rw [(idx_whole t).2.2.2.1]
  | ⟨1, _⟩ => show win0_5.index t 1 * 1024 + 1 * k.val = k.val; rw [(idx_whole t).2.2.2.2]; omega

/-! ## The result array -/

theorem flush_out : ∀ t : Fin cfg0.N, (cfg0.win 6).flush t = true :=
  (by decide +kernel : ∀ t : Fin grid0.N, _)

/-- The result array at a row of tile `t` is the block grid point `t` leaves, at that row of the tile. -/
theorem result_blk (t : Fin cfg0.N) (r : Fin 512) (l : Fin 1024) :
    ((dats m 0 c).arrAt 6 cfg0.N : FVec Ideal S16384x1024 .f32) (ix2 (rowAt t r) l)
      = out0_6 (F := Ideal) (iblk m c 0 t) (iblk m c 1 t) (iblk m c 2 t) (iblk m c 3 t) (iblk m c 4 t) (iblk m c 5 t) (ix2 r l) := by
  have h := congrFun (Value.blocks6 (F := Ideal) m c t (flush_out t)) (ix2 r l : S512x1024.Idx)
  rw [Value.flushed6, View.read_apply] at h
  refine Eq.trans ?_ h
  refine congrArg (fun i => ((dats m 0 c).arrAt 6 cfg0.N : FVec Ideal S16384x1024 .f32) i) ?_
  funext a
  apply Fin.ext
  match a with
  | ⟨0, _⟩ => show t.val * 512 + r.val = win0_6.index t 0 * 512 + 1 * r.val; rw [(idx_rows t).2.2.1]; omega
  | ⟨1, _⟩ => show l.val = win0_6.index t 1 * 1024 + 1 * l.val; rw [(idx_rows t).2.2.2]; omega

/-- The kernel's result at row `R`, column `l`. -/
theorem result_apply (R : Fin 16384) (l : Fin 1024) :
    ((dats m 0 c).arrAt 6 cfg0.N : FVec Ideal S16384x1024 .f32) (ix2 R l)
      = gluRow (rows (m (c.tc.loc main_arg0)) R) (rows (m (c.tc.loc main_arg1)) R)
          (fun k => (m (c.tc.loc main_arg2) : FVec Ideal S1024 .f32) (ix1 k))
          (fun k => (m (c.tc.loc main_arg3) : FVec Ideal S1024 .f32) (ix1 k))
          (fun k => (m (c.tc.loc main_arg4) : FVec Ideal S1024 .f32) (ix1 k))
          (fun k f => (m (c.tc.loc main_arg5) : FVec Ideal S1024x2048 .f32) (ix2 k f)) l := by
  let t : Fin cfg0.N := ⟨R.val / 512, lt_of_lt_of_eq (by omega) N_0.symm⟩
  let r : Fin 512 := ⟨R.val % 512, by omega⟩
  have hR : R = rowAt t r := Fin.ext (by show R.val = R.val / 512 * 512 + R.val % 512; omega)
  rw [hR, result_blk, out_apply]
  have e0 := funext fun k => (blk0 m c t r k).trans (arr_x m c (rowAt t r) k)
  have e1 := funext fun k => (blk1 m c t r k).trans (arr_y m c (rowAt t r) k)
  have e2 := funext fun k => (blk2 m c t k).trans (arr_gpre m c k)
  have e3 := funext fun k => (blk3 m c t k).trans (arr_d m c k)
  have e4 := funext fun k => funext fun f => (blk4 m c t k f).trans (arr_w m c k f)
  have e5 := funext fun k => (blk5 m c t k).trans (arr_gpost m c k)
  rw [e0, e1, e2, e3, e4, e5]

end Cert.Glu
-- ==== Proof.Glu.Reference.lean ====
/-
  What the gated-output reference computes, at an index: its result term cut into the normalisation, the mix, the
  projection and the gate, each read at an index.
-/
module

public import proofs.«01_k».proof.Proof.Gen.GluReferenceIdeal.Run
public import proofs.«01_k».proof.Proof.Glu.Math
public import Idealize.ShloMosaic.Lib.Tactic

@[expose] public section

set_option maxRecDepth 16384

noncomputable section

namespace Cert.Glu

open Idealize.ShloMosaic Cert.GluReferenceIdeal Cert.GluReferenceIdeal.Gen Cert.Ffn

/-- RMS normalisation of every row, scaled by `g`. -/
def rNorm (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2
    (Host.rsqrt (addf (Host.divf (broadcastInDim S4x4096x1 ![0, 1] bcast_S4x4096_S4x4096x1_0_1
        (Host.reduceAdd (mulf x x) (constant (F := Ideal) S_ .f32 0x00000000#32) reducesTo_S4x4096x1024_S4x4096_d2 h_S_))
        (broadcastInDim S4x4096x1 ![] bcast_S_S4x4096x1 (constant (F := Ideal) S_ .f32 0x44800000#32)))
      (broadcastInDim S4x4096x1 ![] bcast_S_S4x4096x1 (constant (F := Ideal) S_ .f32 0x358637BD#32))))))
    (broadcastInDim S4x4096x1024 ![0, 1, 2] bcast_S1x1x1024_S4x4096x1024_0_1_2
      (broadcastInDim S1x1x1024 ![2] bcast_S1024_S1x1x1024_2 g))

/-- The recurrence's output plus the skip, in groups of sixteen columns. -/
def rSkip (y n : FVec Ideal S4x4096x1024 .f32) (d : FVec Ideal S1024 .f32) : FVec Ideal S4x4096x64x16 .f32 :=
  addf (shapeCast S4x4096x64x16 y shapeCasts_S4x4096x1024_S4x4096x64x16)
    (mulf (shapeCast S4x4096x64x16 n shapeCasts_S4x4096x1024_S4x4096x64x16)
      (broadcastInDim S4x4096x64x16 ![0, 1, 2, 3] bcast_S1x1x64x16_S4x4096x64x16_0_1_2_3
        (broadcastInDim S1x1x64x16 ![2, 3] bcast_S64x16_S1x1x64x16_2_3 (shapeCast S64x16 d shapeCasts_S1024_S64x16))))

/-- The activation of every element, as rows again. -/
def rAct (z : FVec Ideal S4x4096x64x16 .f32) : FVec Ideal S4x4096x1024 .f32 :=
  shapeCast S4x4096x1024 (mulf z (mulf (broadcastInDim S4x4096x64x16 ![] bcast_S_S4x4096x64x16 (constant (F := Ideal) S_ .f32 0x3F000000#32))
      (addf (broadcastInDim S4x4096x64x16 ![] bcast_S_S4x4096x64x16 (constant (F := Ideal) S_ .f32 0x3F800000#32))
        (Host.tanh (mulf (broadcastInDim S4x4096x64x16 ![] bcast_S_S4x4096x64x16 (constant (F := Ideal) S_ .f32 0x3F4C422A#32))
          (addf z (mulf (broadcastInDim S4x4096x64x16 ![] bcast_S_S4x4096x64x16 (constant (F := Ideal) S_ .f32 0x3D372713#32)) (mulf (mulf z z) z))))))))
    shapeCasts_S4x4096x64x16_S4x4096x1024

/-- The projection. -/
def rProj (a : FVec Ideal S4x4096x1024 .f32) (w : FVec Ideal S1024x2048 .f32) : FVec Ideal S4x4096x2048 .f32 :=
  Host.dotGeneral dot_S4x4096x1024_S1024x2048_S4x4096x2048_2_0_01_1_n_n none a w

/-- The first half times the logistic function of the second half. -/
def rGate (p : FVec Ideal S4x4096x2048 .f32) : FVec Ideal S4x4096x1024 .f32 :=
  mulf (extractStridedSlice S4x4096x1024 ![0, 0, 0] p slices_S4x4096x2048_S4x4096x1024_0_0_0)
    (Host.divf (broadcastInDim S4x4096x1024 ![] bcast_S_S4x4096x1024 (constant (F := Ideal) S_ .f32 0x3F800000#32))
      (addf (broadcastInDim S4x4096x1024 ![] bcast_S_S4x4096x1024 (constant (F := Ideal) S_ .f32 0x3F800000#32))
        (Host.exp (Host.negf (extractStridedSlice S4x4096x1024 ![0, 0, 1024] p slices_S4x4096x2048_S4x4096x1024_0_0_1024)))))

/-- The whole reference, as one list of rows. -/
def rRes (x y : FVec Ideal S4x4096x1024 .f32) (gpre gpost d : FVec Ideal S1024 .f32) (w : FVec Ideal S1024x2048 .f32) :
    FVec Ideal S16384x1024 .f32 :=
  shapeCast S16384x1024 (addf x (rNorm (rGate (rProj (rAct (rSkip y (rNorm x gpre) d)) w)) gpost)) shapeCasts_S4x4096x1024_S16384x1024

theorem res_eq (m : (ℓ : Loc nD τ sig) → Buf (Elt Ideal) ℓ) (c : Dev nD) :
    Cert.GluReferenceIdeal.Value.res_out0 m c = rRes (m (c.tc.loc main_arg0)) (m (c.tc.loc main_arg1)) (m (c.tc.loc main_arg2))
      (m (c.tc.loc main_arg3)) (m (c.tc.loc main_arg4)) (m (c.tc.loc main_arg5)) := by
  unfold Cert.GluReferenceIdeal.Value.res_out0 Cert.GluReferenceIdeal.Value.res_main_v58 rRes rGate rProj rAct rSkip rNorm
  rfl

theorem rNorm_apply (x : FVec Ideal S4x4096x1024 .f32) (g : FVec Ideal S1024 .f32) (b : Fin 4) (t : Fin 4096) (k : Fin 1024) :
    rNorm x g (ix3 b t k) = rms (fun l => x (ix3 b t l)) (fun l => g (ix1 l)) k := by
  pointwise [rNorm]
  rfl

/-- The activated mix at column `k`. -/
theorem rAct_apply (y n : FVec Ideal S4x4096x1024 .f32) (d : FVec Ideal S1024 .f32) (b : Fin 4) (t : Fin 4096) (k : Fin 1024) :
    rAct (rSkip y n d) (ix3 b t k) = gelu (y (ix3 b t k) + n (ix3 b t k) * d (ix1 k)) := by
  pointwise [rAct, rSkip]
  unfold gelu
  simp only [show ∀ z : EReal, z * z * z = z * (z * z) from fun z => mul_assoc z z z]

theorem rProj_apply (a : FVec Ideal S4x4096x1024 .f32) (w : FVec Ideal S1024x2048 .f32) (b : Fin 4) (t : Fin 4096) (f : Fin 2048) :
    rProj a w (ix3 b t f) = ∑ k : Fin 1024, a (ix3 b t k) * w (ix2 k f) := by
  pointwise [rProj]

theorem rGate_apply (p : FVec Ideal S4x4096x2048 .f32) (b : Fin 4) (t : Fin 4096) (q : Fin 1024) :
    rGate p (ix3 b t q) = gated (fun f => p (ix3 b t f)) q := by
  pointwise [rGate]
  rfl

/-- The reference at row `R`, column `l`. -/
theorem rRes_apply (x y : FVec Ideal S4x4096x1024 .f32) (gpre gpost d : FVec Ideal S1024 .f32) (w : FVec Ideal S1024x2048 .f32)
    (R : Fin 16384) (l : Fin 1024) :
    rRes x y gpre gpost d w (ix2 R l)
      = gluRow (rows x R) (rows y R) (fun k => gpre (ix1 k)) (fun k => gpost (ix1 k)) (fun k => d (ix1 k)) (fun k f => w (ix2 k f)) l := by
  pointwise [rRes]
  rw [rNorm_apply]
  unfold gluRow
  refine congrArg (fun z => _ + rms z _ l) (funext fun q => ?_)
  rw [rGate_apply]
  refine congrArg (fun z => gated z q) (funext fun f => ?_)
  rw [rProj_apply]
  refine Finset.sum_congr rfl fun k _ => ?_
  rw [rAct_apply, rNorm_apply]
  rfl

end Cert.Glu
-- ==== Proof.Out.Math.lean ====
/-
  The sparse-attention layer's output projection as scalar mathematics over the extended reals: the heads' outputs
  projected, normalised, added to the input.
-/
module

public import proofs.«01_k».proof.Proof.Ffn.Math

@[expose] public section

noncomputable section

namespace Cert.Out

open Idealize.ShloMosaic Cert.Ffn

/-- The heads' outputs at the row `R` of the four sequences, one head of sixty-four columns after the other. -/
def heads (o : (⟨4, ![4, 4096, 16, 64]⟩ : Shape).Idx → EReal) (R : Fin 16384) (k : Fin 1024) : EReal :=
  o (ix4 ⟨R.val / 4096, by omega⟩ ⟨R.val % 4096, by omega⟩ ⟨k.val / 64, by omega⟩ ⟨k.val % 64, by omega⟩)

/-- Column `l` of the result's row, from the input row `x` and the heads' outputs `o`. -/
def outRow (x o gpost : Fin 1024 → EReal) (w : Fin 1024 → Fin 1024 → EReal) (l : Fin 1024) : EReal :=
  x l + rms (fun q => ∑ k, o k * w k q) gpost l

end Cert.Out
-- ==== Proof.Out.Kernel.lean ====
/-
  What the output-projection kernel leaves in its result array, at an index: one tile of 512 rows from the tile's rows of the
  prepared arrays, and each tile in the place of the array its grid point names.
-/
module

public import proofs.«01_k».proof.Proof.Out.Math
public import proofs.«01_k».proof.Proof.Gen.OutKernelIdeal.Value
public import Idealize.ShloMosaic.Lib.StableHlo.ReadAt
public import Idealize.ShloMosaic.Lib.Tactic

@[expose] public section

set_option maxRecDepth 16384

noncomputable section

namespace Cert.Out

open Idealize.ShloMosaic Idealize.ShloMosaic.TcCoe Cert.OutKernelIdeal Cert.OutKernelIdeal.Gen Cert.Ffn

/-- The block a grid point leaves, at row `r` and column `l` of the tile. -/
theorem out_apply (x : FVec Ideal S512x1024 .f32) (o : FVec Ideal S512x1024 .bf16) (w : FVec Ideal S1024x1024 .bf16)
    (gpost : FVec Ideal S1x1024 .f32) (r : Fin 512) (l : Fin 1024) :
    out0_4 (F := Ideal) x o w gpost (ix2 r l)
      = outRow (fun k => x (ix2 r k)) (fun k => o (ix2 r k)) (fun k => gpost (ix2 0 k)) (fun k q => w (ix2 k q)) l := by
  have hz : (![0, 0] : Fin 2 → ℕ) = fun _ => 0 := by decide
  unfold out0_4
  rw [View.canon_unit_zero hz]
  simp only [View.ld_unit_zero (S := S512x1024) hz, View.ld_unit_zero (S := S1x1024) hz, View.ld_unit_zero (S := S1024x1024) hz]
  pointwise [k0_pay1]
  rfl

/-! ## The prepared arrays and their blocks -/

variable (m : (ℓ : Loc nD τ sig) → Buf (Elt Ideal) ℓ) (c : Dev nD)

theorem arr_x (R : Fin 16384) (k : Fin 1024) : (V m c main_v0 : FVec Ideal S16384x1024 .f32) (ix2 R k)
    = rows (m (c.tc.loc main_arg0)) R k := by
  unfold V rows
  after_reads_at

theorem arr_o (R : Fin 16384) (k : Fin 1024) : (V m c main_v2 : FVec Ideal S16384x1024 .bf16) (ix2 R k)
    = heads (m (c.tc.loc main_arg1)) R k := by
  unfold V heads
  after_reads_at

theorem arr_w (k : Fin 1024) (f : Fin 1024) : (V m c main_v3 : FVec Ideal S1024x1024 .bf16) (ix2 k f)
    = (m (c.tc.loc main_arg3) : FVec Ideal S1024x1024 .f32) (ix2 k f) := by
  unfold V
  after_reads_at

theorem arr_gpost (k : Fin 1024) : (V m c main_v4 : FVec Ideal S1x1024 .f32) (ix2 0 k)
    = (m (c.tc.loc main_arg2) : FVec Ideal S1024 .f32) (ix1 k) := by
  unfold V
  after_reads_at

theorem idx_rows : ∀ t : Fin cfg0.N, (win0_0.index t 0 = t.val ∧ win0_0.index t 1 = 0) ∧ (win0_1.index t 0 = t.val ∧ win0_1.index t 1 = 0)
    ∧ (win0_4.index t 0 = t.val ∧ win0_4.index t 1 = 0) :=
  (by decide +kernel : ∀ t : Fin grid0.N, _)

theorem idx_whole : ∀ t : Fin cfg0.N, (win0_2.index t 0 = 0 ∧ win0_2.index t 1 = 0) ∧ (win0_3.index t 0 = 0 ∧ win0_3.index t 1 = 0) :=
  (by decide +kernel : ∀ t : Fin grid0.N, _)

/-- The array row of tile row `r` at grid point `t`. -/
abbrev rowAt (t : Fin cfg0.N) (r : Fin 512) : Fin 16384 := ⟨t.val * 512 + r.val, by have := lt_of_lt_of_eq t.isLt N_0; omega⟩

theorem blk0 (t : Fin cfg0.N) (r : Fin 512) (k : Fin 1024) : (iblk m c 0 t : FVec Ideal S512x1024 .f32) (ix2 r k)
    = (V m c main_v0 : FVec Ideal S16384x1024 .f32) (ix2 (rowAt t r) k) := by
  unfold iblk
  rw [View.read_apply]
  show (V m c main_v0 : FVec Ideal S16384x1024 .f32) _ = _
  congr 1
  funext a
  apply Fin.ext
  match a with
  | ⟨0, _⟩ => show win0_0.index t 0 * 512 + 1 * r.val = t.val * 512 + r.val; rw [(idx_rows t).1.1]; omega
  | ⟨1, _⟩ => show win0_0.index t 1 * 1024 + 1 * k.val = k.val; rw [(idx_rows t).1.2]; omega

theorem blk1 (t : Fin cfg0.N) (r : Fin 512) (k : Fin 1024) : (iblk m c 1 t : FVec Ideal S512x1024 .bf16) (ix2 r k)
    = (V m c main_v2 : FVec Ideal S16384x1024 .bf16) (ix2 (rowAt t r) k) := by
  unfold iblk
  rw [View.read_apply]
  show (V m c main_v2 : FVec Ideal S16384x1024 .bf16) _ = _
  congr 1
  funext a
  apply Fin.ext
  match a with
  | ⟨0, _⟩ => show win0_1.index t 0 * 512 + 1 * r.val = t.val * 512 + r.val; rw [(idx_rows t).2.1.1]; omega
  | ⟨1, _⟩ => show win0_1.index t 1 * 1024 + 1 * k.val = k.val; rw [(idx_rows t).2.1.2]; omega

theorem blk2 (t : Fin cfg0.N) (k : Fin 1024) (f : Fin 1024) : (iblk m c 2 t : FVec Ideal S1024x1024 .bf16) (ix2 k f)
    = (V m c main_v3 : FVec Ideal S1024x1024 .bf16) (ix2 k f) := by
  unfold iblk
  rw [View.read_apply]
  show (V m c main_v3 : FVec Ideal S1024x1024 .bf16) _ = _
  congr 1
  funext a
  apply Fin.ext
  match a with
  | ⟨0, _⟩ => show win0_2.index t 0 * 1024 + 1 * k.val = k.val; rw [(idx_whole t).1.1]; omega
  | ⟨1, _⟩ => show win0_2.index t 1 * 1024 + 1 * f.val = f.val; rw [(idx_whole t).1.2]; omega

theorem blk3 (t : Fin cfg0.N) (k : Fin 1024) : (iblk m c 3 t : FVec Ideal S1x1024 .f32) (ix2 0 k)
    = (V m c main_v4 : FVec Ideal S1x1024 .f32) (ix2 0 k) := by
  unfold iblk
  rw [View.read_apply]
  show (V m c main_v4 : FVec Ideal S1x1024 .f32) _ = _
  congr 1
  funext a
  apply Fin.ext
  match a with
  | ⟨0, _⟩ => show win0_3.index t 0 * 1 + 1 * 0 = 0; rw [(idx_whole t).2.1]
  | ⟨1, _⟩ => show win0_3.index t 1 * 1024 + 1 * k.val = k.val; rw [(idx_whole t).2.2]; omega

/-! ## The result array -/

theorem flush_out : ∀ t : Fin cfg0.N, (cfg0.win 4).flush t = true :=
  (by decide +kernel : ∀ t : Fin grid0.N, _)

/-- The result array at a row of tile `t` is the block grid point `t` leaves, at that row of the tile. -/
theorem result_blk (t : Fin cfg0.N) (r : Fin 512) (l : Fin 1024) :
    ((dats m 0 c).arrAt 4 cfg0.N : FVec Ideal S16384x1024 .f32) (ix2 (rowAt t r) l)
      = out0_4 (F := Ideal) (iblk m c 0 t) (iblk m c 1 t) (iblk m c 2 t) (iblk m c 3 t) (ix2 r l) := by
  have h := congrFun (Value.blocks4 (F := Ideal) m c t (flush_out t)) (ix2 r l : S512x1024.Idx)
  rw [Value.flushed4, View.read_apply] at h
  refine Eq.trans ?_ h
  refine congrArg (fun i => ((dats m 0 c).arrAt 4 cfg0.N : FVec Ideal S16384x1024 .f32) i) ?_
  funext a
  apply Fin.ext
  match a with
  | ⟨0, _⟩ => show t.val * 512 + r.val = win0_4.index t 0 * 512 + 1 * r.val; rw [(idx_rows t).2.2.1]; omega
  | ⟨1, _⟩ => show l.val = win0_4.index t 1 * 1024 + 1 * l.val; rw [(idx_rows t).2.2.2]; omega

/-- The kernel's result at row `R`, column `l`. -/
theorem result_apply (R : Fin 16384) (l : Fin 1024) :
    ((dats m 0 c).arrAt 4 cfg0.N : FVec Ideal S16384x1024 .f32) (ix2 R l)
      = outRow (rows (m (c.tc.loc main_arg0)) R) (heads (m (c.tc.loc main_arg1)) R)
          (fun k => (m (c.tc.loc main_arg2) : FVec Ideal S1024 .f32) (ix1 k))
          (fun k q => (m (c.tc.loc main_arg3) : FVec Ideal S1024x1024 .f32) (ix2 k q)) l := by
  let t : Fin cfg0.N := ⟨R.val / 512, lt_of_lt_of_eq (by omega) N_0.symm⟩
  let r : Fin 512 := ⟨R.val % 512, by omega⟩
  have hR : R = rowAt t r := Fin.ext (by show R.val = R.val / 512 * 512 + R.val % 512; omega)
  rw [hR, result_blk, out_apply]
  have e0 := funext fun k => (blk0 m c t r k).trans (arr_x m c (rowAt t r) k)
  have e1 := funext fun k => (blk1 m c t r k).trans (arr_o m c (rowAt t r) k)
  have e2 := funext fun k => funext fun f => (blk2 m c t k f).trans (arr_w m c k f)
  have e3 := funext fun k => (blk3 m c t k).trans (arr_gpost m c k)
  rw [e0, e1, e2, e3]

end Cert.Out
-- ==== Proof.Out.Reference.lean ====
/-
  What the output-projection reference computes, at an index: its result term cut into the normalisation and the
  projection, each read at an index.
-/
module

public import proofs.«01_k».proof.Proof.Gen.OutReferenceIdeal.Run
public import proofs.«01_k».proof.Proof.Out.Math
public import Idealize.ShloMosaic.Lib.Tactic

@[expose] public section

set_option maxRecDepth 16384

noncomputable section

namespace Cert.Out

open Idealize.ShloMosaic Cert.OutReferenceIdeal Cert.OutReferenceIdeal.Gen Cert.Ffn

/-- RMS normalisation of every row, scaled by `g`. -/
def rNorm (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2
    (Host.rsqrt (addf (Host.divf (broadcastInDim S4x4096x1 ![0, 1] bcast_S4x4096_S4x4096x1_0_1
        (Host.reduceAdd (mulf x x) (constant (F := Ideal) S_ .f32 0x00000000#32) reducesTo_S4x4096x1024_S4x4096_d2 h_S_))
        (broadcastInDim S4x4096x1 ![] bcast_S_S4x4096x1 (constant (F := Ideal) S_ .f32 0x44800000#32)))
      (broadcastInDim S4x4096x1 ![] bcast_S_S4x4096x1 (constant (F := Ideal) S_ .f32 0x358637BD#32))))))
    (broadcastInDim S4x4096x1024 ![0, 1, 2] bcast_S1x1x1024_S4x4096x1024_0_1_2
      (broadcastInDim S1x1x1024 ![2] bcast_S1024_S1x1x1024_2 g))

/-- The projection of the heads' outputs. -/
def rProj (o : FVec Ideal S4x4096x16x64 .f32) (w : FVec Ideal S1024x1024 .f32) : FVec Ideal S4x4096x1024 .f32 :=
  Host.dotGeneral dot_S4x4096x1024_S1024x1024_S4x4096x1024_2_0_01_1_n_n none
    (shapeCast S4x4096x1024 o shapeCasts_S4x4096x16x64_S4x4096x1024) w

/-- The whole reference, as one list of rows. -/
def rRes (x : FVec Ideal S4x4096x1024 .f32) (o : FVec Ideal S4x4096x16x64 .f32) (gpost : FVec Ideal S1024 .f32)
    (w : FVec Ideal S1024x1024 .f32) : FVec Ideal S16384x1024 .f32 :=
  shapeCast S16384x1024 (addf x (rNorm (rProj o w) gpost)) shapeCasts_S4x4096x1024_S16384x1024

theorem rNorm_apply (x : FVec Ideal S4x4096x1024 .f32) (g : FVec Ideal S1024 .f32) (b : Fin 4) (t : Fin 4096) (k : Fin 1024) :
    rNorm x g (ix3 b t k) = rms (fun l => x (ix3 b t l)) (fun l => g (ix1 l)) k := by
  pointwise [rNorm]
  rfl

theorem rProj_apply (o : FVec Ideal S4x4096x16x64 .f32) (w : FVec Ideal S1024x1024 .f32) (b : Fin 4) (t : Fin 4096) (f : Fin 1024) :
    rProj o w (ix3 b t f)
      = ∑ k : Fin 1024, o (ix4 b t ⟨k.val / 64, by omega⟩ ⟨k.val % 64, by omega⟩) * w (ix2 k f) := by
  pointwise [rProj]

/-- The reference at row `R`, column `l`. -/
theorem rRes_apply (x : FVec Ideal S4x4096x1024 .f32) (o : FVec Ideal S4x4096x16x64 .f32) (gpost : FVec Ideal S1024 .f32)
    (w : FVec Ideal S1024x1024 .f32) (R : Fin 16384) (l : Fin 1024) :
    rRes x o gpost w (ix2 R l)
      = outRow (rows x R) (heads o R) (fun k => gpost (ix1 k)) (fun k q => w (ix2 k q)) l := by
  pointwise [rRes]
  rw [rNorm_apply]
  unfold outRow
  refine congrArg (fun z => _ + rms z _ l) (funext fun q => ?_)
  rw [rProj_apply]
  rfl

end Cert.Out
-- ==== Proof.Kv.Math.lean ====
/-
  The key and value projection of the sparse-attention layer as scalar mathematics over the extended reals: a row is
  normalised and projected to six tensors of four groups of sixty-four lanes; two key tensors are rotated by the row's
  position and stand side by side per group, and so do the pairs of the other tensors.
-/
module

public import proofs.«01_k».proof.Proof.Ffn.Math

@[expose] public section

noncomputable section

namespace Cert.Kv

open Idealize.ShloMosaic Cert.Ffn

/-- The projection's column that stands at place `r` when the tensors `a` and `b` stand side by side per group. -/
def col (a b : Fin 6) (r : Fin 512) : Fin 1536 :=
  ⟨(if r.val % 128 < 64 then a.val else b.val) * 256 + r.val / 128 * 64 + r.val % 64, by split <;> omega⟩

/-- The place a rotation mixes with place `r`: eight lanes on in the first eight lanes, eight back in the next eight. -/
def partner (r : Fin 512) : Fin 512 :=
  ⟨if r.val % 64 < 8 then r.val + 8 else if r.val % 64 < 16 then r.val - 8 else r.val, by split_ifs <;> omega⟩

/-- Column `j` of the projection of the normalised row. -/
def proj (x g : Fin 1024 → EReal) (w : Fin 1024 → Fin 1536 → EReal) (j : Fin 1536) : EReal := ∑ k, rms x g k * w k j

/-- The angle of frequency `e` at position `t`. -/
def angle (t : Fin 4096) (e : Fin 8) : EReal :=
  FloatOps.sitofp (F := Ideal) FTy.f32 (BitVec.ofNat 32 t.val) *
    Ideal.pow (Ideal.ofBits FTy.f32 0x48F42400#32)
      (Ideal.div (-FloatOps.sitofp (F := Ideal) FTy.f32 (BitVec.ofNat 32 e.val)) (Ideal.ofBits FTy.f32 0x41000000#32))

/-- Place `r` of the rotated keys at position `t`, from the projected row `p`. -/
def key (p : Fin 1536 → EReal) (t : Fin 4096) (r : Fin 512) : EReal :=
  if h : r.val % 64 < 8 then
    p (col 2 4 r) * Ideal.cos (angle t ⟨r.val % 64, h⟩) - p (col 2 4 (partner r)) * Ideal.sin (angle t ⟨r.val % 64, h⟩)
  else if h' : r.val % 64 < 16 then
    p (col 2 4 r) * Ideal.cos (angle t ⟨r.val % 64 - 8, by omega⟩)
      + p (col 2 4 (partner r)) * Ideal.sin (angle t ⟨r.val % 64 - 8, by omega⟩)
  else p (col 2 4 r)

/-- The cosine table at position `t`, lane `e`: one past the rotated lanes. -/
def cosTab (t : Fin 4096) (e : Fin 64) : EReal :=
  if h : e.val < 8 then Ideal.cos (angle t ⟨e.val, h⟩)
  else if h' : e.val < 16 then Ideal.cos (angle t ⟨e.val - 8, by omega⟩) else 1

/-- The sine table at position `t`, lane `e`, with the rotation's sign: zero past the rotated lanes. -/
def sinTab (t : Fin 4096) (e : Fin 64) : EReal :=
  if h : e.val < 8 then -Ideal.sin (angle t ⟨e.val, h⟩)
  else if h' : e.val < 16 then Ideal.sin (angle t ⟨e.val - 8, by omega⟩) else 0

/-- The rotation as a sum of two products with the tables. -/
theorem key_tables (p : Fin 1536 → EReal) (t : Fin 4096) (r : Fin 512) :
    p (col 2 4 r) * cosTab t ⟨r.val % 64, by omega⟩ + p (col 2 4 (partner r)) * sinTab t ⟨r.val % 64, by omega⟩ = key p t r := by
  unfold cosTab sinTab key
  by_cases h : r.val % 64 < 8
  · rw [dif_pos h, dif_pos h, dif_pos h, mul_neg, sub_eq_add_neg]
  · rw [dif_neg h, dif_neg h, dif_neg h]
    by_cases h' : r.val % 64 < 16
    · rw [dif_pos h', dif_pos h', dif_pos h']
    · rw [dif_neg h', dif_neg h', dif_neg h', mul_one, mul_zero, add_zero]

/-- A head of sixty-four lanes rotated at position `t`, at lane `e`. -/
def rot (y : Fin 64 → EReal) (t : Fin 4096) (e : Fin 64) : EReal :=
  if h : e.val < 8 then
    y e * Ideal.cos (angle t ⟨e.val, h⟩) - y ⟨8 + e.val, by omega⟩ * Ideal.sin (angle t ⟨e.val, h⟩)
  else if h' : e.val < 16 then
    y e * Ideal.cos (angle t ⟨e.val - 8, by omega⟩) + y ⟨e.val - 8, by omega⟩ * Ideal.sin (angle t ⟨e.val - 8, by omega⟩)
  else y e

theorem col_val (a b : Fin 6) (r : Fin 512) :
    (col a b r).val = (if r.val % 128 < 64 then a.val else b.val) * 256 + r.val / 128 * 64 + r.val % 64 := rfl

theorem partner_low (r : Fin 512) (h : r.val % 64 < 8) : (partner r).val = r.val + 8 := if_pos h
theorem partner_high (r : Fin 512) (h : ¬ r.val % 64 < 8) (h' : r.val % 64 < 16) : (partner r).val = r.val - 8 :=
  (if_neg h).trans (if_pos h')

/-- The rotated keys are the two rotated tensors side by side per group. -/
theorem key_rot (p : Fin 1536 → EReal) (t : Fin 4096) (r : Fin 512) :
    key p t r = if h : r.val % 128 < 64 then
        rot (fun e => p ⟨2 * 256 + r.val / 128 * 64 + e.val, by omega⟩) t ⟨r.val % 128, h⟩
      else rot (fun e => p ⟨4 * 256 + r.val / 128 * 64 + e.val, by omega⟩) t ⟨r.val % 128 - 64, by omega⟩ := by
  by_cases hs : r.val % 128 < 64
  · rw [dif_pos hs]
    have e : (⟨r.val % 128, hs⟩ : Fin 64) = ⟨r.val % 64, by omega⟩ := Fin.ext (by dsimp only; omega)
    have c0 : col 2 4 r = ⟨2 * 256 + r.val / 128 * 64 + r.val % 64, by omega⟩ :=
      Fin.ext (by rw [col_val, if_pos hs]; rfl)
    rw [e]
    unfold key rot
    dsimp only
    by_cases h : r.val % 64 < 8
    · have hp := partner_low r h
      have c1 : col 2 4 (partner r) = ⟨2 * 256 + r.val / 128 * 64 + (8 + r.val % 64), by omega⟩ :=
        Fin.ext (by rw [col_val, hp, if_pos (by omega)]; show 2 * 256 + _ + _ = _; dsimp only; omega)
      rw [dif_pos h, dif_pos h, c0, c1]
    · rw [dif_neg h, dif_neg h]
      by_cases h' : r.val % 64 < 16
      · have hp := partner_high r h h'
        have c1 : col 2 4 (partner r) = ⟨2 * 256 + r.val / 128 * 64 + (r.val % 64 - 8), by omega⟩ :=
          Fin.ext (by rw [col_val, hp, if_pos (by omega)]; show 2 * 256 + _ + _ = _; dsimp only; omega)
        rw [dif_pos h', dif_pos h', c0, c1]
      · rw [dif_neg h', dif_neg h', c0]
  · rw [dif_neg hs]
    have e : (⟨r.val % 128 - 64, by omega⟩ : Fin 64) = ⟨r.val % 64, by omega⟩ := Fin.ext (by dsimp only; omega)
    have c0 : col 2 4 r = ⟨4 * 256 + r.val / 128 * 64 + r.val % 64, by omega⟩ :=
      Fin.ext (by rw [col_val, if_neg hs]; rfl)
    rw [e]
    unfold key rot
    dsimp only
    by_cases h : r.val % 64 < 8
    · have hp := partner_low r h
      have c1 : col 2 4 (partner r) = ⟨4 * 256 + r.val / 128 * 64 + (8 + r.val % 64), by omega⟩ :=
        Fin.ext (by rw [col_val, hp, if_neg (by omega)]; show 4 * 256 + _ + _ = _; dsimp only; omega)
      rw [dif_pos h, dif_pos h, c0, c1]
    · rw [dif_neg h, dif_neg h]
      by_cases h' : r.val % 64 < 16
      · have hp := partner_high r h h'
        have c1 : col 2 4 (partner r) = ⟨4 * 256 + r.val / 128 * 64 + (r.val % 64 - 8), by omega⟩ :=
          Fin.ext (by rw [col_val, hp, if_neg (by omega)]; show 4 * 256 + _ + _ = _; dsimp only; omega)
        rw [dif_pos h', dif_pos h', c0, c1]
      · rw [dif_neg h', dif_neg h', c0]

/-- A column of two tensors side by side, by its group and lane. -/
theorem col_pair (a b : Fin 6) (p : Fin 1536 → EReal) (r : Fin 512) :
    p (col a b r) = if h : r.val % 128 < 64 then p ⟨a.val * 256 + r.val / 128 * 64 + r.val % 128, by omega⟩
      else p ⟨b.val * 256 + r.val / 128 * 64 + (r.val % 128 - 64), by omega⟩ := by
  by_cases hs : r.val % 128 < 64
  · rw [dif_pos hs]
    exact congrArg p (Fin.ext (by rw [col_val, if_pos hs]; dsimp only; omega))
  · rw [dif_neg hs]
    exact congrArg p (Fin.ext (by rw [col_val, if_neg hs]; dsimp only; omega))

end Cert.Kv
-- ==== Proof.Kv.Prep.lean ====
/-
  The arrays the host prepares for the key and value projection, at an index: the weights' columns in the order of the
  results' places, and the two tables of the rotation.
-/
module

public import proofs.«01_k».proof.Proof.Kv.Math
public import proofs.«01_k».proof.Proof.Gen.KvKernelIdeal.Value
public import Idealize.ShloMosaic.Lib.StableHlo.ReadAt
public import Idealize.ShloMosaic.Lib.StableHlo.Predicate
public import Idealize.ShloMosaic.Lib.Routing.Ops
public import Idealize.ShloMosaic.Lib.Tactic

@[expose] public section

set_option maxRecDepth 16384

noncomputable section

namespace Cert.Kv

open Idealize.ShloMosaic Idealize.ShloMosaic.TcCoe Cert.KvKernelIdeal Cert.KvKernelIdeal.Gen Cert.Ffn

/-! ## The columns the host picks -/

theorem lit0_eq : ∀ r : Fin 512, lit0 r = BitVec.ofNat 32 (col 2 4 r).val := by decide +kernel
theorem lit1_eq : ∀ r : Fin 512, lit1 r = BitVec.ofNat 32 (col 2 4 (partner r)).val := by decide +kernel
theorem lit2_eq : ∀ r : Fin 512, lit2 r = BitVec.ofNat 32 (col 3 5 r).val := by decide +kernel
theorem lit3_eq : ∀ r : Fin 512, lit3 r = BitVec.ofNat 32 (col 5 3 r).val := by decide +kernel
theorem lit4_eq : ∀ r : Fin 512, lit4 r = BitVec.ofNat 32 (col 0 1 r).val := by decide +kernel

/-- The picked columns: column `r` of the result is the column that `idx` names at `r`. -/
theorem pick_apply (w : FVec Ideal S1024x1536 .f32) (idx : IVec S512x1 32) (k : Fin 1024) (r : Fin 512) (j : Fin 1536)
    (h : idx (ix2 r 0) = BitVec.ofNat 32 j.val) :
    Host.gather gather_S1024x1536_S512x1_S1024x512_0_1_n_n_1_1_10241 w idx (ix2 k r) = w (ix2 k j) := by
  let d := gather_S1024x1536_S512x1_S1024x512_0_1_n_n_1_1_10241
  unfold Host.gather
  refine congrArg w (funext fun a => Fin.ext ?_)
  have hb : ∀ a' : Fin 2, a' ∉ d.operandBatchingDims := fun _ => List.not_mem_nil
  match a with
  | ⟨0, _⟩ =>
    have hm : (0 : Fin 2) ∉ d.startIndexMap := by decide
    have hk : (0 : Fin 2) ∈ d.sKept := (d.mem_sKept 0).2 ⟨by decide, hb 0⟩
    show d.start (ix2 k r) idx 0 + d.batchCoord (ix2 k r) 0 + d.offCoord (ix2 k r) 0 = k.val
    rw [d.batchCoord_eq_zero _ _ (hb 0), Nat.add_zero]
    unfold GatherDims.start GatherDims.offCoord
    rw [dif_neg hm, dif_pos hk, Nat.zero_add]
    rfl
  | ⟨1, _⟩ =>
    have hm : (1 : Fin 2) ∈ d.startIndexMap := by decide
    have hk : (1 : Fin 2) ∉ d.sKept := fun h' => ((d.mem_sKept 1).1 h').1 (by decide)
    show d.start (ix2 k r) idx 1 + d.batchCoord (ix2 k r) 1 + d.offCoord (ix2 k r) 1 = j.val
    rw [d.batchCoord_eq_zero _ _ (hb 1), d.offCoord_eq_zero _ _ hk]
    simp only [Nat.add_zero]
    unfold GatherDims.start
    rw [dif_pos hm]
    have hs : d.siIdx (ix2 k r) ⟨d.startIndexMap.idxOf 1, List.idxOf_lt_length_iff.2 hm⟩ = ix2 r (0 : Fin 1) := by
      funext b
      apply Fin.ext
      match b with
      | ⟨0, _⟩ => rfl
      | ⟨1, _⟩ => rfl
    have hj := j.isLt
    rw [hs, h, StableHlo.Predicate.toInt_ofNat_small _ (by omega)]
    show min ((j.val : Int)).toNat (1536 - 1) = j.val
    omega

variable (m : (ℓ : Loc nD τ sig) → Buf (Elt Ideal) ℓ) (c : Dev nD)

/-- The projection's weights, as they are given. -/
abbrev wOf (k : Fin 1024) (j : Fin 1536) : EReal := (m (c.tc.loc main_arg2) : FVec Ideal S1024x1536 .f32) (ix2 k j)

theorem row1 (r : Fin 512) : S512.rowMajor (ix1 r) = r :=
  (Equiv.symm_apply_eq _).1 (Routing.symm1 (N := 512) r) |>.symm

/-! ## The weights of the keys and of the rest -/

theorem keyW_low (k : Fin 1024) (r : Fin 512) :
    (V m c main_v12 : FVec Ideal S1024x1024 .bf16) (ix2 ⟨r.val, by omega⟩ k) = wOf m c k (col 2 4 r) := by
  unfold V
  after_reads_at
  refine pick_apply _ _ k r _ ?_
  pointwise
  exact (congrArg lit0 (row1 r)).trans (lit0_eq r)

theorem keyW_high (k : Fin 1024) (r : Fin 512) :
    (V m c main_v12 : FVec Ideal S1024x1024 .bf16) (ix2 ⟨512 + r.val, by omega⟩ k) = wOf m c k (col 2 4 (partner r)) := by
  unfold V
  after_reads_at
  after_reads_at
  refine pick_apply _ _ k r _ ?_
  pointwise
  exact (congrArg lit1 (row1 r)).trans (lit1_eq r)

theorem restW_0 (k : Fin 1024) (r : Fin 512) :
    (V m c main_v29 : FVec Ideal S1024x1536 .bf16) (ix2 k ⟨r.val, by omega⟩) = wOf m c k (col 3 5 r) := by
  unfold V
  after_reads_at
  refine pick_apply _ _ k r _ ?_
  pointwise
  exact (congrArg lit2 (row1 r)).trans (lit2_eq r)

theorem restW_1 (k : Fin 1024) (r : Fin 512) :
    (V m c main_v29 : FVec Ideal S1024x1536 .bf16) (ix2 k ⟨512 + r.val, by omega⟩) = wOf m c k (col 5 3 r) := by
  unfold V
  after_reads_at
  after_reads_at
  refine pick_apply _ _ k r _ ?_
  pointwise
  exact (congrArg lit3 (row1 r)).trans (lit3_eq r)

theorem restW_2 (k : Fin 1024) (r : Fin 512) :
    (V m c main_v29 : FVec Ideal S1024x1536 .bf16) (ix2 k ⟨1024 + r.val, by omega⟩) = wOf m c k (col 0 1 r) := by
  have h : ¬ 1024 + r.val < 512 := by omega
  have h' : ¬ 1024 + r.val - 512 < 512 := by omega
  have e : 1024 + r.val - 512 - 512 = r.val := by omega
  unfold V
  after_reads_at
  rw [dif_neg h, dif_neg h']
  simp only [e]
  after_reads_at
  refine pick_apply _ _ k r _ ?_
  pointwise
  exact (congrArg lit4 (row1 r)).trans (lit4_eq r)

/-! ## The tables -/

set_option maxHeartbeats 1000000 in
theorem cosT (t : Fin 4096) (e : Fin 128) :
    (V m c main_v57 : FVec Ideal S128x4096 .f32) (ix2 e t) = cosTab t ⟨e.val % 64, by omega⟩ := by
  unfold V cosTab angle
  after_reads_at
  by_cases h : e.val % 64 < 8
  · rw [dif_pos h, dif_pos h]
    after_reads_at
  · refine (dif_neg h).trans (Eq.trans ?_ (dif_neg h).symm)
    by_cases h' : e.val % 64 < 16
    · have h'' : e.val % 64 - 8 < 8 := by omega
      refine (dif_pos h'').trans (Eq.trans ?_ (dif_pos h').symm)
      after_reads_at
    · have h'' : ¬ e.val % 64 - 8 < 8 := by omega
      refine (dif_neg h'').trans (Eq.trans ?_ (dif_neg h').symm)
      after_reads_at

set_option maxHeartbeats 1000000 in
theorem sinT (t : Fin 4096) (e : Fin 128) :
    (V m c main_v58 : FVec Ideal S128x4096 .f32) (ix2 e t) = sinTab t ⟨e.val % 64, by omega⟩ := by
  unfold V sinTab angle
  after_reads_at
  by_cases h : e.val % 64 < 8
  · rw [dif_pos h, dif_pos h]
    after_reads_at
  · refine (dif_neg h).trans (Eq.trans ?_ (dif_neg h).symm)
    by_cases h' : e.val % 64 < 16
    · have h'' : e.val % 64 - 8 < 8 := by omega
      refine (dif_pos h'').trans (Eq.trans ?_ (dif_pos h').symm)
      after_reads_at
    · have h'' : ¬ e.val % 64 - 8 < 8 := by omega
      refine (dif_neg h'').trans (Eq.trans ?_ (dif_neg h').symm)
      after_reads_at

theorem arr_x (R : Fin 16384) (k : Fin 1024) : (V m c main_v56 : FVec Ideal S16384x1024 .f32) (ix2 R k)
    = rows (m (c.tc.loc main_arg0)) R k := by
  unfold V rows
  after_reads_at

theorem arr_g (k : Fin 1024) : (V m c main_v59 : FVec Ideal S1x1024 .f32) (ix2 0 k)
    = (m (c.tc.loc main_arg1) : FVec Ideal S1024 .f32) (ix1 k) := by
  unfold V
  after_reads_at

end Cert.Kv
-- ==== Proof.Kv.Kernel.lean ====
/-
  What the key and value kernel leaves in its four result arrays, at an index: one tile of 512 rows from the tile's rows
  of the prepared arrays, and each tile in the place its grid point names.
-/
module

public import proofs.«01_k».proof.Proof.Kv.Prep

@[expose] public section

set_option maxRecDepth 16384

noncomputable section

namespace Cert.Kv

open Idealize.ShloMosaic Idealize.ShloMosaic.TcCoe Cert.KvKernelIdeal Cert.KvKernelIdeal.Gen Cert.Ffn

/-! ## One tile -/

/-- The tile's normalised rows. -/
theorem pay4_apply (x : FVec Ideal S512x1024 .f32) (g : FVec Ideal S1x1024 .f32) (r : Fin 512) (k : Fin 1024) :
    k0_pay4 (F := Ideal) x g (ix2 r k) = rms (fun l => x (ix2 r l)) (fun l => g (ix2 0 l)) k := by
  pointwise [k0_pay4]
  rfl

/-- The tile's projection to the columns that are not keys. -/
theorem pay6_apply (x : FVec Ideal S512x1024 .f32) (g : FVec Ideal S1x1024 .f32) (w : FVec Ideal S1024x1536 .bf16)
    (r : Fin 512) (j : Fin 1536) :
    k0_pay6 (F := Ideal) x g w (ix2 r j) = proj (fun l => x (ix2 r l)) (fun l => g (ix2 0 l)) (fun k j => w (ix2 k j)) j := by
  pointwise [k0_pay6]
  simp only [pay4_apply]
  rfl

/-- A row of the tile's projected keys, before the rotation. -/
def keyRow (x : FVec Ideal S512x1024 .f32) (g : FVec Ideal S1x1024 .f32) (w : FVec Ideal S1024x1024 .bf16)
    (q : Fin 1024) (r : Fin 512) : EReal :=
  ∑ k : Fin 1024, w (ix2 q k) * rms (fun l => x (ix2 r l)) (fun l => g (ix2 0 l)) k

/-- Four copies of 128 entries, one after the other. -/
theorem copies (f : Fin 128 → EReal) (q : Fin 512) :
    (if h : q.val < 128 then f ⟨q.val, h⟩ else if h : q.val - 128 < 128 then f ⟨q.val - 128, h⟩
      else if h : q.val - 128 - 128 < 128 then f ⟨q.val - 128 - 128, h⟩ else f ⟨q.val - 128 - 128 - 128, by omega⟩)
      = f ⟨q.val % 128, by omega⟩ := by
  split_ifs <;> (refine congrArg f (Fin.ext ?_); dsimp only; omega)

/-- The tile's rotated keys, one column per row of the tile. -/
theorem pay5_apply (x : FVec Ideal S512x1024 .f32) (g : FVec Ideal S1x1024 .f32) (w : FVec Ideal S1024x1024 .bf16)
    (ct st : FVec Ideal S128x512 .f32) (q r : Fin 512) :
    k0_pay5 (F := Ideal) x g w ct st (ix3 0 q r)
      = keyRow x g w ⟨q.val, by omega⟩ r * ct (ix2 ⟨q.val % 128, by omega⟩ r)
        + keyRow x g w ⟨512 + q.val, by omega⟩ r * st (ix2 ⟨q.val % 128, by omega⟩ r) := by
  pointwise [k0_pay5]
  simp only [pay4_apply]
  exact congrArg₂ (fun u v => keyRow x g w ⟨q.val, by omega⟩ r * u + keyRow x g w ⟨512 + q.val, by omega⟩ r * v)
    (copies (fun e => ct (ix2 e r)) q) (copies (fun e => st (ix2 e r)) q)

section Tile

variable (x : FVec Ideal S512x1024 .f32) (g : FVec Ideal S1x1024 .f32) (wk : FVec Ideal S1024x1024 .bf16)
  (w : FVec Ideal S1024x1536 .bf16) (ct st : FVec Ideal S128x512 .f32)

theorem outKey_apply (q r : Fin 512) :
    out0_6 (F := Ideal) x g wk w ct st (ix3 0 q r)
      = keyRow x g wk ⟨q.val, by omega⟩ r * ct (ix2 ⟨q.val % 128, by omega⟩ r)
        + keyRow x g wk ⟨512 + q.val, by omega⟩ r * st (ix2 ⟨q.val % 128, by omega⟩ r) := by
  have hz : (![0, 0] : Fin 2 → ℕ) = fun _ => 0 := by decide
  have hz3 : (![0, 0, 0] : Fin 3 → ℕ) = fun _ => 0 := by decide
  unfold out0_6
  rw [View.canon_unit_zero hz3]
  simp only [View.ld_unit_zero (S := S512x1024) hz, View.ld_unit_zero (S := S1x1024) hz, View.ld_unit_zero (S := S1024x1024) hz,
    View.ld_unit_zero (S := S128x512) hz]
  exact pay5_apply x g wk ct st q r

theorem rest_apply (r : Fin 512) (j : Fin 1536) :
    k0_pay7 (F := Ideal) x g wk w ct st (ix2 r j) = proj (fun l => x (ix2 r l)) (fun l => g (ix2 0 l)) (fun k j => w (ix2 k j)) j := by
  have hz : (![0, 0] : Fin 2 → ℕ) = fun _ => 0 := by decide
  unfold k0_pay7
  simp only [View.ld_unit_zero (S := S512x1024) hz, View.ld_unit_zero (S := S1x1024) hz, View.ld_unit_zero (S := S1024x1536) hz]
  exact pay6_apply x g w r j

theorem outV_apply (r q : Fin 512) :
    out0_7 (F := Ideal) x g wk w ct st (ix2 r q)
      = proj (fun l => x (ix2 r l)) (fun l => g (ix2 0 l)) (fun k j => w (ix2 k j)) ⟨q.val, by omega⟩ := by
  have hz : (![0, 0] : Fin 2 → ℕ) = fun _ => 0 := by decide
  unfold out0_7
  rw [View.canon_unit_zero hz]
  refine Eq.trans ?_ (rest_apply x g wk w ct st r ⟨q.val, by omega⟩)
  pointwise [k0_pay1]

theorem outVSwap_apply (r q : Fin 512) :
    out0_8 (F := Ideal) x g wk w ct st (ix2 r q)
      = proj (fun l => x (ix2 r l)) (fun l => g (ix2 0 l)) (fun k j => w (ix2 k j)) ⟨512 + q.val, by omega⟩ := by
  have hz : (![0, 0] : Fin 2 → ℕ) = fun _ => 0 := by decide
  unfold out0_8
  rw [View.canon_unit_zero hz]
  refine Eq.trans ?_ (rest_apply x g wk w ct st r ⟨512 + q.val, by omega⟩)
  pointwise [k0_pay2]

theorem outC_apply (r q : Fin 512) :
    out0_9 (F := Ideal) x g wk w ct st (ix2 r q)
      = proj (fun l => x (ix2 r l)) (fun l => g (ix2 0 l)) (fun k j => w (ix2 k j)) ⟨1024 + q.val, by omega⟩ := by
  have hz : (![0, 0] : Fin 2 → ℕ) = fun _ => 0 := by decide
  unfold out0_9
  rw [View.canon_unit_zero hz]
  refine Eq.trans ?_ (rest_apply x g wk w ct st r ⟨1024 + q.val, by omega⟩)
  pointwise [k0_pay3]

end Tile

/-! ## The blocks of the prepared arrays -/

variable (m : (ℓ : Loc nD τ sig) → Buf (Elt Ideal) ℓ) (c : Dev nD)

theorem idx_x : ∀ t : Fin cfg0.N, win0_0.index t 0 = t.val ∧ win0_0.index t 1 = 0 :=
  (by decide +kernel : ∀ t : Fin grid0.N, _)
theorem idx_g : ∀ t : Fin cfg0.N, win0_1.index t 0 = 0 ∧ win0_1.index t 1 = 0 :=
  (by decide +kernel : ∀ t : Fin grid0.N, _)
theorem idx_wk : ∀ t : Fin cfg0.N, win0_2.index t 0 = 0 ∧ win0_2.index t 1 = 0 :=
  (by decide +kernel : ∀ t : Fin grid0.N, _)
theorem idx_w : ∀ t : Fin cfg0.N, win0_3.index t 0 = 0 ∧ win0_3.index t 1 = 0 :=
  (by decide +kernel : ∀ t : Fin grid0.N, _)
theorem idx_cos : ∀ t : Fin cfg0.N, win0_4.index t 0 = 0 ∧ win0_4.index t 1 = t.val % 8 :=
  (by decide +kernel : ∀ t : Fin grid0.N, _)
theorem idx_sin : ∀ t : Fin cfg0.N, win0_5.index t 0 = 0 ∧ win0_5.index t 1 = t.val % 8 :=
  (by decide +kernel : ∀ t : Fin grid0.N, _)
theorem idx_key : ∀ t : Fin cfg0.N, win0_6.index t 0 = t.val / 8 ∧ win0_6.index t 1 = 0 ∧ win0_6.index t 2 = t.val % 8 :=
  (by decide +kernel : ∀ t : Fin grid0.N, _)
theorem idx_v : ∀ t : Fin cfg0.N, win0_7.index t 0 = t.val ∧ win0_7.index t 1 = 0 :=
  (by decide +kernel : ∀ t : Fin grid0.N, _)
theorem idx_vSwap : ∀ t : Fin cfg0.N, win0_8.index t 0 = t.val ∧ win0_8.index t 1 = 0 :=
  (by decide +kernel : ∀ t : Fin grid0.N, _)
theorem idx_c : ∀ t : Fin cfg0.N, win0_9.index t 0 = t.val ∧ win0_9.index t 1 = 0 :=
  (by decide +kernel : ∀ t : Fin grid0.N, _)

/-- The array row of tile row `r` at grid point `t`. -/
abbrev rowAt (t : Fin cfg0.N) (r : Fin 512) : Fin 16384 := ⟨t.val * 512 + r.val, by have := lt_of_lt_of_eq t.isLt N_0; omega⟩

/-- The position, in its sequence, of tile row `r` at grid point `t`. -/
abbrev posAt (t : Fin cfg0.N) (r : Fin 512) : Fin 4096 := ⟨t.val % 8 * 512 + r.val, by omega⟩

theorem blk0 (t : Fin cfg0.N) (r : Fin 512) (k : Fin 1024) : (iblk m c 0 t : FVec Ideal S512x1024 .f32) (ix2 r k)
    = (V m c main_v56 : FVec Ideal S16384x1024 .f32) (ix2 (rowAt t r) k) := by
  unfold iblk
  rw [View.read_apply]
  show (V m c main_v56 : FVec Ideal S16384x1024 .f32) _ = _
  congr 1
  funext a
  apply Fin.ext
  match a with
  | ⟨0, _⟩ => show win0_0.index t 0 * 512 + 1 * r.val = t.val * 512 + r.val; rw [(idx_x t).1]; omega
  | ⟨1, _⟩ => show win0_0.index t 1 * 1024 + 1 * k.val = k.val; rw [(idx_x t).2]; omega

theorem blk1 (t : Fin cfg0.N) (k : Fin 1024) : (iblk m c 1 t : FVec Ideal S1x1024 .f32) (ix2 0 k)
    = (V m c main_v59 : FVec Ideal S1x1024 .f32) (ix2 0 k) := by
  unfold iblk
  rw [View.read_apply]
  show (V m c main_v59 : FVec Ideal S1x1024 .f32) _ = _
  congr 1
  funext a
  apply Fin.ext
  match a with
  | ⟨0, _⟩ => show win0_1.index t 0 * 1 + 1 * 0 = 0; rw [(idx_g t).1]
  | ⟨1, _⟩ => show win0_1.index t 1 * 1024 + 1 * k.val = k.val; rw [(idx_g t).2]; omega

theorem blk2 (t : Fin cfg0.N) (q k : Fin 1024) : (iblk m c 2 t : FVec Ideal S1024x1024 .bf16) (ix2 q k)
    = (V m c main_v12 : FVec Ideal S1024x1024 .bf16) (ix2 q k) := by
  unfold iblk
  rw [View.read_apply]
  show (V m c main_v12 : FVec Ideal S1024x1024 .bf16) _ = _
  congr 1
  funext a
  apply Fin.ext
  match a with
  | ⟨0, _⟩ => show win0_2.index t 0 * 1024 + 1 * q.val = q.val; rw [(idx_wk t).1]; omega
  | ⟨1, _⟩ => show win0_2.index t 1 * 1024 + 1 * k.val = k.val; rw [(idx_wk t).2]; omega

theorem blk3 (t : Fin cfg0.N) (k : Fin 1024) (j : Fin 1536) : (iblk m c 3 t : FVec Ideal S1024x1536 .bf16) (ix2 k j)
    = (V m c main_v29 : FVec Ideal S1024x1536 .bf16) (ix2 k j) := by
  unfold iblk
  rw [View.read_apply]
  show (V m c main_v29 : FVec Ideal S1024x1536 .bf16) _ = _
  congr 1
  funext a
  apply Fin.ext
  match a with
  | ⟨0, _⟩ => show win0_3.index t 0 * 1024 + 1 * k.val = k.val; rw [(idx_w t).1]; omega
  | ⟨1, _⟩ => show win0_3.index t 1 * 1536 + 1 * j.val = j.val; rw [(idx_w t).2]; omega

theorem blk4 (t : Fin cfg0.N) (e : Fin 128) (r : Fin 512) : (iblk m c 4 t : FVec Ideal S128x512 .f32) (ix2 e r)
    = (V m c main_v57 : FVec Ideal S128x4096 .f32) (ix2 e (posAt t r)) := by
  unfold iblk
  rw [View.read_apply]
  show (V m c main_v57 : FVec Ideal S128x4096 .f32) _ = _
  congr 1
  funext a
  apply Fin.ext
  match a with
  | ⟨0, _⟩ => show win0_4.index t 0 * 128 + 1 * e.val = e.val; rw [(idx_cos t).1]; omega
  | ⟨1, _⟩ => show win0_4.index t 1 * 512 + 1 * r.val = t.val % 8 * 512 + r.val; rw [(idx_cos t).2]; omega

theorem blk5 (t : Fin cfg0.N) (e : Fin 128) (r : Fin 512) : (iblk m c 5 t : FVec Ideal S128x512 .f32) (ix2 e r)
    = (V m c main_v58 : FVec Ideal S128x4096 .f32) (ix2 e (posAt t r)) := by
  unfold iblk
  rw [View.read_apply]
  show (V m c main_v58 : FVec Ideal S128x4096 .f32) _ = _
  congr 1
  funext a
  apply Fin.ext
  match a with
  | ⟨0, _⟩ => show win0_5.index t 0 * 128 + 1 * e.val = e.val; rw [(idx_sin t).1]; omega
  | ⟨1, _⟩ => show win0_5.index t 1 * 512 + 1 * r.val = t.val % 8 * 512 + r.val; rw [(idx_sin t).2]; omega

/-! ## The result arrays -/

/-- The projection of row `R` of the given input. -/
abbrev projOf (R : Fin 16384) (j : Fin 1536) : EReal :=
  proj (rows (m (c.tc.loc main_arg0)) R) (fun k => (m (c.tc.loc main_arg1) : FVec Ideal S1024 .f32) (ix1 k)) (wOf m c) j

theorem norm_blk (t : Fin cfg0.N) (r : Fin 512) (k : Fin 1024) :
    rms (fun l => (iblk m c 0 t : FVec Ideal S512x1024 .f32) (ix2 r l)) (fun l => (iblk m c 1 t : FVec Ideal S1x1024 .f32) (ix2 0 l)) k
      = rms (rows (m (c.tc.loc main_arg0)) (rowAt t r)) (fun k => (m (c.tc.loc main_arg1) : FVec Ideal S1024 .f32) (ix1 k)) k := by
  have e0 := funext fun k => (blk0 m c t r k).trans (arr_x m c (rowAt t r) k)
  have e1 := funext fun k => (blk1 m c t k).trans (arr_g m c k)
  rw [e0, e1]

/-- A projected key of the tile, where the weights' row `q` is the projection's column `j`. -/
theorem keyRow_blk (t : Fin cfg0.N) (q : Fin 1024) (j : Fin 1536) (r : Fin 512)
    (h : ∀ k, (V m c main_v12 : FVec Ideal S1024x1024 .bf16) (ix2 q k) = wOf m c k j) :
    keyRow (iblk m c 0 t) (iblk m c 1 t) (iblk m c 2 t) q r = projOf m c (rowAt t r) j := by
  unfold keyRow projOf proj
  refine Finset.sum_congr rfl fun k _ => ?_
  rw [norm_blk, mul_comm]
  exact congrArg _ ((blk2 m c t q k).trans (h k))

theorem proj_blk (t : Fin cfg0.N) (q j : Fin 1536) (r : Fin 512)
    (h : ∀ k, (V m c main_v29 : FVec Ideal S1024x1536 .bf16) (ix2 k q) = wOf m c k j) :
    proj (fun l => (iblk m c 0 t : FVec Ideal S512x1024 .f32) (ix2 r l)) (fun l => (iblk m c 1 t : FVec Ideal S1x1024 .f32) (ix2 0 l))
      (fun k j => (iblk m c 3 t : FVec Ideal S1024x1536 .bf16) (ix2 k j)) q = projOf m c (rowAt t r) j := by
  unfold projOf proj
  refine Finset.sum_congr rfl fun k _ => ?_
  rw [norm_blk]
  exact congrArg _ ((blk3 m c t k q).trans (h k))

theorem flush_out : ∀ t : Fin cfg0.N, (cfg0.win 6).flush t = true ∧ (cfg0.win 7).flush t = true ∧ (cfg0.win 8).flush t = true
    ∧ (cfg0.win 9).flush t = true :=
  (by decide +kernel : ∀ t : Fin grid0.N, _)

/-- The rotated keys, at sequence `b`, place `q` and position `p`. -/
theorem key_result (b : Fin 4) (q : Fin 512) (p : Fin 4096) :
    ((dats m 0 c).arrAt 6 cfg0.N : FVec Ideal S4x512x4096 .bf16) (ix3 b q p)
      = key (projOf m c ⟨b.val * 4096 + p.val, by omega⟩) p q := by
  let t : Fin cfg0.N := ⟨b.val * 8 + p.val / 512, lt_of_lt_of_eq (by omega) N_0.symm⟩
  let r : Fin 512 := ⟨p.val % 512, by omega⟩
  have hR : (⟨b.val * 4096 + p.val, by omega⟩ : Fin 16384) = rowAt t r :=
    Fin.ext (by show b.val * 4096 + p.val = (b.val * 8 + p.val / 512) * 512 + p.val % 512; omega)
  have hp : posAt t r = p := Fin.ext (by show (b.val * 8 + p.val / 512) % 8 * 512 + p.val % 512 = p.val; omega)
  have hl : (⟨q.val % 128 % 64, by omega⟩ : Fin 64) = ⟨q.val % 64, by omega⟩ := Fin.ext (by show q.val % 128 % 64 = q.val % 64; omega)
  have h := congrFun (Value.blocks6 (F := Ideal) m c t (flush_out t).1) (ix3 0 q r : S1x512x512.Idx)
  rw [Value.flushed6, View.read_apply] at h
  have hi : ((dats m 0 c).arrAt 6 cfg0.N : FVec Ideal S4x512x4096 .bf16) (ix3 b q p)
      = out0_6 (F := Ideal) (iblk m c 0 t) (iblk m c 1 t) (iblk m c 2 t) (iblk m c 3 t) (iblk m c 4 t) (iblk m c 5 t) (ix3 0 q r) := by
    refine Eq.trans ?_ h
    refine congrArg (fun i => ((dats m 0 c).arrAt 6 cfg0.N : FVec Ideal S4x512x4096 .bf16) i) ?_
    funext a
    apply Fin.ext
    match a with
    | ⟨0, _⟩ =>
      show b.val = win0_6.index t 0 * 1 + 1 * 0
      rw [(idx_key t).1]; show b.val = (b.val * 8 + p.val / 512) / 8 * 1 + 1 * 0; omega
    | ⟨1, _⟩ => show q.val = win0_6.index t 1 * 512 + 1 * q.val; rw [(idx_key t).2.1]; omega
    | ⟨2, _⟩ =>
      show p.val = win0_6.index t 2 * 512 + 1 * (p.val % 512)
      rw [(idx_key t).2.2]; show p.val = (b.val * 8 + p.val / 512) % 8 * 512 + 1 * (p.val % 512); omega
  rw [hi, outKey_apply, hR, ← key_tables]
  rw [keyRow_blk m c t _ (col 2 4 q) r fun k => keyW_low m c k q, keyRow_blk m c t _ (col 2 4 (partner q)) r fun k => keyW_high m c k q]
  have ec := (blk4 m c t ⟨q.val % 128, by omega⟩ r).trans (cosT m c (posAt t r) _)
  have es := (blk5 m c t ⟨q.val % 128, by omega⟩ r).trans (sinT m c (posAt t r) _)
  rw [hp, hl] at ec es
  rw [ec, es]

/-- The values, at row `R` and place `q`. -/
theorem v_result (R : Fin 16384) (q : Fin 512) :
    ((dats m 0 c).arrAt 7 cfg0.N : FVec Ideal S16384x512 .bf16) (ix2 R q) = projOf m c R (col 3 5 q) := by
  let t : Fin cfg0.N := ⟨R.val / 512, lt_of_lt_of_eq (by omega) N_0.symm⟩
  let r : Fin 512 := ⟨R.val % 512, by omega⟩
  have hR : R = rowAt t r := Fin.ext (by show R.val = R.val / 512 * 512 + R.val % 512; omega)
  have h := congrFun (Value.blocks7 (F := Ideal) m c t (flush_out t).2.1) (ix2 r q : S512x512.Idx)
  rw [Value.flushed7, View.read_apply] at h
  have hi : ((dats m 0 c).arrAt 7 cfg0.N : FVec Ideal S16384x512 .bf16) (ix2 R q)
      = out0_7 (F := Ideal) (iblk m c 0 t) (iblk m c 1 t) (iblk m c 2 t) (iblk m c 3 t) (iblk m c 4 t) (iblk m c 5 t) (ix2 r q) := by
    refine Eq.trans ?_ h
    refine congrArg (fun i => ((dats m 0 c).arrAt 7 cfg0.N : FVec Ideal S16384x512 .bf16) i) ?_
    funext a
    apply Fin.ext
    match a with
    | ⟨0, _⟩ =>
      show R.val = win0_7.index t 0 * 512 + 1 * (R.val % 512)
      rw [(idx_v t).1]; show R.val = R.val / 512 * 512 + 1 * (R.val % 512); omega
    | ⟨1, _⟩ => show q.val = win0_7.index t 1 * 512 + 1 * q.val; rw [(idx_v t).2]; omega
  rw [hi, outV_apply, proj_blk m c t _ (col 3 5 q) r fun k => restW_0 m c k q, ← hR]

/-- The values with the tensors exchanged, at row `R` and place `q`. -/
theorem vSwap_result (R : Fin 16384) (q : Fin 512) :
    ((dats m 0 c).arrAt 8 cfg0.N : FVec Ideal S16384x512 .bf16) (ix2 R q) = projOf m c R (col 5 3 q) := by
  let t : Fin cfg0.N := ⟨R.val / 512, lt_of_lt_of_eq (by omega) N_0.symm⟩
  let r : Fin 512 := ⟨R.val % 512, by omega⟩
  have hR : R = rowAt t r := Fin.ext (by show R.val = R.val / 512 * 512 + R.val % 512; omega)
  have h := congrFun (Value.blocks8 (F := Ideal) m c t (flush_out t).2.2.1) (ix2 r q : S512x512.Idx)
  rw [Value.flushed8, View.read_apply] at h
  have hi : ((dats m 0 c).arrAt 8 cfg0.N : FVec Ideal S16384x512 .bf16) (ix2 R q)
      = out0_8 (F := Ideal) (iblk m c 0 t) (iblk m c 1 t) (iblk m c 2 t) (iblk m c 3 t) (iblk m c 4 t) (iblk m c 5 t) (ix2 r q) := by
    refine Eq.trans ?_ h
    refine congrArg (fun i => ((dats m 0 c).arrAt 8 cfg0.N : FVec Ideal S16384x512 .bf16) i) ?_
    funext a
    apply Fin.ext
    match a with
    | ⟨0, _⟩ =>
      show R.val = win0_8.index t 0 * 512 + 1 * (R.val % 512)
      rw [(idx_vSwap t).1]; show R.val = R.val / 512 * 512 + 1 * (R.val % 512); omega
    | ⟨1, _⟩ => show q.val = win0_8.index t 1 * 512 + 1 * q.val; rw [(idx_vSwap t).2]; omega
  rw [hi, outVSwap_apply, proj_blk m c t _ (col 5 3 q) r fun k => restW_1 m c k q, ← hR]

/-- The columns to be compressed, at row `R` and place `q`. -/
theorem c_result (R : Fin 16384) (q : Fin 512) :
    ((dats m 0 c).arrAt 9 cfg0.N : FVec Ideal S16384x512 .f32) (ix2 R q) = projOf m c R (col 0 1 q) := by
  let t : Fin cfg0.N := ⟨R.val / 512, lt_of_lt_of_eq (by omega) N_0.symm⟩
  let r : Fin 512 := ⟨R.val % 512, by omega⟩
  have hR : R = rowAt t r := Fin.ext (by show R.val = R.val / 512 * 512 + R.val % 512; omega)
  have h := congrFun (Value.blocks9 (F := Ideal) m c t (flush_out t).2.2.2) (ix2 r q : S512x512.Idx)
  rw [Value.flushed9, View.read_apply] at h
  have hi : ((dats m 0 c).arrAt 9 cfg0.N : FVec Ideal S16384x512 .f32) (ix2 R q)
      = out0_9 (F := Ideal) (iblk m c 0 t) (iblk m c 1 t) (iblk m c 2 t) (iblk m c 3 t) (iblk m c 4 t) (iblk m c 5 t) (ix2 r q) := by
    refine Eq.trans ?_ h
    refine congrArg (fun i => ((dats m 0 c).arrAt 9 cfg0.N : FVec Ideal S16384x512 .f32) i) ?_
    funext a
    apply Fin.ext
    match a with
    | ⟨0, _⟩ =>
      show R.val = win0_9.index t 0 * 512 + 1 * (R.val % 512)
      rw [(idx_c t).1]; show R.val = R.val / 512 * 512 + 1 * (R.val % 512); omega
    | ⟨1, _⟩ => show q.val = win0_9.index t 1 * 512 + 1 * q.val; rw [(idx_c t).2]; omega
  rw [hi, outC_apply, proj_blk m c t _ (col 0 1 q) r fun k => restW_2 m c k q, ← hR]

end Cert.Kv
-- ==== Proof.Kv.Reference.lean ====
/-
  What the key and value reference computes, at an index: its result terms cut into the normalisation, the projection,
  the six tensors, the rotation and the pairing, each read at an index.
-/
module

public import proofs.«01_k».proof.Proof.Gen.KvReferenceIdeal.Run
public import proofs.«01_k».proof.Proof.Kv.Math
public import Idealize.ShloMosaic.Lib.Tactic

@[expose] public section

set_option maxRecDepth 16384

noncomputable section

namespace Cert.Kv

open Idealize.ShloMosaic Cert.KvReferenceIdeal Cert.KvReferenceIdeal.Gen Cert.Ffn

/-- RMS normalisation of every row, scaled by `g`. -/
def rNorm (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2
    (Host.rsqrt (addf (Host.divf (broadcastInDim S4x4096x1 ![0, 1] bcast_S4x4096_S4x4096x1_0_1
        (Host.reduceAdd (mulf x x) (constant (F := Ideal) S_ .f32 0x00000000#32) reducesTo_S4x4096x1024_S4x4096_d2 h_S_))
        (broadcastInDim S4x4096x1 ![] bcast_S_S4x4096x1 (constant (F := Ideal) S_ .f32 0x44800000#32)))
      (broadcastInDim S4x4096x1 ![] bcast_S_S4x4096x1 (constant (F := Ideal) S_ .f32 0x358637BD#32))))))
    (broadcastInDim S4x4096x1024 ![0, 1, 2] bcast_S1x1x1024_S4x4096x1024_0_1_2
      (broadcastInDim S1x1x1024 ![2] bcast_S1024_S1x1x1024_2 g))

/-- The projection of the normalised rows. -/
def rProj (x : FVec Ideal S4x4096x1024 .f32) (g : FVec Ideal S1024 .f32) (w : FVec Ideal S1024x1536 .f32) :
    FVec Ideal S4x4096x1536 .f32 :=
  Host.dotGeneral dot_S4x4096x1024_S1024x1536_S4x4096x1536_2_0_01_1_n_n none (rNorm x g) w

theorem rNorm_apply (x : FVec Ideal S4x4096x1024 .f32) (g : FVec Ideal S1024 .f32) (b : Fin 4) (t : Fin 4096) (k : Fin 1024) :
    rNorm x g (ix3 b t k) = rms (fun l => x (ix3 b t l)) (fun l => g (ix1 l)) k := by
  pointwise [rNorm]
  rfl

theorem rProj_apply (x : FVec Ideal S4x4096x1024 .f32) (g : FVec Ideal S1024 .f32) (w : FVec Ideal S1024x1536 .f32)
    (b : Fin 4) (t : Fin 4096) (j : Fin 1536) :
    rProj x g w (ix3 b t j) = proj (fun l => x (ix3 b t l)) (fun l => g (ix1 l)) (fun k j => w (ix2 k j)) j := by
  pointwise [rProj]
  simp only [rNorm_apply]
  rfl

/-! ## The six tensors -/

def rT0 (P : FVec Ideal S4x4096x1536 .f32) : FVec Ideal S4x4096x4x64 .f32 :=
  shapeCast S4x4096x4x64 (extractStridedSlice S4x4096x1x4x64 ![0, 0, 0, 0, 0]
    (shapeCast S4x4096x6x4x64 P shapeCasts_S4x4096x1536_S4x4096x6x4x64) slices_S4x4096x6x4x64_S4x4096x1x4x64_0_0_0_0_0)
    shapeCasts_S4x4096x1x4x64_S4x4096x4x64

theorem rT0_apply (P : FVec Ideal S4x4096x1536 .f32) (b : Fin 4) (t : Fin 4096) (h : Fin 4) (e : Fin 64) :
    rT0 P (ix4 b t h e) = P (ix3 b t ⟨0 * 256 + h.val * 64 + e.val, by omega⟩) := by
  pointwise [rT0]

def rT1 (P : FVec Ideal S4x4096x1536 .f32) : FVec Ideal S4x4096x4x64 .f32 :=
  shapeCast S4x4096x4x64 (extractStridedSlice S4x4096x1x4x64 ![0, 0, 1, 0, 0]
    (shapeCast S4x4096x6x4x64 P shapeCasts_S4x4096x1536_S4x4096x6x4x64) slices_S4x4096x6x4x64_S4x4096x1x4x64_0_0_1_0_0)
    shapeCasts_S4x4096x1x4x64_S4x4096x4x64

theorem rT1_apply (P : FVec Ideal S4x4096x1536 .f32) (b : Fin 4) (t : Fin 4096) (h : Fin 4) (e : Fin 64) :
    rT1 P (ix4 b t h e) = P (ix3 b t ⟨1 * 256 + h.val * 64 + e.val, by omega⟩) := by
  pointwise [rT1]

def rT2 (P : FVec Ideal S4x4096x1536 .f32) : FVec Ideal S4x4096x4x64 .f32 :=
  shapeCast S4x4096x4x64 (extractStridedSlice S4x4096x1x4x64 ![0, 0, 2, 0, 0]
    (shapeCast S4x4096x6x4x64 P shapeCasts_S4x4096x1536_S4x4096x6x4x64) slices_S4x4096x6x4x64_S4x4096x1x4x64_0_0_2_0_0)
    shapeCasts_S4x4096x1x4x64_S4x4096x4x64

theorem rT2_apply (P : FVec Ideal S4x4096x1536 .f32) (b : Fin 4) (t : Fin 4096) (h : Fin 4) (e : Fin 64) :
    rT2 P (ix4 b t h e) = P (ix3 b t ⟨2 * 256 + h.val * 64 + e.val, by omega⟩) := by
  pointwise [rT2]

def rT3 (P : FVec Ideal S4x4096x1536 .f32) : FVec Ideal S4x4096x4x64 .f32 :=
  shapeCast S4x4096x4x64 (extractStridedSlice S4x4096x1x4x64 ![0, 0, 3, 0, 0]
    (shapeCast S4x4096x6x4x64 P shapeCasts_S4x4096x1536_S4x4096x6x4x64) slices_S4x4096x6x4x64_S4x4096x1x4x64_0_0_3_0_0)
    shapeCasts_S4x4096x1x4x64_S4x4096x4x64

theorem rT3_apply (P : FVec Ideal S4x4096x1536 .f32) (b : Fin 4) (t : Fin 4096) (h : Fin 4) (e : Fin 64) :
    rT3 P (ix4 b t h e) = P (ix3 b t ⟨3 * 256 + h.val * 64 + e.val, by omega⟩) := by
  pointwise [rT3]

def rT4 (P : FVec Ideal S4x4096x1536 .f32) : FVec Ideal S4x4096x4x64 .f32 :=
  shapeCast S4x4096x4x64 (extractStridedSlice S4x4096x1x4x64 ![0, 0, 4, 0, 0]
    (shapeCast S4x4096x6x4x64 P shapeCasts_S4x4096x1536_S4x4096x6x4x64) slices_S4x4096x6x4x64_S4x4096x1x4x64_0_0_4_0_0)
    shapeCasts_S4x4096x1x4x64_S4x4096x4x64

theorem rT4_apply (P : FVec Ideal S4x4096x1536 .f32) (b : Fin 4) (t : Fin 4096) (h : Fin 4) (e : Fin 64) :
    rT4 P (ix4 b t h e) = P (ix3 b t ⟨4 * 256 + h.val * 64 + e.val, by omega⟩) := by
  pointwise [rT4]

def rT5 (P : FVec Ideal S4x4096x1536 .f32) : FVec Ideal S4x4096x4x64 .f32 :=
  shapeCast S4x4096x4x64 (extractStridedSlice S4x4096x1x4x64 ![0, 0, 5, 0, 0]
    (shapeCast S4x4096x6x4x64 P shapeCasts_S4x4096x1536_S4x4096x6x4x64) slices_S4x4096x6x4x64_S4x4096x1x4x64_0_0_5_0_0)
    shapeCasts_S4x4096x1x4x64_S4x4096x4x64

theorem rT5_apply (P : FVec Ideal S4x4096x1536 .f32) (b : Fin 4) (t : Fin 4096) (h : Fin 4) (e : Fin 64) :
    rT5 P (ix4 b t h e) = P (ix3 b t ⟨5 * 256 + h.val * 64 + e.val, by omega⟩) := by
  pointwise [rT5]

/-! ## The rotation -/

/-- The cosine and sine of every position's angles, for every group. -/
def rAngle : FVec Ideal S4096x8 .f32 :=
  mulf (broadcastInDim S4096x8 ![0, 1] bcast_S4096x1_S4096x8_0_1 (broadcastInDim S4096x1 ![0] bcast_S4096_S4096x1_0
      (sitofp (F := Ideal) .f32 (iotaInDim S4096 32 0))))
    (broadcastInDim S4096x8 ![0, 1] bcast_S1x8_S4096x8_0_1 (broadcastInDim S1x8 ![1] bcast_S8_S1x8_1
      (Host.powf (broadcastInDim S8 ![] bcast_S_S8 (constant (F := Ideal) S_ .f32 0x48F42400#32))
        (Host.divf (Host.negf (sitofp (F := Ideal) .f32 (iotaInDim S8 32 0)))
          (broadcastInDim S8 ![] bcast_S_S8 (constant (F := Ideal) S_ .f32 0x41000000#32))))))

def rSpread (a : FVec Ideal S4096x8 .f32) : FVec Ideal S4x4096x4x8 .f32 :=
  broadcastInDim S4x4096x4x8 ![0, 1, 2, 3] bcast_S1x4096x1x8_S4x4096x4x8_0_1_2_3
    (broadcastInDim S1x4096x1x8 ![1, 2, 3] bcast_S4096x1x8_S1x4096x1x8_1_2_3
      (broadcastInDim S4096x1x8 ![0, 2] bcast_S4096x8_S4096x1x8_0_2 a))

theorem rAngle_apply (t : Fin 4096) (e : Fin 8) : rAngle (ix2 t e) = angle t e := by
  pointwise [rAngle]
  rfl

theorem rSpread_apply (a : FVec Ideal S4096x8 .f32) (b : Fin 4) (t : Fin 4096) (h : Fin 4) (e : Fin 8) :
    rSpread a (ix4 b t h e) = a (ix2 t e) := by
  pointwise [rSpread]

/-- The first and the second eight lanes. -/
def rLow (x : FVec Ideal S4x4096x4x64 .f32) : FVec Ideal S4x4096x4x8 .f32 :=
  extractStridedSlice S4x4096x4x8 ![0, 0, 0, 0] (extractStridedSlice S4x4096x4x16 ![0, 0, 0, 0] x
    slices_S4x4096x4x64_S4x4096x4x16_0_0_0_0) slices_S4x4096x4x16_S4x4096x4x8_0_0_0_0
def rHigh (x : FVec Ideal S4x4096x4x64 .f32) : FVec Ideal S4x4096x4x8 .f32 :=
  extractStridedSlice S4x4096x4x8 ![0, 0, 0, 8] (extractStridedSlice S4x4096x4x16 ![0, 0, 0, 0] x
    slices_S4x4096x4x64_S4x4096x4x16_0_0_0_0) slices_S4x4096x4x16_S4x4096x4x8_0_0_0_8

/-- The rotated tensor. -/
def rRope (x : FVec Ideal S4x4096x4x64 .f32) : FVec Ideal S4x4096x4x64 .f32 :=
  concatenate S4x4096x4x64 3 [⟨S4x4096x4x16, concatenate S4x4096x4x16 3
      [⟨S4x4096x4x8, subf (mulf (rLow x) (rSpread (Host.cos rAngle))) (mulf (rHigh x) (rSpread (Host.sin rAngle)))⟩,
       ⟨S4x4096x4x8, addf (mulf (rHigh x) (rSpread (Host.cos rAngle))) (mulf (rLow x) (rSpread (Host.sin rAngle)))⟩]
      concatenates_S4x4096x4x8_S4x4096x4x8_S4x4096x4x16_d3⟩,
    ⟨S4x4096x4x48, extractStridedSlice S4x4096x4x48 ![0, 0, 0, 16] x slices_S4x4096x4x64_S4x4096x4x48_0_0_0_16⟩]
    concatenates_S4x4096x4x16_S4x4096x4x48_S4x4096x4x64_d3

theorem rLow_apply (x : FVec Ideal S4x4096x4x64 .f32) (b : Fin 4) (t : Fin 4096) (h : Fin 4) (e : Fin 8) :
    rLow x (ix4 b t h e) = x (ix4 b t h ⟨e.val, by omega⟩) := by
  pointwise [rLow]
theorem rHigh_apply (x : FVec Ideal S4x4096x4x64 .f32) (b : Fin 4) (t : Fin 4096) (h : Fin 4) (e : Fin 8) :
    rHigh x (ix4 b t h e) = x (ix4 b t h ⟨8 + e.val, by omega⟩) := by
  pointwise [rHigh]

theorem rRope_apply (x : FVec Ideal S4x4096x4x64 .f32) (b : Fin 4) (t : Fin 4096) (h : Fin 4) (e : Fin 64) :
    rRope x (ix4 b t h e) = rot (fun e => x (ix4 b t h e)) t e := by
  have hc : ∀ e, Host.cos rAngle (ix2 t e) = Ideal.cos (angle t e) := fun e => by pointwise; rw [rAngle_apply]
  have hs : ∀ e, Host.sin rAngle (ix2 t e) = Ideal.sin (angle t e) := fun e => by pointwise; rw [rAngle_apply]
  pointwise [rRope]
  simp only [rLow_apply, rHigh_apply, rSpread_apply, hc, hs]
  unfold rot
  by_cases h8 : e.val < 8
  · have h16 : e.val < 16 := by omega
    rw [dif_pos h16, dif_pos h8, dif_pos h8]
  · rw [dif_neg h8]
    by_cases h16 : e.val < 16
    · have ee : (⟨8 + (e.val - 8), by omega⟩ : Fin 64) = e := Fin.ext (by dsimp only; omega)
      rw [dif_pos h16, dif_neg h8, dif_pos h16, ee]
    · have ee : (⟨16 + (e.val - 16), by omega⟩ : Fin 64) = e := Fin.ext (by dsimp only; omega)
      rw [dif_neg h16, dif_neg h16, ee]

/-- Two tensors side by side per group. -/
def rPair (x y : FVec Ideal S4x4096x4x64 .f32) : FVec Ideal S4x4096x512 .f32 :=
  shapeCast S4x4096x512 (concatenate S4x4096x4x128 3 [⟨S4x4096x4x64, x⟩, ⟨S4x4096x4x64, y⟩]
    concatenates_S4x4096x4x64_S4x4096x4x64_S4x4096x4x128_d3) shapeCasts_S4x4096x4x128_S4x4096x512

theorem rPair_apply (x y : FVec Ideal S4x4096x4x64 .f32) (b : Fin 4) (t : Fin 4096) (r : Fin 512) :
    rPair x y (ix3 b t r) = if h : r.val % 128 < 64 then x (ix4 b t ⟨r.val / 128, by omega⟩ ⟨r.val % 128, h⟩)
      else y (ix4 b t ⟨r.val / 128, by omega⟩ ⟨r.val % 128 - 64, by omega⟩) := by
  pointwise [rPair]

end Cert.Kv
-- ==== Proof.Kv.Results.lean ====
/-
  The four results of the key and value reference, at an index.
-/
module

public import proofs.«01_k».proof.Proof.Kv.Reference

@[expose] public section

set_option maxRecDepth 16384

noncomputable section

namespace Cert.Kv

open Idealize.ShloMosaic Cert.KvReferenceIdeal Cert.KvReferenceIdeal.Gen Cert.Ffn

/-! ## The four results -/

theorem trunc_apply {S : Shape} (X : FVec Ideal S .f32) (h : FTy.bits .bf16 < FTy.bits .f32) (i : S.Idx) :
    (truncf .bf16 X h : FVec Ideal S .bf16) i = X i := rfl

theorem rows_apply (X : FVec Ideal S4x4096x512 .f32) (R : Fin 16384) (q : Fin 512) :
    shapeCast S16384x512 X shapeCasts_S4x4096x512_S16384x512 (ix2 R q)
      = X (ix3 ⟨R.val / 4096, by omega⟩ ⟨R.val % 4096, by omega⟩ q) := by
  pointwise

theorem turned_apply (X : FVec Ideal S4x4096x512 .f32) (b : Fin 4) (p : Fin 4096) (q : Fin 512) :
    transpose S4x512x4096 [0, 2, 1] X transposes_S4x4096x512_S4x512x4096_0_2_1 (ix3 b q p) = X (ix3 b p q) := by
  pointwise

section Results

variable (x : FVec Ideal S4x4096x1024 .f32) (g : FVec Ideal S1024 .f32) (w : FVec Ideal S1024x1536 .f32)

def rKey : FVec Ideal S4x512x4096 .bf16 :=
  truncf .bf16 (transpose S4x512x4096 [0, 2, 1] (rPair (rRope (rT2 (rProj x g w))) (rRope (rT4 (rProj x g w))))
    transposes_S4x4096x512_S4x512x4096_0_2_1) bitsLt_bf16_f32
def rV : FVec Ideal S16384x512 .bf16 :=
  truncf .bf16 (shapeCast S16384x512 (rPair (rT3 (rProj x g w)) (rT5 (rProj x g w))) shapeCasts_S4x4096x512_S16384x512) bitsLt_bf16_f32
def rVSwap : FVec Ideal S16384x512 .bf16 :=
  truncf .bf16 (shapeCast S16384x512 (rPair (rT5 (rProj x g w)) (rT3 (rProj x g w))) shapeCasts_S4x4096x512_S16384x512) bitsLt_bf16_f32
def rC : FVec Ideal S16384x512 .f32 :=
  shapeCast S16384x512 (rPair (rT0 (rProj x g w)) (rT1 (rProj x g w))) shapeCasts_S4x4096x512_S16384x512

/-- The projection of row `R` of the given input. -/
abbrev rowProj (R : Fin 16384) (j : Fin 1536) : EReal := proj (rows x R) (fun k => g (ix1 k)) (fun k j => w (ix2 k j)) j

theorem row_split (b : Fin 4) (p : Fin 4096) (k : Fin 1024) : rows x ⟨b.val * 4096 + p.val, by omega⟩ k = x (ix3 b p k) := by
  have e0 : (b.val * 4096 + p.val) / 4096 = b.val := by omega
  have e1 : (b.val * 4096 + p.val) % 4096 = p.val := by omega
  unfold rows
  simp only [e0, e1, Fin.eta]

theorem rProj_row (b : Fin 4) (p : Fin 4096) (j : Fin 1536) :
    rProj x g w (ix3 b p j) = rowProj x g w ⟨b.val * 4096 + p.val, by omega⟩ j := by
  rw [rProj_apply, ← funext (row_split x b p)]

theorem rKey_pair (b : Fin 4) (q : Fin 512) (p : Fin 4096) :
    rKey x g w (ix3 b q p) = rPair (rRope (rT2 (rProj x g w))) (rRope (rT4 (rProj x g w))) (ix3 b p q) :=
  (trunc_apply _ _ _).trans (turned_apply _ b p q)

theorem rKey_apply (b : Fin 4) (q : Fin 512) (p : Fin 4096) :
    rKey x g w (ix3 b q p) = key (rowProj x g w ⟨b.val * 4096 + p.val, by omega⟩) p q := by
  rw [rKey_pair, rPair_apply, key_rot]
  by_cases h : q.val % 128 < 64
  · rw [dif_pos h, dif_pos h, rRope_apply]
    refine congrArg (fun y => rot y p _) (funext fun e => ?_)
    exact (rT2_apply _ _ _ _ _).trans (rProj_row x g w b p _)
  · rw [dif_neg h, dif_neg h, rRope_apply]
    refine congrArg (fun y => rot y p _) (funext fun e => ?_)
    exact (rT4_apply _ _ _ _ _).trans (rProj_row x g w b p _)

theorem rV_apply (R : Fin 16384) (q : Fin 512) : rV x g w (ix2 R q) = rowProj x g w R (col 3 5 q) := by
  have e : rV x g w (ix2 R q) = rPair (rT3 (rProj x g w)) (rT5 (rProj x g w))
      (ix3 ⟨R.val / 4096, by omega⟩ ⟨R.val % 4096, by omega⟩ q) :=
    (trunc_apply _ _ _).trans (rows_apply _ R q)
  rw [e, rPair_apply, col_pair 3 5 (rowProj x g w R) q]
  by_cases h : q.val % 128 < 64
  · rw [dif_pos h, dif_pos h]
    exact (rT3_apply _ _ _ _ _).trans (rProj_apply x g w _ _ _)
  · rw [dif_neg h, dif_neg h]
    exact (rT5_apply _ _ _ _ _).trans (rProj_apply x g w _ _ _)

theorem rVSwap_apply (R : Fin 16384) (q : Fin 512) : rVSwap x g w (ix2 R q) = rowProj x g w R (col 5 3 q) := by
  have e : rVSwap x g w (ix2 R q) = rPair (rT5 (rProj x g w)) (rT3 (rProj x g w))
      (ix3 ⟨R.val / 4096, by omega⟩ ⟨R.val % 4096, by omega⟩ q) :=
    (trunc_apply _ _ _).trans (rows_apply _ R q)
  rw [e, rPair_apply, col_pair 5 3 (rowProj x g w R) q]
  by_cases h : q.val % 128 < 64
  · rw [dif_pos h, dif_pos h]
    exact (rT5_apply _ _ _ _ _).trans (rProj_apply x g w _ _ _)
  · rw [dif_neg h, dif_neg h]
    exact (rT3_apply _ _ _ _ _).trans (rProj_apply x g w _ _ _)

theorem rC_apply (R : Fin 16384) (q : Fin 512) : rC x g w (ix2 R q) = rowProj x g w R (col 0 1 q) := by
  have e : rC x g w (ix2 R q) = rPair (rT0 (rProj x g w)) (rT1 (rProj x g w))
      (ix3 ⟨R.val / 4096, by omega⟩ ⟨R.val % 4096, by omega⟩ q) :=
    rows_apply _ R q
  rw [e, rPair_apply, col_pair 0 1 (rowProj x g w R) q]
  by_cases h : q.val % 128 < 64
  · rw [dif_pos h, dif_pos h]
    exact (rT0_apply _ _ _ _ _).trans (rProj_apply x g w _ _ _)
  · rw [dif_neg h, dif_neg h]
    exact (rT1_apply _ _ _ _ _).trans (rProj_apply x g w _ _ _)

end Results

end Cert.Kv
-- ==== Proof.Kv.Equation.lean ====
/-
  The four arrays of the key and value kernel are the four results of its reference.
-/
module

public import proofs.«01_k».proof.Proof.Kv.Kernel
public import proofs.«01_k».proof.Proof.Kv.Results

@[expose] public section

noncomputable section

namespace Cert.Kv

open Idealize.ShloMosaic Idealize.ShloMosaic.TcCoe Cert.KvKernelIdeal

variable (m : (ℓ : Loc nD τ sig) → Buf (Elt Ideal) ℓ) (c : Dev nD)

theorem key_eq : ((Gen.dats m 0 c).arrAt 6 cfg0.N : FVec Ideal S4x512x4096 .bf16)
    = rKey (m (c.tc.loc main_arg0)) (m (c.tc.loc main_arg1)) (m (c.tc.loc main_arg2)) := by
  funext j
  have e : j = (ix3 (j 0) (j 1) (j 2) : S4x512x4096.Idx) := by
    funext a
    match a with
    | ⟨0, _⟩ => rfl
    | ⟨1, _⟩ => rfl
    | ⟨2, _⟩ => rfl
  rw [e]
  exact (key_result m c (j 0) (j 1) (j 2)).trans (rKey_apply _ _ _ (j 0) (j 1) (j 2)).symm

theorem v_eq : ((Gen.dats m 0 c).arrAt 7 cfg0.N : FVec Ideal S16384x512 .bf16)
    = rV (m (c.tc.loc main_arg0)) (m (c.tc.loc main_arg1)) (m (c.tc.loc main_arg2)) := by
  funext j
  have e : j = (ix2 (j 0) (j 1) : S16384x512.Idx) := by
    funext a
    match a with
    | ⟨0, _⟩ => rfl
    | ⟨1, _⟩ => rfl
  rw [e]
  exact (v_result m c (j 0) (j 1)).trans (rV_apply _ _ _ (j 0) (j 1)).symm

theorem vSwap_eq : ((Gen.dats m 0 c).arrAt 8 cfg0.N : FVec Ideal S16384x512 .bf16)
    = rVSwap (m (c.tc.loc main_arg0)) (m (c.tc.loc main_arg1)) (m (c.tc.loc main_arg2)) := by
  funext j
  have e : j = (ix2 (j 0) (j 1) : S16384x512.Idx) := by
    funext a
    match a with
    | ⟨0, _⟩ => rfl
    | ⟨1, _⟩ => rfl
  rw [e]
  exact (vSwap_result m c (j 0) (j 1)).trans (rVSwap_apply _ _ _ (j 0) (j 1)).symm

theorem c_eq : ((Gen.dats m 0 c).arrAt 9 cfg0.N : FVec Ideal S16384x512 .f32)
    = rC (m (c.tc.loc main_arg0)) (m (c.tc.loc main_arg1)) (m (c.tc.loc main_arg2)) := by
  funext j
  have e : j = (ix2 (j 0) (j 1) : S16384x512.Idx) := by
    funext a
    match a with
    | ⟨0, _⟩ => rfl
    | ⟨1, _⟩ => rfl
  rw [e]
  exact (c_result m c (j 0) (j 1)).trans (rC_apply _ _ _ (j 0) (j 1)).symm

end Cert.Kv
-- ==== Proof.Cmp.Math.lean ====
/-
  The compression of keys and values as scalar mathematics over the extended reals: a block of thirty-two consecutive
  positions plus its position embedding goes through a two-layer network; blocks start sixteen positions apart. The last
  half of the module folds the sums over 2048 interleaved lanes, half of them zero, into the network's own sums.
-/
module

public import proofs.«01_k».proof.Proof.Kv.Math

@[expose] public section

noncomputable section

namespace Cert.Cmp

open Idealize.ShloMosaic Cert.Ffn Cert.Kv

/-- Hidden unit `h` of block `n`: positions `16 n … 16 n + 31` of the head `z`, with the embedding `pe`, times `w`. -/
def hid (z : Fin 4096 → Fin 64 → EReal) (pe : Fin 32 → Fin 64 → EReal) (w : Fin 2048 → Fin 128 → EReal)
    (n : Fin 255) (h : Fin 128) : EReal :=
  ∑ k : Fin 2048, (z ⟨16 * n.val + k.val / 64, by omega⟩ ⟨k.val % 64, by omega⟩
    + pe ⟨k.val / 64, by omega⟩ ⟨k.val % 64, by omega⟩) * w k h

/-- Lane `e` of the compressed block `n`. -/
def cmp (z : Fin 4096 → Fin 64 → EReal) (pe : Fin 32 → Fin 64 → EReal) (w1 : Fin 2048 → Fin 128 → EReal)
    (w2 : Fin 128 → Fin 64 → EReal) (n : Fin 255) (e : Fin 64) : EReal :=
  ∑ h : Fin 128, gelu (hid z pe w1 n h) * w2 h e

/-- The last position of block `n`. -/
def lastPos (n : Fin 255) : Fin 4096 := ⟨16 * n.val + 31, by omega⟩

/-- The lane a rotation mixes with lane `e`. -/
def swap (e : Fin 64) : Fin 64 :=
  ⟨if e.val < 8 then e.val + 8 else if e.val < 16 then e.val - 8 else e.val, by split_ifs <;> omega⟩

/-- The rotation as a sum of two products with the tables. -/
theorem rot_tables (y : Fin 64 → EReal) (t : Fin 4096) (e : Fin 64) :
    y e * cosTab t e + y (swap e) * sinTab t e = rot y t e := by
  unfold cosTab sinTab rot
  by_cases h : e.val < 8
  · have es : swap e = ⟨8 + e.val, by omega⟩ := Fin.ext ((if_pos h).trans (Nat.add_comm _ _))
    rw [dif_pos h, dif_pos h, dif_pos h, mul_neg, sub_eq_add_neg, es]
  · rw [dif_neg h, dif_neg h, dif_neg h]
    by_cases h' : e.val < 16
    · have es : swap e = ⟨e.val - 8, by omega⟩ := Fin.ext ((if_neg h).trans (if_pos h'))
      rw [dif_pos h', dif_pos h', dif_pos h', es]
    · rw [dif_neg h', dif_neg h', dif_neg h', mul_one, mul_zero, add_zero]

/-- The block's last position as the 32-bit machine computes it. -/
theorem pos_bits : ∀ n : Fin 255, BitVec.ofNat 32 n.val * 16#32 + 32#32 - 1#32 = BitVec.ofNat 32 (lastPos n).val := by
  decide +kernel

/-! ## Sums over lanes -/

/-- A sum over `a b` places, as a sum over `a` rows of `b` places. -/
theorem sum_rows {a b N : ℕ} (hN : a * b = N) (f : Fin N → EReal) :
    ∑ k, f k = ∑ l : Fin a, ∑ e : Fin b, f ⟨b * l.val + e.val, by
      have := l.isLt; have := e.isLt
      calc b * l.val + e.val < b * l.val + b := by omega
        _ = b * (l.val + 1) := by ring
        _ ≤ b * a := Nat.mul_le_mul_left b (by omega)
        _ = N := by rw [Nat.mul_comm]; exact hN⟩ := by
  subst hN
  rw [← finProdFinEquiv.sum_comp, Fintype.sum_prod_type]
  refine Finset.sum_congr rfl fun l _ => Finset.sum_congr rfl fun e _ => congrArg f (Fin.ext ?_)
  show e.val + b * l.val = b * l.val + e.val
  omega

/-- A sum over rows of 128 lanes whose upper half is zero. -/
theorem sum_lower (f : Fin 2048 → EReal) (g : Fin 1024 → EReal)
    (h0 : ∀ (l : Fin 16) (e : Fin 64), f ⟨128 * l.val + e.val, by omega⟩ = g ⟨64 * l.val + e.val, by omega⟩)
    (h1 : ∀ (l : Fin 16) (e : Fin 64), f ⟨128 * l.val + (64 + e.val), by omega⟩ = 0) : ∑ k, f k = ∑ k, g k := by
  rw [sum_rows (a := 16) (b := 128) rfl f, sum_rows (a := 16) (b := 64) rfl g]
  refine Finset.sum_congr rfl fun l _ => ?_
  rw [Fin.sum_univ_two_halves 64 64 rfl]
  rw [Finset.sum_eq_zero (s := Finset.univ) (f := fun i : Fin 64 => f ⟨128 * l.val + (64 + i.val), _⟩) fun e _ => h1 l e, add_zero]
  exact Finset.sum_congr rfl fun e _ => h0 l e

/-- A sum over rows of 128 lanes whose lower half is zero. -/
theorem sum_upper (f : Fin 2048 → EReal) (g : Fin 1024 → EReal)
    (h0 : ∀ (l : Fin 16) (e : Fin 64), f ⟨128 * l.val + (64 + e.val), by omega⟩ = g ⟨64 * l.val + e.val, by omega⟩)
    (h1 : ∀ (l : Fin 16) (e : Fin 64), f ⟨128 * l.val + e.val, by omega⟩ = 0) : ∑ k, f k = ∑ k, g k := by
  rw [sum_rows (a := 16) (b := 128) rfl f, sum_rows (a := 16) (b := 64) rfl g]
  refine Finset.sum_congr rfl fun l _ => ?_
  rw [Fin.sum_univ_two_halves 64 64 rfl]
  rw [Finset.sum_eq_zero (s := Finset.univ) (f := fun i : Fin 64 => f ⟨128 * l.val + i.val, _⟩) fun e _ => h1 l e, zero_add]
  exact Finset.sum_congr rfl fun e _ => h0 l e

/-- One half of a hidden unit's sum: half `s` of the block, whose sixteen positions start at `p`. -/
def half (z : Fin 4096 → Fin 64 → EReal) (pe : Fin 32 → Fin 64 → EReal) (w : Fin 2048 → Fin 128 → EReal)
    (s : Fin 2) (p : ℕ) (hp : p + 16 ≤ 4096) (h : Fin 128) : EReal :=
  ∑ k : Fin 1024, (z ⟨p + k.val / 64, by omega⟩ ⟨k.val % 64, by omega⟩
    + pe ⟨16 * s.val + k.val / 64, by omega⟩ ⟨k.val % 64, by omega⟩) * w ⟨1024 * s.val + k.val, by omega⟩ h

/-- A hidden unit is the sum of its two halves. -/
theorem hid_halves (z : Fin 4096 → Fin 64 → EReal) (pe : Fin 32 → Fin 64 → EReal) (w : Fin 2048 → Fin 128 → EReal)
    (n : Fin 255) (h : Fin 128) :
    hid z pe w n h = half z pe w 0 (16 * n.val) (by omega) h + half z pe w 1 (16 * (n.val + 1)) (by omega) h := by
  unfold hid half
  rw [Fin.sum_univ_two_halves 1024 1024 rfl]
  refine congrArg₂ (· + ·) (Finset.sum_congr rfl fun k _ => ?_) (Finset.sum_congr rfl fun k _ => ?_)
  · have e0 : (⟨k.val, by omega⟩ : Fin 2048) = ⟨1024 * (0 : Fin 2).val + k.val, by omega⟩ :=
      Fin.ext (by show k.val = 1024 * 0 + k.val; omega)
    have e1 : (⟨k.val / 64, by omega⟩ : Fin 32) = ⟨16 * (0 : Fin 2).val + k.val / 64, by omega⟩ :=
      Fin.ext (by show k.val / 64 = 16 * 0 + k.val / 64; omega)
    rw [e0, ← e1]
    simp
  · have e0 : (⟨1024 + k.val, by omega⟩ : Fin 2048) = ⟨1024 * (1 : Fin 2).val + k.val, by omega⟩ :=
      Fin.ext (by show 1024 + k.val = 1024 * 1 + k.val; omega)
    have e1 : (⟨(1024 + k.val) / 64, by omega⟩ : Fin 32) = ⟨16 * (1 : Fin 2).val + k.val / 64, by omega⟩ :=
      Fin.ext (by show (1024 + k.val) / 64 = 16 * 1 + k.val / 64; omega)
    have e2 : (⟨16 * n.val + (1024 + k.val) / 64, by omega⟩ : Fin 4096) = ⟨16 * (n.val + 1) + k.val / 64, by omega⟩ :=
      Fin.ext (by show 16 * n.val + (1024 + k.val) / 64 = 16 * (n.val + 1) + k.val / 64; omega)
    have e3 : (⟨(1024 + k.val) % 64, by omega⟩ : Fin 64) = ⟨k.val % 64, by omega⟩ :=
      Fin.ext (by show (1024 + k.val) % 64 = k.val % 64; omega)
    rw [← e0]
    show (z ⟨16 * n.val + (1024 + k.val) / 64, _⟩ ⟨(1024 + k.val) % 64, _⟩ + pe ⟨(1024 + k.val) / 64, _⟩ ⟨(1024 + k.val) % 64, _⟩) * _ = _
    rw [e2, e1, e3]

end Cert.Cmp
-- ==== Proof.Cmp.Body.lean ====
/-
  The compression kernel's body at an index: sixteen interleaved loads side by side, the two halves of the hidden units, the
  activation, and the two products that end in the key block and the value block.
-/
module

public import proofs.«01_k».proof.Proof.Cmp.Math
public import proofs.«01_k».proof.Proof.Gen.CmpKernelIdeal.Skeleton
public import Idealize.ShloMosaic.Lib.Tactic

@[expose] public section

set_option maxRecDepth 16384

noncomputable section

namespace Cert.Cmp

open Idealize.ShloMosaic Idealize.ShloMosaic.TcCoe Cert.CmpKernelIdeal Cert.CmpKernelIdeal.Gen Cert.Ffn Cert.Kv

/-! ## The interleaved tokens -/

/-- What a load at spaced coordinates reads from the contents `X`. -/
def spaced {S : Shape} {A : Type} (X : S.Idx → A) (r : LoadRect S) : r.shape.Idx → A := fun i => X (r.idx i)

theorem spaced_inb (l : Fin 16) : ∀ a : Fin 3, S1x256x128.size a = 0 ∨
    (![0, l.val, 0] : Fin 3 → ℕ) a + (![1, 16, 1] : Fin 3 → ℕ) a * (S1x256x128.size a - 1) < S1x4096x128.size a := by
  have hl := l.isLt
  intro a
  match a with
  | ⟨0, _⟩ => right; show 0 + 1 * (1 - 1) < 1; omega
  | ⟨1, _⟩ => right; show l.val + 16 * (256 - 1) < 4096; omega
  | ⟨2, _⟩ => right; show 0 + 1 * (128 - 1) < 128; omega

/-- Every sixteenth position, from position `l` on. -/
def piece (x : FVec Ideal S1x4096x128 .f32) (l : Fin 16) : FVec Ideal S256x128 .f32 :=
  shapeCast S256x128 (spaced x ⟨![0, l.val, 0], S1x256x128.size, ![1, 16, 1], spaced_inb l⟩ : FVec Ideal S1x256x128 .f32)
    shapeCasts_S1x256x128_S256x128

theorem squeeze_apply (X : FVec Ideal S1x256x128 .f32) (c : Fin 256) (e : Fin 128) :
    shapeCast S256x128 X shapeCasts_S1x256x128_S256x128 (ix2 c e) = X (ix3 0 c e) := by
  pointwise

theorem piece_apply (x : FVec Ideal S1x4096x128 .f32) (l : Fin 16) (c : Fin 256) (e : Fin 128) :
    piece x l (ix2 c e) = x (ix3 0 ⟨16 * c.val + l.val, by omega⟩ e) := by
  refine (squeeze_apply _ c e).trans (congrArg x (funext fun a => Fin.ext ?_))
  match a with
  | ⟨0, _⟩ => rfl
  | ⟨1, _⟩ => show l.val + 16 * c.val = 16 * c.val + l.val; omega
  | ⟨2, _⟩ => show 0 + 1 * e.val = e.val; omega

/-- Sixteen pieces side by side. -/
def sideBySide (f : Fin 16 → FVec Ideal S256x128 .f32) : FVec Ideal S256x2048 .f32 :=
  concatenate S256x2048 1 [⟨S256x128, f ⟨0, by omega⟩⟩, ⟨S256x128, f ⟨1, by omega⟩⟩, ⟨S256x128, f ⟨2, by omega⟩⟩, ⟨S256x128, f ⟨3, by omega⟩⟩, ⟨S256x128, f ⟨4, by omega⟩⟩, ⟨S256x128, f ⟨5, by omega⟩⟩, ⟨S256x128, f ⟨6, by omega⟩⟩, ⟨S256x128, f ⟨7, by omega⟩⟩, ⟨S256x128, f ⟨8, by omega⟩⟩, ⟨S256x128, f ⟨9, by omega⟩⟩, ⟨S256x128, f ⟨10, by omega⟩⟩, ⟨S256x128, f ⟨11, by omega⟩⟩, ⟨S256x128, f ⟨12, by omega⟩⟩, ⟨S256x128, f ⟨13, by omega⟩⟩, ⟨S256x128, f ⟨14, by omega⟩⟩, ⟨S256x128, f ⟨15, by omega⟩⟩]
    concatenates_S256x128_S256x128_S256x128_S256x128_S256x128_S256x128_S256x128_S256x128_S256x128_S256x128_S256x128_S256x128_S256x128_S256x128_S256x128_S256x128_S256x2048_d1

theorem sideBySide_apply (f : Fin 16 → FVec Ideal S256x128 .f32) (c : Fin 256) (k : Fin 2048) :
    sideBySide f (ix2 c k) = f ⟨k.val / 128, by omega⟩ (ix2 c ⟨k.val % 128, by omega⟩) := by
  refine concatenate_ofFn_apply (t := S256x2048) (s₁ := S256x128) 1 f
    concatenates_S256x128_S256x128_S256x128_S256x128_S256x128_S256x128_S256x128_S256x128_S256x128_S256x128_S256x128_S256x128_S256x128_S256x128_S256x128_S256x128_S256x2048_d1
    rfl 128 rfl (ix2 c k) ⟨k.val / 128, by omega⟩ rfl (ix2 c ⟨k.val % 128, by omega⟩) rfl ?_
  intro b hb
  match b with
  | ⟨0, _⟩ => rfl
  | ⟨1, _⟩ => exact absurd rfl hb

/-- Sixteen loads side by side. -/
def joined (l0 l1 l2 l3 l4 l5 l6 l7 l8 l9 l10 l11 l12 l13 l14 l15 : FVec Ideal S1x256x128 .f32) : FVec Ideal S256x2048 .f32 :=
  concatenate S256x2048 1 [⟨S256x128, shapeCast S256x128 l0 shapeCasts_S1x256x128_S256x128⟩,
    ⟨S256x128, shapeCast S256x128 l1 shapeCasts_S1x256x128_S256x128⟩,
    ⟨S256x128, shapeCast S256x128 l2 shapeCasts_S1x256x128_S256x128⟩,
    ⟨S256x128, shapeCast S256x128 l3 shapeCasts_S1x256x128_S256x128⟩,
    ⟨S256x128, shapeCast S256x128 l4 shapeCasts_S1x256x128_S256x128⟩,
    ⟨S256x128, shapeCast S256x128 l5 shapeCasts_S1x256x128_S256x128⟩,
    ⟨S256x128, shapeCast S256x128 l6 shapeCasts_S1x256x128_S256x128⟩,
    ⟨S256x128, shapeCast S256x128 l7 shapeCasts_S1x256x128_S256x128⟩,
    ⟨S256x128, shapeCast S256x128 l8 shapeCasts_S1x256x128_S256x128⟩,
    ⟨S256x128, shapeCast S256x128 l9 shapeCasts_S1x256x128_S256x128⟩,
    ⟨S256x128, shapeCast S256x128 l10 shapeCasts_S1x256x128_S256x128⟩,
    ⟨S256x128, shapeCast S256x128 l11 shapeCasts_S1x256x128_S256x128⟩,
    ⟨S256x128, shapeCast S256x128 l12 shapeCasts_S1x256x128_S256x128⟩,
    ⟨S256x128, shapeCast S256x128 l13 shapeCasts_S1x256x128_S256x128⟩,
    ⟨S256x128, shapeCast S256x128 l14 shapeCasts_S1x256x128_S256x128⟩,
    ⟨S256x128, shapeCast S256x128 l15 shapeCasts_S1x256x128_S256x128⟩]
    concatenates_S256x128_S256x128_S256x128_S256x128_S256x128_S256x128_S256x128_S256x128_S256x128_S256x128_S256x128_S256x128_S256x128_S256x128_S256x128_S256x128_S256x2048_d1

/-- The tokens of one block row: the sixteen positions from `16 c` on, 128 lanes each. -/
def tok (x : FVec Ideal S1x4096x128 .f32) : FVec Ideal S256x2048 .f32 :=
  joined (spaced x ⟨![0, 0, 0], ![1, 256, 128], ![1, 16, 1], inb_S1x4096x128_S1x256x128_0_0_0_s_1_16_1⟩)
    (spaced x ⟨![0, 1, 0], ![1, 256, 128], ![1, 16, 1], inb_S1x4096x128_S1x256x128_0_1_0_s_1_16_1⟩)
    (spaced x ⟨![0, 2, 0], ![1, 256, 128], ![1, 16, 1], inb_S1x4096x128_S1x256x128_0_2_0_s_1_16_1⟩)
    (spaced x ⟨![0, 3, 0], ![1, 256, 128], ![1, 16, 1], inb_S1x4096x128_S1x256x128_0_3_0_s_1_16_1⟩)
    (spaced x ⟨![0, 4, 0], ![1, 256, 128], ![1, 16, 1], inb_S1x4096x128_S1x256x128_0_4_0_s_1_16_1⟩)
    (spaced x ⟨![0, 5, 0], ![1, 256, 128], ![1, 16, 1], inb_S1x4096x128_S1x256x128_0_5_0_s_1_16_1⟩)
    (spaced x ⟨![0, 6, 0], ![1, 256, 128], ![1, 16, 1], inb_S1x4096x128_S1x256x128_0_6_0_s_1_16_1⟩)
    (spaced x ⟨![0, 7, 0], ![1, 256, 128], ![1, 16, 1], inb_S1x4096x128_S1x256x128_0_7_0_s_1_16_1⟩)
    (spaced x ⟨![0, 8, 0], ![1, 256, 128], ![1, 16, 1], inb_S1x4096x128_S1x256x128_0_8_0_s_1_16_1⟩)
    (spaced x ⟨![0, 9, 0], ![1, 256, 128], ![1, 16, 1], inb_S1x4096x128_S1x256x128_0_9_0_s_1_16_1⟩)
    (spaced x ⟨![0, 10, 0], ![1, 256, 128], ![1, 16, 1], inb_S1x4096x128_S1x256x128_0_10_0_s_1_16_1⟩)
    (spaced x ⟨![0, 11, 0], ![1, 256, 128], ![1, 16, 1], inb_S1x4096x128_S1x256x128_0_11_0_s_1_16_1⟩)
    (spaced x ⟨![0, 12, 0], ![1, 256, 128], ![1, 16, 1], inb_S1x4096x128_S1x256x128_0_12_0_s_1_16_1⟩)
    (spaced x ⟨![0, 13, 0], ![1, 256, 128], ![1, 16, 1], inb_S1x4096x128_S1x256x128_0_13_0_s_1_16_1⟩)
    (spaced x ⟨![0, 14, 0], ![1, 256, 128], ![1, 16, 1], inb_S1x4096x128_S1x256x128_0_14_0_s_1_16_1⟩)
    (spaced x ⟨![0, 15, 0], ![1, 256, 128], ![1, 16, 1], inb_S1x4096x128_S1x256x128_0_15_0_s_1_16_1⟩)

theorem tok_apply (x : FVec Ideal S1x4096x128 .f32) (c : Fin 256) (k : Fin 2048) :
    tok x (ix2 c k) = x (ix3 0 ⟨16 * c.val + k.val / 128, by omega⟩ ⟨k.val % 128, by omega⟩) :=
  (show tok x (ix2 c k) = sideBySide (piece x) (ix2 c k) from rfl).trans ((sideBySide_apply _ c k).trans (piece_apply x _ c _))

/-! ## The hidden units -/

/-- The hidden units before the activation: the first half's product plus the second half's, one row up. -/
def hidden (X : FVec Ideal S256x2048 .f32) (p0 : FVec Ideal S1x2048 .f32) (w0 : FVec Ideal S1x2048x256 .bf16)
    (p1 : FVec Ideal S1x2048 .f32) (w1 : FVec Ideal S1x2048x256 .bf16) : FVec Ideal S256x256 .f32 :=
  addf (matmul dot_S256x2048_S2048x256_S256x256_1_0_0_1_n_n none
      (truncf .bf16 (addf X (broadcastTo S256x2048 (shapeCast S1x2048 p0 shapeCasts_S1x2048_S1x2048) broadcasts_S1x2048_S256x2048)) bitsLt_bf16_f32)
      (shapeCast S2048x256 w0 shapeCasts_S1x2048x256_S2048x256) (constant (F := Ideal) S256x256 .f32 0x00000000#32))
    (dynamicRotate 0 255#32 none (matmul dot_S256x2048_S2048x256_S256x256_1_0_0_1_n_n none
      (truncf .bf16 (addf X (broadcastTo S256x2048 (shapeCast S1x2048 p1 shapeCasts_S1x2048_S1x2048) broadcasts_S1x2048_S256x2048)) bitsLt_bf16_f32)
      (shapeCast S2048x256 w1 shapeCasts_S1x2048x256_S2048x256) (constant (F := Ideal) S256x256 .f32 0x00000000#32)) rotates_S256x256_d0)

/-- The product of one half at row `c`, unit `h`. -/
def halfSum (X : FVec Ideal S256x2048 .f32) (p : FVec Ideal S1x2048 .f32) (w : FVec Ideal S1x2048x256 .bf16) (c h : Fin 256) : EReal :=
  ∑ k : Fin 2048, (X (ix2 c k) + p (ix2 0 k)) * w (ix3 0 k h)

theorem hidden_apply (X : FVec Ideal S256x2048 .f32) (p0 : FVec Ideal S1x2048 .f32) (w0 : FVec Ideal S1x2048x256 .bf16)
    (p1 : FVec Ideal S1x2048 .f32) (w1 : FVec Ideal S1x2048x256 .bf16) (n : Fin 255) (h : Fin 256) :
    hidden X p0 w0 p1 w1 (ix2 ⟨n.val, by omega⟩ h)
      = halfSum X p0 w0 ⟨n.val, by omega⟩ h + halfSum X p1 w1 ⟨n.val + 1, by omega⟩ h := by
  have row : (⟨(n.val + 256 - 255) % 256, by omega⟩ : Fin 256) = ⟨n.val + 1, by omega⟩ := by
    have hn := n.isLt
    refine Fin.ext ?_
    show (n.val + 256 - 255) % 256 = n.val + 1
    omega
  pointwise [hidden]
  rw [row]
  rfl

/-- The cubic the activation takes the tangent of. -/
def cube (z : FVec Ideal S256x256 .f32) : FVec Ideal S256x256 .f32 :=
  addf z (mulf (broadcast S256x256 (Scalar.ofBits (F := Ideal) .f32 0x3D372713#32)) (mulf z (mulf z z)))

theorem loads_hidden (l0 l1 l2 l3 l4 l5 l6 l7 l8 l9 l10 l11 l12 l13 l14 l15 : FVec Ideal S1x256x128 .f32) (p0 : FVec Ideal S1x2048 .f32)
    (w0 : FVec Ideal S1x2048x256 .bf16) (p1 : FVec Ideal S1x2048 .f32) (w1 : FVec Ideal S1x2048x256 .bf16) :
    k0_pay13 (F := Ideal) (k0_pay2 (F := Ideal) l0) (k0_pay3 (F := Ideal) l1) (k0_pay4 (F := Ideal) l2) (k0_pay5 (F := Ideal) l3) (k0_pay6 (F := Ideal) l4) (k0_pay7 (F := Ideal) l5) (k0_pay8 (F := Ideal) l6) (k0_pay9 (F := Ideal) l7) (k0_pay10 (F := Ideal) l8) (k0_pay11 (F := Ideal) l9) (k0_pay12 (F := Ideal) l10) l11 l12 l13 l14 l15 p0 w0 p1 w1 = hidden (joined l0 l1 l2 l3 l4 l5 l6 l7 l8 l9 l10 l11 l12 l13 l14 l15) p0 w0 p1 w1 := rfl

theorem loads_cube (l0 l1 l2 l3 l4 l5 l6 l7 l8 l9 l10 l11 l12 l13 l14 l15 : FVec Ideal S1x256x128 .f32) (p0 : FVec Ideal S1x2048 .f32)
    (w0 : FVec Ideal S1x2048x256 .bf16) (p1 : FVec Ideal S1x2048 .f32) (w1 : FVec Ideal S1x2048x256 .bf16) :
    k0_pay14 (F := Ideal) (k0_pay2 (F := Ideal) l0) (k0_pay3 (F := Ideal) l1) (k0_pay4 (F := Ideal) l2) (k0_pay5 (F := Ideal) l3) (k0_pay6 (F := Ideal) l4) (k0_pay7 (F := Ideal) l5) (k0_pay8 (F := Ideal) l6) (k0_pay9 (F := Ideal) l7) (k0_pay10 (F := Ideal) l8) (k0_pay11 (F := Ideal) l9) (k0_pay12 (F := Ideal) l10) l11 l12 l13 l14 l15 p0 w0 p1 w1 = cube (hidden (joined l0 l1 l2 l3 l4 l5 l6 l7 l8 l9 l10 l11 l12 l13 l14 l15) p0 w0 p1 w1) := rfl

theorem act_apply (z : FVec Ideal S256x256 .f32) (i j : Fin 256) : k0_pay15 (F := Ideal) z (cube z) (ix2 i j) = gelu (z (ix2 i j)) := by
  pointwise [k0_pay15, cube]
  rfl

/-! ## The two blocks -/

theorem below (n : Fin 256) : IntOp.cmpi CmpIPredicate.slt (BitVec.ofNat 32 n.val) 255#32 = if n.val < 255 then 1#1 else 0#1 := by
  revert n
  decide

theorem select_below (n : Fin 256) (a b : EReal) :
    Scalar.select (IntOp.cmpi CmpIPredicate.slt (BitVec.ofNat 32 n.val) 255#32) a b = if n.val < 255 then a else b := by
  rw [below]
  by_cases h : n.val < 255
  · rw [if_pos h, if_pos h]; rfl
  · rw [if_neg h, if_neg h]; rfl

theorem keyBlock_apply (z : FVec Ideal S256x256 .f32) (w : FVec Ideal S1x128x128 .bf16) (ct : FVec Ideal S128x256 .f32)
    (w' : FVec Ideal S1x128x128 .bf16) (st : FVec Ideal S128x256 .f32) (r : Fin 128) (n : Fin 256) :
    k0_pay17 (F := Ideal) z (cube z) w ct w' st (ix4 0 0 r n)
      = if n.val < 255 then (∑ h : Fin 128, w (ix3 0 r h) * gelu (z (ix2 n ⟨h.val, by omega⟩))) * ct (ix2 r n)
          + (∑ h : Fin 128, w' (ix3 0 r h) * gelu (z (ix2 n ⟨h.val, by omega⟩))) * st (ix2 r n) else 0 := by
  pointwise [k0_pay17]
  simp only [act_apply]
  exact select_below n _ _

theorem valBlock_apply (z : FVec Ideal S256x256 .f32) (w : FVec Ideal S128x128 .bf16) (n : Fin 256) (r : Fin 128) :
    k0_pay1 (F := Ideal) (k0_pay16 (F := Ideal) z (cube z)) (k0_pay18 (F := Ideal) w) (constant (F := Ideal) S256x128 .f32 0x00000000#32)
        (ix4 0 0 n r)
      = if n.val < 255 then ∑ h : Fin 128, gelu (z (ix2 n ⟨128 + h.val, by omega⟩)) * w (ix2 h r) else 0 := by
  pointwise [k0_pay1, k0_pay16, k0_pay18]
  simp only [act_apply]
  exact select_below n _ _

end Cert.Cmp
-- ==== Proof.Cmp.Cases.lean ====
/-
  What the compression kernel's body leaves in its two output blocks, as functions of the blocks it reads.
-/
module

public import proofs.«01_k».proof.Proof.Cmp.Body
public import proofs.«01_k».proof.Proof.Gen.CmpKernelIdeal.Value
public import Idealize.ShloMosaic.Lib.Tactic

@[expose] public section

set_option maxRecDepth 16384

noncomputable section

namespace Cert.Cmp

open Idealize.ShloMosaic Idealize.ShloMosaic.TcCoe Cert.CmpKernelIdeal Cert.CmpKernelIdeal.Gen

theorem readAt_spaced {sig : RefSig} {κ : Kind} {sp : Space} {S : Shape} {e : EltTy} (v : View sig κ sp S e)
    (f : v.ty.Contents (Elt Ideal)) (off size stride : Fin S.rank → ℕ) (inb) :
    v.readAt (Elt Ideal) ⟨off, size, stride, inb⟩ f = spaced (v.read (Elt Ideal) f) ⟨off, size, stride, inb⟩ := rfl

theorem hz2 : (![0, 0] : Fin 2 → ℕ) = fun _ => 0 := by decide
theorem hz4 : (![0, 0, 0, 0] : Fin 4 → ℕ) = fun _ => 0 := by decide

/-- The embedding row, the first weights and the second weights of one half. -/
def peRow0 (x : FVec Ideal S2x2048 .f32) : FVec Ideal S1x2048 .f32 :=
  View.ld (Val := Elt Ideal) (e' := .f32) x (Rect.unit (s := S2x2048) ![0, 0] ![1, 2048] inb_S2x2048_S1x2048_0_0)
def peRow1 (x : FVec Ideal S2x2048 .f32) : FVec Ideal S1x2048 .f32 :=
  View.ld (Val := Elt Ideal) (e' := .f32) x (Rect.unit (s := S2x2048) ![1, 0] ![1, 2048] inb_S2x2048_S1x2048_1_0)
def w1At0 (x : FVec Ideal S2x2048x256 .bf16) : FVec Ideal S1x2048x256 .bf16 :=
  View.ld (Val := Elt Ideal) (e' := .bf16) x (Rect.unit (s := S2x2048x256) ![0, 0, 0] ![1, 2048, 256] inb_S2x2048x256_S1x2048x256_0_0_0)
def w1At1 (x : FVec Ideal S2x2048x256 .bf16) : FVec Ideal S1x2048x256 .bf16 :=
  View.ld (Val := Elt Ideal) (e' := .bf16) x (Rect.unit (s := S2x2048x256) ![1, 0, 0] ![1, 2048, 256] inb_S2x2048x256_S1x2048x256_1_0_0)
def w2At0 (x : FVec Ideal S2x128x128 .bf16) : FVec Ideal S1x128x128 .bf16 :=
  View.ld (Val := Elt Ideal) (e' := .bf16) x (Rect.unit (s := S2x128x128) ![0, 0, 0] ![1, 128, 128] inb_S2x128x128_S1x128x128_0_0_0)
def w2At1 (x : FVec Ideal S2x128x128 .bf16) : FVec Ideal S1x128x128 .bf16 :=
  View.ld (Val := Elt Ideal) (e' := .bf16) x (Rect.unit (s := S2x128x128) ![1, 0, 0] ![1, 128, 128] inb_S2x128x128_S1x128x128_1_0_0)

theorem peRow0_apply (x : FVec Ideal S2x2048 .f32) (k : Fin 2048) : peRow0 x (ix2 0 k) = x (ix2 0 k) := by
  refine congrArg x (funext fun a => Fin.ext ?_)
  match a with
  | ⟨0, _⟩ => rfl
  | ⟨1, _⟩ => show 0 + 1 * k.val = k.val; omega
theorem peRow1_apply (x : FVec Ideal S2x2048 .f32) (k : Fin 2048) : peRow1 x (ix2 0 k) = x (ix2 1 k) := by
  refine congrArg x (funext fun a => Fin.ext ?_)
  match a with
  | ⟨0, _⟩ => rfl
  | ⟨1, _⟩ => show 0 + 1 * k.val = k.val; omega
theorem w1At0_apply (x : FVec Ideal S2x2048x256 .bf16) (k : Fin 2048) (h : Fin 256) : w1At0 x (ix3 0 k h) = x (ix3 0 k h) := by
  refine congrArg x (funext fun a => Fin.ext ?_)
  match a with
  | ⟨0, _⟩ => rfl
  | ⟨1, _⟩ => show 0 + 1 * k.val = k.val; omega
  | ⟨2, _⟩ => show 0 + 1 * h.val = h.val; omega
theorem w1At1_apply (x : FVec Ideal S2x2048x256 .bf16) (k : Fin 2048) (h : Fin 256) : w1At1 x (ix3 0 k h) = x (ix3 1 k h) := by
  refine congrArg x (funext fun a => Fin.ext ?_)
  match a with
  | ⟨0, _⟩ => rfl
  | ⟨1, _⟩ => show 0 + 1 * k.val = k.val; omega
  | ⟨2, _⟩ => show 0 + 1 * h.val = h.val; omega
theorem w2At0_apply (x : FVec Ideal S2x128x128 .bf16) (r h : Fin 128) : w2At0 x (ix3 0 r h) = x (ix3 0 r h) := by
  refine congrArg x (funext fun a => Fin.ext ?_)
  match a with
  | ⟨0, _⟩ => rfl
  | ⟨1, _⟩ => show 0 + 1 * r.val = r.val; omega
  | ⟨2, _⟩ => show 0 + 1 * h.val = h.val; omega
theorem w2At1_apply (x : FVec Ideal S2x128x128 .bf16) (r h : Fin 128) : w2At1 x (ix3 0 r h) = x (ix3 1 r h) := by
  refine congrArg x (funext fun a => Fin.ext ?_)
  match a with
  | ⟨0, _⟩ => rfl
  | ⟨1, _⟩ => show 0 + 1 * r.val = r.val; omega
  | ⟨2, _⟩ => show 0 + 1 * h.val = h.val; omega

/-- The hidden units of the point's group. -/
def units (x0 : FVec Ideal S1x4096x128 .f32) (x1 : FVec Ideal S2x2048 .f32) (x2 : FVec Ideal S2x2048x256 .bf16) : FVec Ideal S256x256 .f32 :=
  hidden (tok x0) (peRow0 x1) (w1At0 x2) (peRow1 x1) (w1At1 x2)

variable (c : Dev nD) (i : grid0.Coords)
  (a2 : Memref sig .tc .vmem S1x4096x128 .f32) (h2 : a2.IsWhole)
  (a3 : Memref sig .tc .vmem S2x2048 .f32) (h3 : a3.IsWhole)
  (a4 : Memref sig .tc .vmem S2x2048x256 .bf16) (h4 : a4.IsWhole)
  (a5 : Memref sig .tc .vmem S2x128x128 .bf16) (h5 : a5.IsWhole)
  (a6 : Memref sig .tc .vmem S128x128 .bf16) (h6 : a6.IsWhole)
  (a7 : Memref sig .tc .vmem S128x256 .f32) (h7 : a7.IsWhole)
  (a8 : Memref sig .tc .vmem S128x256 .f32) (h8 : a8.IsWhole)
  (a9 : Memref sig .tc .vmem S1x1x128x256 .bf16) (h9 : a9.IsWhole)
  (a10 : Memref sig .tc .vmem S1x1x256x128 .bf16) (h10 : a10.IsWhole)

variable (x0 : FVec Ideal S1x4096x128 .f32) (x1 : FVec Ideal S2x2048 .f32) (x2 : FVec Ideal S2x2048x256 .bf16)
  (x3 : FVec Ideal S2x128x128 .bf16) (x4 : FVec Ideal S128x128 .bf16) (x5 : FVec Ideal S128x256 .f32) (x6 : FVec Ideal S128x256 .f32)

set_option maxHeartbeats 1000000 in
/-- The key block. -/
theorem out_key :
    out0_A_7 (F := Ideal) c i a2 h2 a3 h3 a4 h4 a5 h5 a6 h6 a7 h7 a8 h8 a9 h9 a10 h10 x0 x1 x2 x3 x4 x5 x6
      = k0_pay17 (F := Ideal) (units x0 x1 x2) (cube (units x0 x1 x2)) (w2At0 x3) x5 (w2At1 x3) x6 := by
  unfold out0_A_7
  rw [View.read_writes_junk_eq_canon]
  unfold kernelRun0_A
  dsimp only
  sl_unfold_words
  rw [View.canon_unit_zero hz4]
  simp only [View.readAt_eq_ld, readAt_spaced, h2.read_unread, h3.read_unread, h4.read_unread, h5.read_unread, h7.read_unread,
    h8.read_unread, View.ld_unit_zero (S := S128x256) hz2]
  rw [loads_hidden, loads_cube]
  unfold units tok peRow0 peRow1 w1At0 w1At1 w2At0 w2At1
  rfl

set_option maxHeartbeats 1000000 in
/-- The value block. -/
theorem out_val :
    out0_A_8 (F := Ideal) c i a2 h2 a3 h3 a4 h4 a5 h5 a6 h6 a7 h7 a8 h8 a9 h9 a10 h10 x0 x1 x2 x3 x4 x5 x6
      = k0_pay1 (F := Ideal) (k0_pay16 (F := Ideal) (units x0 x1 x2) (cube (units x0 x1 x2))) (k0_pay18 (F := Ideal) x4)
          (constant (F := Ideal) S256x128 .f32 0x00000000#32) := by
  unfold out0_A_8
  rw [View.read_writes_junk_eq_canon]
  unfold kernelRun0_A
  dsimp only
  sl_unfold_words
  rw [View.canon_unit_zero hz4]
  simp only [View.readAt_eq_ld, readAt_spaced, h2.read_unread, h3.read_unread, h4.read_unread, h6.read_unread,
    View.ld_unit_zero (S := S128x128) hz2]
  rw [loads_hidden, loads_cube]
  unfold units tok peRow0 peRow1 w1At0 w1At1
  rfl

end Cert.Cmp
-- ==== Proof.Cmp.Prep.lean ====
/-
  The arrays the host prepares for the compression, at an index: tokens, embeddings and weights of keys and values side by
  side on 128 lanes, the second weights with their rows exchanged as the rotation asks, and the rotation's tables.
-/
module

public import proofs.«01_k».proof.Proof.Cmp.Math
public import proofs.«01_k».proof.Proof.Gen.CmpKernelIdeal.Value
public import Idealize.ShloMosaic.Lib.StableHlo.ReadAt
public import Idealize.ShloMosaic.Lib.StableHlo.Predicate
public import Idealize.ShloMosaic.Lib.Routing.Ops
public import Idealize.ShloMosaic.Lib.Tactic

@[expose] public section

set_option maxRecDepth 16384

noncomputable section

namespace Cert.Cmp

open Idealize.ShloMosaic Idealize.ShloMosaic.TcCoe Cert.CmpKernelIdeal Cert.CmpKernelIdeal.Gen Cert.Ffn Cert.Kv

variable (m : (ℓ : Loc nD τ sig) → Buf (Elt Ideal) ℓ) (c : Dev nD)

theorem zero_bits : (FloatOps.ofBits (F := Ideal) FTy.f32 0x00000000#32 : EReal) = 0 := Ideal.ofBits_zero _

/-! ## Tokens and embeddings -/

theorem tok_k (b : Fin 4) (t : Fin 4096) (j : Fin 4) (e : Fin 64) :
    (V m c main_v70 : FVec Ideal S4x4096x512 .f32) (ix3 b t ⟨128 * j.val + e.val, by omega⟩)
      = (m (c.tc.loc main_arg0) : FVec Ideal S4x4096x4x64 .f32) (ix4 b t j e) := by
  have he : (128 * j.val + e.val) % 128 = e.val := by omega
  unfold V
  after_reads_at
  rw [dif_pos (by omega)]
  simp only [he]
  after_reads_at

theorem tok_v (b : Fin 4) (t : Fin 4096) (j : Fin 4) (e : Fin 64) :
    (V m c main_v70 : FVec Ideal S4x4096x512 .f32) (ix3 b t ⟨128 * j.val + (64 + e.val), by omega⟩)
      = (m (c.tc.loc main_arg1) : FVec Ideal S4x4096x4x64 .f32) (ix4 b t j e) := by
  have he : (128 * j.val + (64 + e.val)) % 128 - 64 = e.val := by omega
  unfold V
  after_reads_at
  rw [dif_neg (by omega)]
  simp only [he]
  after_reads_at

theorem pe_k (s : Fin 2) (l : Fin 16) (e : Fin 64) :
    (V m c main_v6 : FVec Ideal S2x2048 .f32) (ix2 s ⟨128 * l.val + e.val, by omega⟩)
      = (m (c.tc.loc main_arg2) : FVec Ideal S32x64 .f32) (ix2 ⟨16 * s.val + l.val, by omega⟩ e) := by
  unfold V
  after_reads_at
  rw [dif_pos (by omega)]
  after_reads_at
  refine congrArg (fun i => (m (c.tc.loc main_arg2) : FVec Ideal S32x64 .f32) (ix2 i e)) (Fin.ext ?_)
  show s.val * 16 + l.val = 16 * s.val + l.val
  omega

theorem pe_v (s : Fin 2) (l : Fin 16) (e : Fin 64) :
    (V m c main_v6 : FVec Ideal S2x2048 .f32) (ix2 s ⟨128 * l.val + (64 + e.val), by omega⟩)
      = (m (c.tc.loc main_arg3) : FVec Ideal S32x64 .f32) (ix2 ⟨16 * s.val + l.val, by omega⟩ e) := by
  unfold V
  after_reads_at
  rw [dif_neg (by omega)]
  after_reads_at
  refine congrArg (fun i => (m (c.tc.loc main_arg3) : FVec Ideal S32x64 .f32) (ix2 i e)) (Fin.ext ?_)
  show s.val * 16 + l.val = 16 * s.val + l.val
  omega

/-! ## The first weights -/

theorem w1_k (s : Fin 2) (l : Fin 16) (e : Fin 64) (h : Fin 128) :
    (V m c main_v16 : FVec Ideal S2x2048x256 .bf16) (ix3 s ⟨128 * l.val + e.val, by omega⟩ ⟨h.val, by omega⟩)
      = (m (c.tc.loc main_arg4) : FVec Ideal S2048x128 .f32) (ix2 ⟨1024 * s.val + (64 * l.val + e.val), by omega⟩ h) := by
  have h0 : (128 * l.val + e.val) / 128 = l.val := by omega
  have h1 : (128 * l.val + e.val) % 64 = e.val := by omega
  unfold V
  after_reads_at
  rw [dif_pos (by omega)]
  simp only [h0, h1]
  after_reads_at
  after_reads_at
  refine congrArg (fun i => (m (c.tc.loc main_arg4) : FVec Ideal S2048x128 .f32) (ix2 i h)) (Fin.ext ?_)
  show s.val * 1024 + l.val * 64 + e.val = 1024 * s.val + (64 * l.val + e.val)
  omega

theorem w1_k_zero (s : Fin 2) (l : Fin 16) (e : Fin 64) (h : Fin 128) :
    (V m c main_v16 : FVec Ideal S2x2048x256 .bf16) (ix3 s ⟨128 * l.val + e.val, by omega⟩ ⟨128 + h.val, by omega⟩) = (0 : EReal) := by
  have h0 : (128 * l.val + e.val) / 128 = l.val := by omega
  have h1 : (128 * l.val + e.val) % 64 = e.val := by omega
  unfold V
  after_reads_at
  rw [dif_pos (by omega)]
  simp only [h0, h1]
  after_reads_at
  after_reads_at

theorem w1_v (s : Fin 2) (l : Fin 16) (e : Fin 64) (h : Fin 128) :
    (V m c main_v16 : FVec Ideal S2x2048x256 .bf16) (ix3 s ⟨128 * l.val + (64 + e.val), by omega⟩ ⟨128 + h.val, by omega⟩)
      = (m (c.tc.loc main_arg6) : FVec Ideal S2048x128 .f32) (ix2 ⟨1024 * s.val + (64 * l.val + e.val), by omega⟩ h) := by
  have h0 : (128 * l.val + (64 + e.val)) / 128 = l.val := by omega
  have h1 : (128 * l.val + (64 + e.val)) % 64 = e.val := by omega
  unfold V
  after_reads_at
  rw [dif_neg (by omega)]
  simp only [h0, h1]
  after_reads_at
  after_reads_at
  refine congrArg (fun i => (m (c.tc.loc main_arg6) : FVec Ideal S2048x128 .f32) (ix2 i h)) (Fin.ext ?_)
  show s.val * 1024 + l.val * 64 + e.val = 1024 * s.val + (64 * l.val + e.val)
  omega

theorem w1_v_zero (s : Fin 2) (l : Fin 16) (e : Fin 64) (h : Fin 128) :
    (V m c main_v16 : FVec Ideal S2x2048x256 .bf16) (ix3 s ⟨128 * l.val + (64 + e.val), by omega⟩ ⟨h.val, by omega⟩) = (0 : EReal) := by
  have h0 : (128 * l.val + (64 + e.val)) / 128 = l.val := by omega
  have h1 : (128 * l.val + (64 + e.val)) % 64 = e.val := by omega
  unfold V
  after_reads_at
  rw [dif_neg (by omega)]
  simp only [h0, h1]
  after_reads_at
  after_reads_at

/-! ## The second weights -/

theorem lit0_eq : ∀ e : Fin 64, lit0 e = BitVec.ofNat 32 (swap e).val := by decide +kernel

/-- The picked columns: column `e` of the result is the column that `idx` names at `e`. -/
theorem pick_apply (w : FVec Ideal S128x64 .f32) (idx : IVec S64x1 32) (k : Fin 128) (e j : Fin 64)
    (h : idx (ix2 e 0) = BitVec.ofNat 32 j.val) :
    Host.gather gather_S128x64_S64x1_S128x64_0_1_n_n_1_1_1281 w idx (ix2 k e) = w (ix2 k j) := by
  let d := gather_S128x64_S64x1_S128x64_0_1_n_n_1_1_1281
  unfold Host.gather
  refine congrArg w (funext fun a => Fin.ext ?_)
  have hb : ∀ a' : Fin 2, a' ∉ d.operandBatchingDims := fun _ => List.not_mem_nil
  match a with
  | ⟨0, _⟩ =>
    have hm : (0 : Fin 2) ∉ d.startIndexMap := by decide
    have hk : (0 : Fin 2) ∈ d.sKept := (d.mem_sKept 0).2 ⟨by decide, hb 0⟩
    show d.start (ix2 k e) idx 0 + d.batchCoord (ix2 k e) 0 + d.offCoord (ix2 k e) 0 = k.val
    rw [d.batchCoord_eq_zero _ _ (hb 0), Nat.add_zero]
    unfold GatherDims.start GatherDims.offCoord
    rw [dif_neg hm, dif_pos hk, Nat.zero_add]
    rfl
  | ⟨1, _⟩ =>
    have hm : (1 : Fin 2) ∈ d.startIndexMap := by decide
    have hk : (1 : Fin 2) ∉ d.sKept := fun h' => ((d.mem_sKept 1).1 h').1 (by decide)
    show d.start (ix2 k e) idx 1 + d.batchCoord (ix2 k e) 1 + d.offCoord (ix2 k e) 1 = j.val
    rw [d.batchCoord_eq_zero _ _ (hb 1), d.offCoord_eq_zero _ _ hk]
    simp only [Nat.add_zero]
    unfold GatherDims.start
    rw [dif_pos hm]
    have hs : d.siIdx (ix2 k e) ⟨d.startIndexMap.idxOf 1, List.idxOf_lt_length_iff.2 hm⟩ = ix2 e (0 : Fin 1) := by
      funext b
      apply Fin.ext
      match b with
      | ⟨0, _⟩ => rfl
      | ⟨1, _⟩ => rfl
    have hj := j.isLt
    rw [hs, h, StableHlo.Predicate.toInt_ofNat_small _ (by omega)]
    show min ((j.val : Int)).toNat (64 - 1) = j.val
    omega

theorem row1 (e : Fin 64) : S64.rowMajor (ix1 e) = e :=
  (Equiv.symm_apply_eq _).1 (Routing.symm1 (N := 64) e) |>.symm

theorem w2_plain (e : Fin 64) (h : Fin 128) :
    (V m c main_v30 : FVec Ideal S2x128x128 .bf16) (ix3 0 ⟨e.val, by omega⟩ h)
      = (m (c.tc.loc main_arg5) : FVec Ideal S128x64 .f32) (ix2 h e) := by
  unfold V
  after_reads_at
  after_reads_at
  after_reads_at

theorem w2_swap (e : Fin 64) (h : Fin 128) :
    (V m c main_v30 : FVec Ideal S2x128x128 .bf16) (ix3 1 ⟨e.val, by omega⟩ h)
      = (m (c.tc.loc main_arg5) : FVec Ideal S128x64 .f32) (ix2 h (swap e)) := by
  unfold V
  after_reads_at
  after_reads_at
  refine pick_apply _ _ h e _ ?_
  after_reads_at
  exact (congrArg lit0 (row1 e)).trans (lit0_eq e)

theorem w2_plain_zero (e : Fin 64) (h : Fin 128) :
    (V m c main_v30 : FVec Ideal S2x128x128 .bf16) (ix3 0 ⟨64 + e.val, by omega⟩ h) = (0 : EReal) := by
  unfold V
  after_reads_at
  after_reads_at
  after_reads_at

theorem w2_swap_zero (e : Fin 64) (h : Fin 128) :
    (V m c main_v30 : FVec Ideal S2x128x128 .bf16) (ix3 1 ⟨64 + e.val, by omega⟩ h) = (0 : EReal) := by
  unfold V
  after_reads_at
  after_reads_at
  after_reads_at

theorem w2_v (h : Fin 128) (r : Fin 128) :
    (V m c main_v32 : FVec Ideal S128x128 .bf16) (ix2 h r)
      = (m (c.tc.loc main_arg7) : FVec Ideal S128x64 .f32) (ix2 h ⟨r.val % 64, by omega⟩) := by
  unfold V
  after_reads_at
  by_cases h' : r.val < 64
  · have er : r.val % 64 = r.val := by omega
    rw [dif_pos h']
    simp only [er]
    after_reads_at
  · have er : r.val % 64 = r.val - 64 := by omega
    rw [dif_neg h']
    simp only [er]
    after_reads_at

/-! ## The tables -/

set_option maxHeartbeats 1000000 in
theorem cosT (n : Fin 255) (e : Fin 64) :
    (V m c main_v67 : FVec Ideal S128x256 .f32) (ix2 ⟨e.val, by omega⟩ ⟨n.val, by omega⟩) = cosTab (lastPos n) e := by
  unfold V cosTab angle
  rw [← pos_bits n]
  after_reads_at
  after_reads_at
  by_cases h : e.val < 8
  · rw [dif_pos h, dif_pos h]
    after_reads_at
    rfl
  · refine (dif_neg h).trans (Eq.trans ?_ (dif_neg h).symm)
    by_cases h' : e.val < 16
    · have h'' : e.val - 8 < 8 := by omega
      refine (dif_pos h'').trans (Eq.trans ?_ (dif_pos h').symm)
      after_reads_at
      rfl
    · have h'' : ¬ e.val - 8 < 8 := by omega
      refine (dif_neg h'').trans (Eq.trans ?_ (dif_neg h').symm)
      after_reads_at

set_option maxHeartbeats 1000000 in
theorem sinT (n : Fin 255) (e : Fin 64) :
    (V m c main_v69 : FVec Ideal S128x256 .f32) (ix2 ⟨e.val, by omega⟩ ⟨n.val, by omega⟩) = sinTab (lastPos n) e := by
  unfold V sinTab angle
  rw [← pos_bits n]
  after_reads_at
  after_reads_at
  by_cases h : e.val < 8
  · rw [dif_pos h, dif_pos h]
    after_reads_at
    rfl
  · refine (dif_neg h).trans (Eq.trans ?_ (dif_neg h).symm)
    by_cases h' : e.val < 16
    · have h'' : e.val - 8 < 8 := by omega
      refine (dif_pos h'').trans (Eq.trans ?_ (dif_pos h').symm)
      after_reads_at
      rfl
    · have h'' : ¬ e.val - 8 < 8 := by omega
      refine (dif_neg h'').trans (Eq.trans ?_ (dif_neg h').symm)
      after_reads_at

end Cert.Cmp
-- ==== Proof.Cmp.Blocks.lean ====
/-
  The blocks of the prepared arrays that the compression kernel's grid points read.
-/
module

public import proofs.«01_k».proof.Proof.Cmp.Prep
public import proofs.«01_k».proof.Proof.Gen.CmpKernelIdeal.Value

@[expose] public section

set_option maxRecDepth 16384

noncomputable section

namespace Cert.Cmp

open Idealize.ShloMosaic Idealize.ShloMosaic.TcCoe Cert.CmpKernelIdeal Cert.CmpKernelIdeal.Gen Cert.Ffn Cert.Kv

variable (m : (ℓ : Loc nD τ sig) → Buf (Elt Ideal) ℓ) (c : Dev nD)

/-! ## Where each block lies -/

theorem idx_tok : ∀ t : Fin cfg0.N, win0_0.index t 0 = t.val / 4 ∧ win0_0.index t 1 = 0 ∧ win0_0.index t 2 = t.val % 4 :=
  (by decide +kernel : ∀ t : Fin grid0.N, _)
theorem idx_pe : ∀ t : Fin cfg0.N, win0_1.index t 0 = 0 ∧ win0_1.index t 1 = 0 :=
  (by decide +kernel : ∀ t : Fin grid0.N, _)
theorem idx_w1 : ∀ t : Fin cfg0.N, win0_2.index t 0 = 0 ∧ win0_2.index t 1 = 0 ∧ win0_2.index t 2 = 0 :=
  (by decide +kernel : ∀ t : Fin grid0.N, _)
theorem idx_w2 : ∀ t : Fin cfg0.N, win0_3.index t 0 = 0 ∧ win0_3.index t 1 = 0 ∧ win0_3.index t 2 = 0 :=
  (by decide +kernel : ∀ t : Fin grid0.N, _)
theorem idx_w2v : ∀ t : Fin cfg0.N, win0_4.index t 0 = 0 ∧ win0_4.index t 1 = 0 :=
  (by decide +kernel : ∀ t : Fin grid0.N, _)
theorem idx_cos : ∀ t : Fin cfg0.N, win0_5.index t 0 = 0 ∧ win0_5.index t 1 = 0 :=
  (by decide +kernel : ∀ t : Fin grid0.N, _)
theorem idx_sin : ∀ t : Fin cfg0.N, win0_6.index t 0 = 0 ∧ win0_6.index t 1 = 0 :=
  (by decide +kernel : ∀ t : Fin grid0.N, _)
theorem idx_key : ∀ t : Fin cfg0.N, win0_7.index t 0 = t.val / 4 ∧ win0_7.index t 1 = t.val % 4 ∧ win0_7.index t 2 = 0
    ∧ win0_7.index t 3 = 0 :=
  (by decide +kernel : ∀ t : Fin grid0.N, _)
theorem idx_val : ∀ t : Fin cfg0.N, win0_8.index t 0 = t.val / 4 ∧ win0_8.index t 1 = t.val % 4 ∧ win0_8.index t 2 = 0
    ∧ win0_8.index t 3 = 0 :=
  (by decide +kernel : ∀ t : Fin grid0.N, _)

/-- The grid point of sequence `b` and group `j`. -/
abbrev pt (b j : Fin 4) : Fin cfg0.N := ⟨b.val * 4 + j.val, lt_of_lt_of_eq (by omega) N_0.symm⟩

/-! ## The prepared arrays -/

/-- The tokens, grouped: 128 lanes of keys and values per group. -/
def tokA : FVec Ideal S4x4096x512 .f32 := V m c main_v70
/-- The two rows of embeddings. -/
def peA : FVec Ideal S2x2048 .f32 := V m c main_v6
/-- The two halves of the first weights. -/
def w1A : FVec Ideal S2x2048x256 .bf16 := V m c main_v16
/-- The second key weights, plain and with halves exchanged. -/
def w2A : FVec Ideal S2x128x128 .bf16 := V m c main_v30
/-- The second value weights. -/
def w2vA : FVec Ideal S128x128 .bf16 := V m c main_v32
/-- The cosine table. -/
def cosA : FVec Ideal S128x256 .f32 := V m c main_v67
/-- The sine table. -/
def sinA : FVec Ideal S128x256 .f32 := V m c main_v69

/-! ## Their blocks -/

theorem blk_tok (b j : Fin 4) (p : Fin 4096) (e : Fin 128) : (iblk m c 0 (pt b j) : FVec Ideal S1x4096x128 .f32) (ix3 0 p e)
    = tokA m c (ix3 b p ⟨128 * j.val + e.val, by omega⟩) := by
  unfold iblk
  rw [View.read_apply]
  refine (cast_eq _ _).trans ?_
  refine congrArg (V m c main_v70 : FVec Ideal S4x4096x512 .f32) (funext fun a => Fin.ext ?_)
  match a with
  | ⟨0, _⟩ => show win0_0.index (pt b j) 0 * 1 + 1 * 0 = b.val; rw [(idx_tok _).1]; show (b.val * 4 + j.val) / 4 * 1 + 1 * 0 = b.val; omega
  | ⟨1, _⟩ => show win0_0.index (pt b j) 1 * 4096 + 1 * p.val = p.val; rw [(idx_tok _).2.1]; omega
  | ⟨2, _⟩ =>
    show win0_0.index (pt b j) 2 * 128 + 1 * e.val = 128 * j.val + e.val
    rw [(idx_tok _).2.2]; show (b.val * 4 + j.val) % 4 * 128 + 1 * e.val = 128 * j.val + e.val; omega

theorem blk_pe (t : Fin cfg0.N) (s : Fin 2) (k : Fin 2048) :
    (iblk m c 1 t : FVec Ideal S2x2048 .f32) (ix2 s k) = peA m c (ix2 s k) := by
  unfold iblk
  rw [View.read_apply]
  refine (cast_eq _ _).trans ?_
  refine congrArg (V m c main_v6 : FVec Ideal S2x2048 .f32) (funext fun a => Fin.ext ?_)
  match a with
  | ⟨0, _⟩ => show win0_1.index t 0 * 2 + 1 * s.val = s.val; rw [(idx_pe t).1]; omega
  | ⟨1, _⟩ => show win0_1.index t 1 * 2048 + 1 * k.val = k.val; rw [(idx_pe t).2]; omega

theorem blk_w1 (t : Fin cfg0.N) (s : Fin 2) (k : Fin 2048) (h : Fin 256) :
    (iblk m c 2 t : FVec Ideal S2x2048x256 .bf16) (ix3 s k h) = w1A m c (ix3 s k h) := by
  unfold iblk
  rw [View.read_apply]
  refine (cast_eq _ _).trans ?_
  refine congrArg (V m c main_v16 : FVec Ideal S2x2048x256 .bf16) (funext fun a => Fin.ext ?_)
  match a with
  | ⟨0, _⟩ => show win0_2.index t 0 * 2 + 1 * s.val = s.val; rw [(idx_w1 t).1]; omega
  | ⟨1, _⟩ => show win0_2.index t 1 * 2048 + 1 * k.val = k.val; rw [(idx_w1 t).2.1]; omega
  | ⟨2, _⟩ => show win0_2.index t 2 * 256 + 1 * h.val = h.val; rw [(idx_w1 t).2.2]; omega

theorem blk_w2 (t : Fin cfg0.N) (s : Fin 2) (r : Fin 128) (h : Fin 128) :
    (iblk m c 3 t : FVec Ideal S2x128x128 .bf16) (ix3 s r h) = w2A m c (ix3 s r h) := by
  unfold iblk
  rw [View.read_apply]
  refine (cast_eq _ _).trans ?_
  refine congrArg (V m c main_v30 : FVec Ideal S2x128x128 .bf16) (funext fun a => Fin.ext ?_)
  match a with
  | ⟨0, _⟩ => show win0_3.index t 0 * 2 + 1 * s.val = s.val; rw [(idx_w2 t).1]; omega
  | ⟨1, _⟩ => show win0_3.index t 1 * 128 + 1 * r.val = r.val; rw [(idx_w2 t).2.1]; omega
  | ⟨2, _⟩ => show win0_3.index t 2 * 128 + 1 * h.val = h.val; rw [(idx_w2 t).2.2]; omega

theorem blk_w2v (t : Fin cfg0.N) (h : Fin 128) (r : Fin 128) :
    (iblk m c 4 t : FVec Ideal S128x128 .bf16) (ix2 h r) = w2vA m c (ix2 h r) := by
  unfold iblk
  rw [View.read_apply]
  refine (cast_eq _ _).trans ?_
  refine congrArg (V m c main_v32 : FVec Ideal S128x128 .bf16) (funext fun a => Fin.ext ?_)
  match a with
  | ⟨0, _⟩ => show win0_4.index t 0 * 128 + 1 * h.val = h.val; rw [(idx_w2v t).1]; omega
  | ⟨1, _⟩ => show win0_4.index t 1 * 128 + 1 * r.val = r.val; rw [(idx_w2v t).2]; omega

theorem blk_cos (t : Fin cfg0.N) (r : Fin 128) (n : Fin 256) :
    (iblk m c 5 t : FVec Ideal S128x256 .f32) (ix2 r n) = cosA m c (ix2 r n) := by
  unfold iblk
  rw [View.read_apply]
  refine (cast_eq _ _).trans ?_
  refine congrArg (V m c main_v67 : FVec Ideal S128x256 .f32) (funext fun a => Fin.ext ?_)
  match a with
  | ⟨0, _⟩ => show win0_5.index t 0 * 128 + 1 * r.val = r.val; rw [(idx_cos t).1]; omega
  | ⟨1, _⟩ => show win0_5.index t 1 * 256 + 1 * n.val = n.val; rw [(idx_cos t).2]; omega

theorem blk_sin (t : Fin cfg0.N) (r : Fin 128) (n : Fin 256) :
    (iblk m c 6 t : FVec Ideal S128x256 .f32) (ix2 r n) = sinA m c (ix2 r n) := by
  unfold iblk
  rw [View.read_apply]
  refine (cast_eq _ _).trans ?_
  refine congrArg (V m c main_v69 : FVec Ideal S128x256 .f32) (funext fun a => Fin.ext ?_)
  match a with
  | ⟨0, _⟩ => show win0_6.index t 0 * 128 + 1 * r.val = r.val; rw [(idx_sin t).1]; omega
  | ⟨1, _⟩ => show win0_6.index t 1 * 256 + 1 * n.val = n.val; rw [(idx_sin t).2]; omega

end Cert.Cmp
-- ==== Proof.Cmp.Kernel.lean ====
/-
  What the compression kernel leaves in its two result arrays, at an index: each group's block, from the group's tokens and
  the prepared arrays.
-/
module

public import proofs.«01_k».proof.Proof.Cmp.Cases
public import proofs.«01_k».proof.Proof.Cmp.Blocks

@[expose] public section

set_option maxRecDepth 16384

noncomputable section

namespace Cert.Cmp

open Idealize.ShloMosaic Idealize.ShloMosaic.TcCoe Cert.CmpKernelIdeal Cert.CmpKernelIdeal.Gen Cert.Ffn Cert.Kv

variable (m : (ℓ : Loc nD τ sig) → Buf (Elt Ideal) ℓ) (c : Dev nD)

/-! ## The hidden units of a group -/

/-- The key tokens of sequence `b` and group `j`, the key embedding and the two key weights. -/
abbrev zK (b j : Fin 4) : Fin 4096 → Fin 64 → EReal := fun t e => (m (c.tc.loc main_arg0) : FVec Ideal S4x4096x4x64 .f32) (ix4 b t j e)
abbrev peK : Fin 32 → Fin 64 → EReal := fun l e => (m (c.tc.loc main_arg2) : FVec Ideal S32x64 .f32) (ix2 l e)
abbrev w1K : Fin 2048 → Fin 128 → EReal := fun k h => (m (c.tc.loc main_arg4) : FVec Ideal S2048x128 .f32) (ix2 k h)
abbrev w2K : Fin 128 → Fin 64 → EReal := fun h e => (m (c.tc.loc main_arg5) : FVec Ideal S128x64 .f32) (ix2 h e)

/-- The value tokens, the value embedding and the two value weights. -/
abbrev zV (b j : Fin 4) : Fin 4096 → Fin 64 → EReal := fun t e => (m (c.tc.loc main_arg1) : FVec Ideal S4x4096x4x64 .f32) (ix4 b t j e)
abbrev peV : Fin 32 → Fin 64 → EReal := fun l e => (m (c.tc.loc main_arg3) : FVec Ideal S32x64 .f32) (ix2 l e)
abbrev w1V : Fin 2048 → Fin 128 → EReal := fun k h => (m (c.tc.loc main_arg6) : FVec Ideal S2048x128 .f32) (ix2 k h)
abbrev w2V : Fin 128 → Fin 64 → EReal := fun h e => (m (c.tc.loc main_arg7) : FVec Ideal S128x64 .f32) (ix2 h e)

/-- One term of a half's product: the tokens' rows from `16 r` on, half `s`, unit `h`. -/
abbrev term (b j : Fin 4) (s : Fin 2) (r h : Fin 256) (k : Fin 2048) : EReal :=
  (tokA m c (ix3 b ⟨16 * r.val + k.val / 128, by omega⟩ ⟨128 * j.val + k.val % 128, by omega⟩)
    + peA m c (ix2 s k)) * w1A m c (ix3 s k h)

theorem term_at (b j : Fin 4) (s : Fin 2) (r h : Fin 256) (l : Fin 16) (e : Fin 128) :
    term m c b j s r h ⟨128 * l.val + e.val, by omega⟩
      = (tokA m c (ix3 b ⟨16 * r.val + l.val, by omega⟩ ⟨128 * j.val + e.val, by omega⟩)
        + peA m c (ix2 s ⟨128 * l.val + e.val, by omega⟩))
        * w1A m c (ix3 s ⟨128 * l.val + e.val, by omega⟩ h) := by
  have e0 : (⟨16 * r.val + (128 * l.val + e.val) / 128, by omega⟩ : Fin 4096) = ⟨16 * r.val + l.val, by omega⟩ :=
    Fin.ext (by dsimp only; omega)
  have e1 : (⟨128 * j.val + (128 * l.val + e.val) % 128, by omega⟩ : Fin 512) = ⟨128 * j.val + e.val, by omega⟩ :=
    Fin.ext (by dsimp only; omega)
  unfold term
  dsimp only
  rw [e0, e1]

/-- One term of the half's own product. -/
theorem half_term (z : Fin 4096 → Fin 64 → EReal) (pe : Fin 32 → Fin 64 → EReal) (w : Fin 2048 → Fin 128 → EReal) (s : Fin 2)
    (p : ℕ) (hp : p + 16 ≤ 4096) (h : Fin 128) (l : Fin 16) (e : Fin 64) :
    (fun k : Fin 1024 => (z ⟨p + k.val / 64, by omega⟩ ⟨k.val % 64, by omega⟩ + pe ⟨16 * s.val + k.val / 64, by omega⟩ ⟨k.val % 64, by omega⟩)
        * w ⟨1024 * s.val + k.val, by omega⟩ h) ⟨64 * l.val + e.val, by omega⟩
      = (z ⟨p + l.val, by omega⟩ e + pe ⟨16 * s.val + l.val, by omega⟩ e) * w ⟨1024 * s.val + (64 * l.val + e.val), by omega⟩ h := by
  have e0 : (⟨p + (64 * l.val + e.val) / 64, by omega⟩ : Fin 4096) = ⟨p + l.val, by omega⟩ := Fin.ext (by dsimp only; omega)
  have e1 : (⟨(64 * l.val + e.val) % 64, by omega⟩ : Fin 64) = e := Fin.ext (by dsimp only; omega)
  have e2 : (⟨16 * s.val + (64 * l.val + e.val) / 64, by omega⟩ : Fin 32) = ⟨16 * s.val + l.val, by omega⟩ :=
    Fin.ext (by dsimp only; omega)
  dsimp only
  rw [e0, e1, e2]

theorem half_key (b j : Fin 4) (s : Fin 2) (r : Fin 256) (h : Fin 128) :
    ∑ k : Fin 2048, term m c b j s r ⟨h.val, by omega⟩ k
      = half (zK m c b j) (peK m c) (w1K m c) s (16 * r.val) (by omega) h := by
  unfold half
  refine sum_lower _ _ (fun l e => ?_) (fun l e => ?_)
  · refine (term_at m c b j s r _ l ⟨e.val, by omega⟩).trans (Eq.trans ?_ (half_term _ _ _ s _ (by omega) h l e).symm)
    exact congrArg₂ (· * ·) (congrArg₂ (· + ·) (tok_k m c b _ j e) (pe_k m c s l e)) (w1_k m c s l e h)
  · refine (term_at m c b j s r _ l ⟨64 + e.val, by omega⟩).trans ?_
    exact (congrArg _ (w1_v_zero m c s l e h)).trans (mul_zero _)

theorem half_val (b j : Fin 4) (s : Fin 2) (r : Fin 256) (h : Fin 128) :
    ∑ k : Fin 2048, term m c b j s r ⟨128 + h.val, by omega⟩ k
      = half (zV m c b j) (peV m c) (w1V m c) s (16 * r.val) (by omega) h := by
  unfold half
  refine sum_upper _ _ (fun l e => ?_) (fun l e => ?_)
  · refine (term_at m c b j s r _ l ⟨64 + e.val, by omega⟩).trans (Eq.trans ?_ (half_term _ _ _ s _ (by omega) h l e).symm)
    exact congrArg₂ (· * ·) (congrArg₂ (· + ·) (tok_v m c b _ j e) (pe_v m c s l e)) (w1_v m c s l e h)
  · refine (term_at m c b j s r _ l ⟨e.val, by omega⟩).trans ?_
    exact (congrArg _ (w1_k_zero m c s l e h)).trans (mul_zero _)

/-- The hidden units of the grid point of sequence `b` and group `j`. -/
def unitsAt (b j : Fin 4) : FVec Ideal S256x256 .f32 := units (iblk m c 0 (pt b j)) (iblk m c 1 (pt b j)) (iblk m c 2 (pt b j))

theorem units_apply (b j : Fin 4) (n : Fin 255) (h : Fin 256) :
    unitsAt m c b j (ix2 ⟨n.val, by omega⟩ h)
      = ∑ k : Fin 2048, term m c b j 0 ⟨n.val, by omega⟩ h k + ∑ k : Fin 2048, term m c b j 1 ⟨n.val + 1, by omega⟩ h k := by
  unfold unitsAt units
  refine (hidden_apply _ _ _ _ _ n h).trans (congrArg₂ (· + ·) ?_ ?_)
  · refine Finset.sum_congr rfl fun k _ => ?_
    refine congrArg₂ (· * ·) (congrArg₂ (· + ·) ?_ ((peRow0_apply _ k).trans (blk_pe m c _ 0 k)))
      ((w1At0_apply _ k h).trans (blk_w1 m c _ 0 k h))
    exact (tok_apply _ _ k).trans (blk_tok m c b j _ _)
  · refine Finset.sum_congr rfl fun k _ => ?_
    refine congrArg₂ (· * ·) (congrArg₂ (· + ·) ?_ ((peRow1_apply _ k).trans (blk_pe m c _ 1 k)))
      ((w1At1_apply _ k h).trans (blk_w1 m c _ 1 k h))
    exact (tok_apply _ _ k).trans (blk_tok m c b j _ _)

theorem units_key (b j : Fin 4) (n : Fin 255) (h : Fin 128) :
    unitsAt m c b j (ix2 ⟨n.val, by omega⟩ ⟨h.val, by omega⟩) = hid (zK m c b j) (peK m c) (w1K m c) n h := by
  rw [units_apply, half_key, half_key, hid_halves]

theorem units_val (b j : Fin 4) (n : Fin 255) (h : Fin 128) :
    unitsAt m c b j (ix2 ⟨n.val, by omega⟩ ⟨128 + h.val, by omega⟩) = hid (zV m c b j) (peV m c) (w1V m c) n h := by
  rw [units_apply, half_val, half_val, hid_halves]

/-! ## The result arrays -/

theorem flush_out : ∀ t : Fin cfg0.N, (cfg0.win 7).flush t = true ∧ (cfg0.win 8).flush t = true :=
  (by decide +kernel : ∀ t : Fin grid0.N, _)

/-- A product with the second key weights, whose row `r` is the weights' column `e`. -/
theorem second_key (b j : Fin 4) (n : Fin 255) (s : Fin 2) (r : Fin 128) (e : Fin 64)
    (hw : ∀ h : Fin 128, w2A m c (ix3 s r h) = w2K m c h e) :
    ∑ h : Fin 128, w2A m c (ix3 s r h)
        * gelu (unitsAt m c b j (ix2 ⟨n.val, by omega⟩ ⟨h.val, by omega⟩))
      = cmp (zK m c b j) (peK m c) (w1K m c) (w2K m c) n e := by
  unfold cmp
  refine Finset.sum_congr rfl fun h _ => ?_
  rw [hw, units_key, mul_comm]

theorem second_zero (b j : Fin 4) (n : Fin 256) (s : Fin 2) (r : Fin 128)
    (hw : ∀ h : Fin 128, w2A m c (ix3 s r h) = (0 : EReal)) :
    ∑ h : Fin 128, w2A m c (ix3 s r h)
        * gelu (unitsAt m c b j (ix2 n ⟨h.val, by omega⟩)) = 0 := by
  refine Finset.sum_eq_zero fun h _ => ?_
  rw [hw, zero_mul]

/-- The key block's entry at row `r`, block `n`. -/
theorem key_point (b j : Fin 4) (r : Fin 128) (n : Fin 256) :
    k0_pay17 (F := Ideal) (unitsAt m c b j) (cube (unitsAt m c b j)) (w2At0 (iblk m c 3 (pt b j))) (iblk m c 5 (pt b j))
        (w2At1 (iblk m c 3 (pt b j))) (iblk m c 6 (pt b j)) (ix4 0 0 r n)
      = if h : r.val < 64 ∧ n.val < 255 then
          rot (cmp (zK m c b j) (peK m c) (w1K m c) (w2K m c) ⟨n.val, h.2⟩) (lastPos ⟨n.val, h.2⟩) ⟨r.val, h.1⟩
        else 0 := by
  refine (keyBlock_apply _ _ _ _ _ r n).trans ?_
  simp only [w2At0_apply, w2At1_apply, blk_w2, blk_cos, blk_sin]
  by_cases hn : n.val < 255
  · rw [if_pos hn]
    by_cases hr : r.val < 64
    · refine Eq.trans ?_ (dif_pos ⟨hr, hn⟩).symm
      rw [← rot_tables]
      refine congrArg₂ (· + ·) (congrArg₂ (· * ·) ?_ (cosT m c ⟨n.val, hn⟩ ⟨r.val, hr⟩))
        (congrArg₂ (· * ·) ?_ (sinT m c ⟨n.val, hn⟩ ⟨r.val, hr⟩))
      · exact second_key m c b j ⟨n.val, hn⟩ 0 r ⟨r.val, hr⟩ fun h => w2_plain m c ⟨r.val, hr⟩ h
      · exact second_key m c b j ⟨n.val, hn⟩ 1 r (swap ⟨r.val, hr⟩) fun h => w2_swap m c ⟨r.val, hr⟩ h
    · refine Eq.trans ?_ (dif_neg fun h => hr h.1).symm
      have er : r = ⟨64 + (⟨r.val - 64, by omega⟩ : Fin 64).val, by dsimp only; omega⟩ := Fin.ext (by dsimp only; omega)
      have z0 := second_zero m c b j n 0 r fun h => (congrArg (fun q => w2A m c (ix3 0 q h)) er).trans
        (w2_plain_zero m c ⟨r.val - 64, by omega⟩ h)
      have z1 := second_zero m c b j n 1 r fun h => (congrArg (fun q => w2A m c (ix3 1 q h)) er).trans
        (w2_swap_zero m c ⟨r.val - 64, by omega⟩ h)
      refine (congrArg₂ (fun u v : EReal => u * cosA m c (ix2 r n) + v * sinA m c (ix2 r n)) z0 z1).trans ?_
      rw [zero_mul, zero_mul, zero_add]
  · rw [if_neg hn]
    refine Eq.trans ?_ (dif_neg fun h => hn h.2).symm
    rfl

/-- The value block's entry at block `n`, lane `r`. -/
theorem val_point (b j : Fin 4) (n : Fin 256) (r : Fin 128) :
    k0_pay1 (F := Ideal) (k0_pay16 (F := Ideal) (unitsAt m c b j) (cube (unitsAt m c b j))) (k0_pay18 (F := Ideal) (iblk m c 4 (pt b j)))
        (constant (F := Ideal) S256x128 .f32 0x00000000#32) (ix4 0 0 n r)
      = if h : n.val < 255 then cmp (zV m c b j) (peV m c) (w1V m c) (w2V m c) ⟨n.val, h⟩ ⟨r.val % 64, by omega⟩ else 0 := by
  refine (valBlock_apply _ _ n r).trans ?_
  simp only [blk_w2v]
  by_cases hn : n.val < 255
  · rw [if_pos hn, dif_pos hn]
    unfold cmp
    refine Finset.sum_congr rfl fun h _ => ?_
    exact congrArg₂ (· * ·) (congrArg gelu (units_val m c b j ⟨n.val, hn⟩ h)) (w2_v m c h r)
  · rw [if_neg hn, dif_neg hn]

/-- The compressed keys, at sequence `b`, group `j`, row `r` and block `n`. -/
theorem key_result (b j : Fin 4) (r : Fin 128) (n : Fin 256) :
    ((dats m 0 c).arrAt 7 cfg0.N : FVec Ideal S4x4x128x256 .bf16) (ix4 b j r n)
      = if h : r.val < 64 ∧ n.val < 255 then
          rot (cmp (zK m c b j) (peK m c) (w1K m c) (w2K m c) ⟨n.val, h.2⟩) (lastPos ⟨n.val, h.2⟩) ⟨r.val, h.1⟩
        else 0 := by
  have h := congrFun (Value.blocks7 (F := Ideal) m c (pt b j) (flush_out (pt b j)).1) (ix4 0 0 r n : S1x1x128x256.Idx)
  rw [Value.flushed7_A, out_key, View.read_apply] at h
  refine Eq.trans ?_ (h.trans (key_point m c b j r n))
  refine congrArg (fun i => ((dats m 0 c).arrAt 7 cfg0.N : FVec Ideal S4x4x128x256 .bf16) i) ?_
  funext a
  apply Fin.ext
  match a with
  | ⟨0, _⟩ =>
    show b.val = win0_7.index (pt b j) 0 * 1 + 1 * 0
    rw [(idx_key _).1]; show b.val = (b.val * 4 + j.val) / 4 * 1 + 1 * 0; omega
  | ⟨1, _⟩ =>
    show j.val = win0_7.index (pt b j) 1 * 1 + 1 * 0
    rw [(idx_key _).2.1]; show j.val = (b.val * 4 + j.val) % 4 * 1 + 1 * 0; omega
  | ⟨2, _⟩ => show r.val = win0_7.index (pt b j) 2 * 128 + 1 * r.val; rw [(idx_key _).2.2.1]; omega
  | ⟨3, _⟩ => show n.val = win0_7.index (pt b j) 3 * 256 + 1 * n.val; rw [(idx_key _).2.2.2]; omega

/-- The compressed values, at sequence `b`, group `j`, block `n` and lane `r`. -/
theorem val_result (b j : Fin 4) (n : Fin 256) (r : Fin 128) :
    ((dats m 0 c).arrAt 8 cfg0.N : FVec Ideal S4x4x256x128 .bf16) (ix4 b j n r)
      = if h : n.val < 255 then cmp (zV m c b j) (peV m c) (w1V m c) (w2V m c) ⟨n.val, h⟩ ⟨r.val % 64, by omega⟩ else 0 := by
  have h := congrFun (Value.blocks8 (F := Ideal) m c (pt b j) (flush_out (pt b j)).2) (ix4 0 0 n r : S1x1x256x128.Idx)
  rw [Value.flushed8_A, out_val, View.read_apply] at h
  refine Eq.trans ?_ (h.trans (val_point m c b j n r))
  refine congrArg (fun i => ((dats m 0 c).arrAt 8 cfg0.N : FVec Ideal S4x4x256x128 .bf16) i) ?_
  funext a
  apply Fin.ext
  match a with
  | ⟨0, _⟩ =>
    show b.val = win0_8.index (pt b j) 0 * 1 + 1 * 0
    rw [(idx_val _).1]; show b.val = (b.val * 4 + j.val) / 4 * 1 + 1 * 0; omega
  | ⟨1, _⟩ =>
    show j.val = win0_8.index (pt b j) 1 * 1 + 1 * 0
    rw [(idx_val _).2.1]; show j.val = (b.val * 4 + j.val) % 4 * 1 + 1 * 0; omega
  | ⟨2, _⟩ => show n.val = win0_8.index (pt b j) 2 * 256 + 1 * n.val; rw [(idx_val _).2.2.1]; omega
  | ⟨3, _⟩ => show r.val = win0_8.index (pt b j) 3 * 128 + 1 * r.val; rw [(idx_val _).2.2.2]; omega

end Cert.Cmp
-- ==== Proof.Cmp.Reference.lean ====
/-
  What the compression's reference computes, at an index: its result terms cut into the blocks, the network, the rotation
  and the padding, each read at an index.
-/
module

public import proofs.«01_k».proof.Proof.Gen.CmpReferenceIdeal.Run
public import proofs.«01_k».proof.Proof.Cmp.Math
public import Idealize.ShloMosaic.Lib.Tactic

@[expose] public section

set_option maxRecDepth 16384

noncomputable section

namespace Cert.Cmp

open Idealize.ShloMosaic Cert.CmpReferenceIdeal Cert.CmpReferenceIdeal.Gen Cert.Ffn Cert.Kv

/-! ## The network -/

/-- The blocks of thirty-two positions, sixteen apart, plus the embedding, each as one row. -/
def rBlk (z : FVec Ideal S4x4096x4x64 .f32) (pe : FVec Ideal S32x64 .f32) : FVec Ideal S4x255x4x2048 .f32 :=
  shapeCast S4x255x4x2048 (transpose S4x255x4x32x64 [0, 1, 3, 2, 4]
    (addf (concatenate S4x255x32x4x64 2
        [⟨S4x255x16x4x64, extractStridedSlice S4x255x16x4x64 ![0, 0, 0, 0, 0]
            (shapeCast S4x256x16x4x64 z shapeCasts_S4x4096x4x64_S4x256x16x4x64) slices_S4x256x16x4x64_S4x255x16x4x64_0_0_0_0_0⟩,
         ⟨S4x255x16x4x64, extractStridedSlice S4x255x16x4x64 ![0, 1, 0, 0, 0]
            (shapeCast S4x256x16x4x64 z shapeCasts_S4x4096x4x64_S4x256x16x4x64) slices_S4x256x16x4x64_S4x255x16x4x64_0_1_0_0_0⟩]
        concatenates_S4x255x16x4x64_S4x255x16x4x64_S4x255x32x4x64_d2)
      (broadcastInDim S4x255x32x4x64 ![0, 1, 2, 3, 4] bcast_S1x1x32x1x64_S4x255x32x4x64_0_1_2_3_4
        (broadcastInDim S1x1x32x1x64 ![2, 4] bcast_S32x64_S1x1x32x1x64_2_4 pe)))
    transposes_S4x255x32x4x64_S4x255x4x32x64_0_1_3_2_4) shapeCasts_S4x255x4x32x64_S4x255x4x2048

/-- The hidden units. -/
def rHid (z : FVec Ideal S4x4096x4x64 .f32) (pe : FVec Ideal S32x64 .f32) (w : FVec Ideal S2048x128 .f32) :
    FVec Ideal S4x255x4x128 .f32 :=
  Host.dotGeneral dot_S4x255x4x2048_S2048x128_S4x255x4x128_3_0_012_1_n_n none (rBlk z pe) w

/-- The activation. -/
def rAct (x : FVec Ideal S4x255x4x128 .f32) : FVec Ideal S4x255x4x128 .f32 :=
  mulf x (mulf (broadcastInDim S4x255x4x128 ![] bcast_S_S4x255x4x128 (constant (F := Ideal) S_ .f32 0x3F000000#32))
    (addf (broadcastInDim S4x255x4x128 ![] bcast_S_S4x255x4x128 (constant (F := Ideal) S_ .f32 0x3F800000#32))
      (Host.tanh (mulf (broadcastInDim S4x255x4x128 ![] bcast_S_S4x255x4x128 (constant (F := Ideal) S_ .f32 0x3F4C422A#32))
        (addf x (mulf (broadcastInDim S4x255x4x128 ![] bcast_S_S4x255x4x128 (constant (F := Ideal) S_ .f32 0x3D372713#32))
          (mulf (mulf x x) x)))))))

/-- The compressed blocks. -/
def rCmp (z : FVec Ideal S4x4096x4x64 .f32) (pe : FVec Ideal S32x64 .f32) (w1 : FVec Ideal S2048x128 .f32)
    (w2 : FVec Ideal S128x64 .f32) : FVec Ideal S4x255x4x64 .f32 :=
  Host.dotGeneral dot_S4x255x4x128_S128x64_S4x255x4x64_3_0_012_1_n_n none (rAct (rHid z pe w1)) w2

theorem rBlk_apply (z : FVec Ideal S4x4096x4x64 .f32) (pe : FVec Ideal S32x64 .f32) (b : Fin 4) (n : Fin 255) (g : Fin 4)
    (k : Fin 2048) :
    rBlk z pe (ix4 b n g k) = z (ix4 b ⟨16 * n.val + k.val / 64, by omega⟩ g ⟨k.val % 64, by omega⟩)
      + pe (ix2 ⟨k.val / 64, by omega⟩ ⟨k.val % 64, by omega⟩) := by
  pointwise [rBlk]
  refine congrArg (· + pe (ix2 ⟨k.val / 64, by omega⟩ ⟨k.val % 64, by omega⟩)) ?_
  have hk := k.isLt
  by_cases h : k.val / 64 < 16
  · rw [dif_pos h]
    refine congrArg (fun t => z (ix4 b t g ⟨k.val % 64, by omega⟩)) (Fin.ext ?_)
    show n.val * 16 + k.val / 64 = 16 * n.val + k.val / 64
    omega
  · rw [dif_neg h]
    refine congrArg (fun t => z (ix4 b t g ⟨k.val % 64, by omega⟩)) (Fin.ext ?_)
    show (1 + n.val) * 16 + (k.val / 64 - 16) = 16 * n.val + k.val / 64
    omega

theorem rHid_apply (z : FVec Ideal S4x4096x4x64 .f32) (pe : FVec Ideal S32x64 .f32) (w : FVec Ideal S2048x128 .f32)
    (b : Fin 4) (n : Fin 255) (g : Fin 4) (h : Fin 128) :
    rHid z pe w (ix4 b n g h)
      = hid (fun t e => z (ix4 b t g e)) (fun l e => pe (ix2 l e)) (fun k h => w (ix2 k h)) n h := by
  pointwise [rHid]
  simp only [rBlk_apply]
  rfl

theorem rAct_apply (x : FVec Ideal S4x255x4x128 .f32) (b : Fin 4) (n : Fin 255) (g : Fin 4) (h : Fin 128) :
    rAct x (ix4 b n g h) = gelu (x (ix4 b n g h)) := by
  pointwise [rAct]
  unfold gelu
  rw [mul_comm (x (ix4 b n g h) * x (ix4 b n g h)) (x (ix4 b n g h))]

theorem rCmp_apply (z : FVec Ideal S4x4096x4x64 .f32) (pe : FVec Ideal S32x64 .f32) (w1 : FVec Ideal S2048x128 .f32)
    (w2 : FVec Ideal S128x64 .f32) (b : Fin 4) (n : Fin 255) (g : Fin 4) (e : Fin 64) :
    rCmp z pe w1 w2 (ix4 b n g e)
      = cmp (fun t e => z (ix4 b t g e)) (fun l e => pe (ix2 l e)) (fun k h => w1 (ix2 k h)) (fun h e => w2 (ix2 h e)) n e := by
  pointwise [rCmp]
  simp only [rAct_apply, rHid_apply]
  rfl

/-! ## The rotation -/

/-- The angle of every frequency at every block's last position. -/
def rAngle : FVec Ideal S255x8 .f32 :=
  mulf (broadcastInDim S255x8 ![0, 1] bcast_S255x1_S255x8_0_1 (broadcastInDim S255x1 ![0] bcast_S255_S255x1_0
      (sitofp (F := Ideal) .f32 (subi (addi (muli (iotaInDim S255 32 0) (broadcastInDim S255 ![] bcast_S_S255 (constantI S_ 32 16#32)))
        (broadcastInDim S255 ![] bcast_S_S255 (constantI S_ 32 32#32))) (broadcastInDim S255 ![] bcast_S_S255 (constantI S_ 32 1#32))))))
    (broadcastInDim S255x8 ![0, 1] bcast_S1x8_S255x8_0_1 (broadcastInDim S1x8 ![1] bcast_S8_S1x8_1
      (Host.powf (broadcastInDim S8 ![] bcast_S_S8 (constant (F := Ideal) S_ .f32 0x48F42400#32))
        (Host.divf (Host.negf (sitofp (F := Ideal) .f32 (iotaInDim S8 32 0)))
          (broadcastInDim S8 ![] bcast_S_S8 (constant (F := Ideal) S_ .f32 0x41000000#32))))))

/-- A table spread over sequences and groups. -/
def rSpread (a : FVec Ideal S255x8 .f32) : FVec Ideal S4x255x4x8 .f32 :=
  broadcastInDim S4x255x4x8 ![0, 1, 2, 3] bcast_S1x255x1x8_S4x255x4x8_0_1_2_3
    (broadcastInDim S1x255x1x8 ![1, 2, 3] bcast_S255x1x8_S1x255x1x8_1_2_3
      (broadcastInDim S255x1x8 ![0, 2] bcast_S255x8_S255x1x8_0_2 a))

theorem rAngle_apply (n : Fin 255) (e : Fin 8) : rAngle (ix2 n e) = angle (lastPos n) e := by
  unfold angle
  rw [← pos_bits n]
  pointwise [rAngle]
  rfl

theorem rSpread_apply (a : FVec Ideal S255x8 .f32) (b : Fin 4) (n : Fin 255) (h : Fin 4) (e : Fin 8) :
    rSpread a (ix4 b n h e) = a (ix2 n e) := by
  pointwise [rSpread]

/-- The first and the second eight lanes. -/
def rLow (x : FVec Ideal S4x255x4x64 .f32) : FVec Ideal S4x255x4x8 .f32 :=
  extractStridedSlice S4x255x4x8 ![0, 0, 0, 0] (extractStridedSlice S4x255x4x16 ![0, 0, 0, 0] x
    slices_S4x255x4x64_S4x255x4x16_0_0_0_0) slices_S4x255x4x16_S4x255x4x8_0_0_0_0
def rHigh (x : FVec Ideal S4x255x4x64 .f32) : FVec Ideal S4x255x4x8 .f32 :=
  extractStridedSlice S4x255x4x8 ![0, 0, 0, 8] (extractStridedSlice S4x255x4x16 ![0, 0, 0, 0] x
    slices_S4x255x4x64_S4x255x4x16_0_0_0_0) slices_S4x255x4x16_S4x255x4x8_0_0_0_8

/-- The rotated blocks. -/
def rRope (x : FVec Ideal S4x255x4x64 .f32) : FVec Ideal S4x255x4x64 .f32 :=
  concatenate S4x255x4x64 3 [⟨S4x255x4x16, concatenate S4x255x4x16 3
      [⟨S4x255x4x8, subf (mulf (rLow x) (rSpread (Host.cos rAngle))) (mulf (rHigh x) (rSpread (Host.sin rAngle)))⟩,
       ⟨S4x255x4x8, addf (mulf (rHigh x) (rSpread (Host.cos rAngle))) (mulf (rLow x) (rSpread (Host.sin rAngle)))⟩]
      concatenates_S4x255x4x8_S4x255x4x8_S4x255x4x16_d3⟩,
    ⟨S4x255x4x48, extractStridedSlice S4x255x4x48 ![0, 0, 0, 16] x slices_S4x255x4x64_S4x255x4x48_0_0_0_16⟩]
    concatenates_S4x255x4x16_S4x255x4x48_S4x255x4x64_d3

theorem rLow_apply (x : FVec Ideal S4x255x4x64 .f32) (b : Fin 4) (n : Fin 255) (h : Fin 4) (e : Fin 8) :
    rLow x (ix4 b n h e) = x (ix4 b n h ⟨e.val, by omega⟩) := by
  pointwise [rLow]
theorem rHigh_apply (x : FVec Ideal S4x255x4x64 .f32) (b : Fin 4) (n : Fin 255) (h : Fin 4) (e : Fin 8) :
    rHigh x (ix4 b n h e) = x (ix4 b n h ⟨8 + e.val, by omega⟩) := by
  pointwise [rHigh]

theorem rRope_apply (x : FVec Ideal S4x255x4x64 .f32) (b : Fin 4) (n : Fin 255) (h : Fin 4) (e : Fin 64) :
    rRope x (ix4 b n h e) = rot (fun e => x (ix4 b n h e)) (lastPos n) e := by
  have hc : ∀ e, Host.cos rAngle (ix2 n e) = Ideal.cos (angle (lastPos n) e) := fun e => by pointwise; rw [rAngle_apply]
  have hs : ∀ e, Host.sin rAngle (ix2 n e) = Ideal.sin (angle (lastPos n) e) := fun e => by pointwise; rw [rAngle_apply]
  pointwise [rRope]
  simp only [rLow_apply, rHigh_apply, rSpread_apply, hc, hs]
  unfold rot
  by_cases h8 : e.val < 8
  · have h16 : e.val < 16 := by omega
    rw [dif_pos h16, dif_pos h8, dif_pos h8]
  · rw [dif_neg h8]
    by_cases h16 : e.val < 16
    · have ee : (⟨8 + (e.val - 8), by omega⟩ : Fin 64) = e := Fin.ext (by dsimp only; omega)
      rw [dif_pos h16, dif_neg h8, dif_pos h16, ee]
    · have ee : (⟨16 + (e.val - 16), by omega⟩ : Fin 64) = e := Fin.ext (by dsimp only; omega)
      rw [dif_neg h16, dif_neg h16, ee]

/-! ## The two results -/

theorem trunc_apply {S : Shape} (X : FVec Ideal S .f32) (h : FTy.bits .bf16 < FTy.bits .f32) (i : S.Idx) :
    (truncf .bf16 X h : FVec Ideal S .bf16) i = X i := rfl

theorem zero_int : (FloatOps.sitofp (F := Ideal) .f32 0#32 : EReal) = 0 := by
  show ((((0#32 : BitVec 32).toInt : ℝ)) : EReal) = 0
  simp

/-- The keys with blocks as columns, padded by zeros. -/
def rPadK (x : FVec Ideal S4x255x4x64 .f32) : FVec Ideal S4x4x128x256 .f32 :=
  pad S4x4x128x256 ![0, 0, 0, 0] ![0, 0, 64, 1] ![0, 0, 0, 0]
    (transpose S4x4x64x255 [0, 2, 3, 1] x transposes_S4x255x4x64_S4x4x64x255_0_2_3_1)
    (sitofp (F := Ideal) .f32 (constantI S_ 32 0#32)) pads_S4x4x64x255_S4x4x128x256_000_000_0640_010 h_S_

/-- The values twice side by side, blocks as rows, padded by zeros. -/
def rPadV (x : FVec Ideal S4x255x4x64 .f32) : FVec Ideal S4x4x256x128 .f32 :=
  pad S4x4x256x128 ![0, 0, 0, 0] ![0, 0, 1, 0] ![0, 0, 0, 0]
    (transpose S4x4x255x128 [0, 2, 1, 3] (concatenate S4x255x4x128 3 [⟨S4x255x4x64, x⟩, ⟨S4x255x4x64, x⟩]
      concatenates_S4x255x4x64_S4x255x4x64_S4x255x4x128_d3) transposes_S4x255x4x128_S4x4x255x128_0_2_1_3)
    (sitofp (F := Ideal) .f32 (constantI S_ 32 0#32)) pads_S4x4x255x128_S4x4x256x128_000_000_010_000 h_S_

theorem rPadK_apply (x : FVec Ideal S4x255x4x64 .f32) (b g : Fin 4) (r : Fin 128) (n : Fin 256) :
    rPadK x (ix4 b g r n) = if h : r.val < 64 ∧ n.val < 255 then x (ix4 b ⟨n.val, h.2⟩ g ⟨r.val, h.1⟩) else 0 := by
  pointwise [rPadK]
  rw [zero_int]

theorem rPadV_apply (x : FVec Ideal S4x255x4x64 .f32) (b g : Fin 4) (n : Fin 256) (r : Fin 128) :
    rPadV x (ix4 b g n r) = if h : n.val < 255 then x (ix4 b ⟨n.val, h⟩ g ⟨r.val % 64, by omega⟩) else 0 := by
  pointwise [rPadV]
  rw [zero_int]
  by_cases h : n.val < 255
  · rw [dif_pos h, dif_pos h]
    by_cases h' : r.val < 64
    · rw [dif_pos h']
      refine congrArg (fun e => x (ix4 b ⟨n.val, h⟩ g e)) (Fin.ext ?_)
      show r.val = r.val % 64
      omega
    · rw [dif_neg h']
      refine congrArg (fun e => x (ix4 b ⟨n.val, h⟩ g e)) (Fin.ext ?_)
      show r.val - 64 = r.val % 64
      omega
  · rw [dif_neg h, dif_neg h]

def rKey (z : FVec Ideal S4x4096x4x64 .f32) (pe : FVec Ideal S32x64 .f32) (w1 : FVec Ideal S2048x128 .f32)
    (w2 : FVec Ideal S128x64 .f32) : FVec Ideal S4x4x128x256 .bf16 := truncf .bf16 (rPadK (rRope (rCmp z pe w1 w2))) bitsLt_bf16_f32

def rVal (z : FVec Ideal S4x4096x4x64 .f32) (pe : FVec Ideal S32x64 .f32) (w1 : FVec Ideal S2048x128 .f32)
    (w2 : FVec Ideal S128x64 .f32) : FVec Ideal S4x4x256x128 .bf16 := truncf .bf16 (rPadV (rCmp z pe w1 w2)) bitsLt_bf16_f32

theorem rKey_apply (z : FVec Ideal S4x4096x4x64 .f32) (pe : FVec Ideal S32x64 .f32) (w1 : FVec Ideal S2048x128 .f32)
    (w2 : FVec Ideal S128x64 .f32) (b g : Fin 4) (r : Fin 128) (n : Fin 256) :
    rKey z pe w1 w2 (ix4 b g r n) = if h : r.val < 64 ∧ n.val < 255 then
      rot (cmp (fun t e => z (ix4 b t g e)) (fun l e => pe (ix2 l e)) (fun k h => w1 (ix2 k h)) (fun h e => w2 (ix2 h e)) ⟨n.val, h.2⟩)
        (lastPos ⟨n.val, h.2⟩) ⟨r.val, h.1⟩ else 0 := by
  refine (trunc_apply _ _ _).trans ((rPadK_apply _ b g r n).trans ?_)
  by_cases h : r.val < 64 ∧ n.val < 255
  · rw [dif_pos h, dif_pos h, rRope_apply]
    exact congrArg (fun y => rot y _ _) (funext fun e => rCmp_apply z pe w1 w2 b _ g e)
  · rw [dif_neg h, dif_neg h]

theorem rVal_apply (z : FVec Ideal S4x4096x4x64 .f32) (pe : FVec Ideal S32x64 .f32) (w1 : FVec Ideal S2048x128 .f32)
    (w2 : FVec Ideal S128x64 .f32) (b g : Fin 4) (n : Fin 256) (r : Fin 128) :
    rVal z pe w1 w2 (ix4 b g n r) = if h : n.val < 255 then
      cmp (fun t e => z (ix4 b t g e)) (fun l e => pe (ix2 l e)) (fun k h => w1 (ix2 k h)) (fun h e => w2 (ix2 h e)) ⟨n.val, h⟩
        ⟨r.val % 64, by omega⟩ else 0 := by
  refine (trunc_apply _ _ _).trans ((rPadV_apply _ b g n r).trans ?_)
  by_cases h : n.val < 255
  · rw [dif_pos h, dif_pos h]
    exact rCmp_apply z pe w1 w2 b _ g _
  · rw [dif_neg h, dif_neg h]

section Run

variable (m : (ℓ : Loc nD τ sig) → Buf (Elt Ideal) ℓ) (c : Dev nD)

theorem key_run : Cert.CmpReferenceIdeal.Value.res_out0 m c = rKey (m (c.tc.loc main_arg0)) (m (c.tc.loc main_arg2))
    (m (c.tc.loc main_arg4)) (m (c.tc.loc main_arg5)) := by
  unfold Cert.CmpReferenceIdeal.Value.res_out0 Cert.CmpReferenceIdeal.Value.res_main_v96 rKey rPadK rRope rLow rHigh rSpread rAngle rCmp
    rAct rHid rBlk
  rfl

theorem val_run : Cert.CmpReferenceIdeal.Value.res_out1 m c = rVal (m (c.tc.loc main_arg1)) (m (c.tc.loc main_arg3))
    (m (c.tc.loc main_arg6)) (m (c.tc.loc main_arg7)) := by
  unfold Cert.CmpReferenceIdeal.Value.res_out1 Cert.CmpReferenceIdeal.Value.res_main_v97 rVal rPadV rCmp rAct rHid rBlk
  rfl

end Run

end Cert.Cmp
-- ==== Proof.Cmp.Equation.lean ====
/-
  The two arrays of the compression kernel are the two results of its reference.
-/
module

public import proofs.«01_k».proof.Proof.Cmp.Kernel
public import proofs.«01_k».proof.Proof.Cmp.Reference

@[expose] public section

noncomputable section

namespace Cert.Cmp

open Idealize.ShloMosaic Idealize.ShloMosaic.TcCoe Cert.CmpKernelIdeal

/-- An index of four coordinates is the list of its coordinates. -/
theorem eta4 {a b c d : ℕ} (i : (⟨4, ![a, b, c, d]⟩ : Shape).Idx) : i = ix4 (i 0) (i 1) (i 2) (i 3) := by
  funext k
  match k with
  | ⟨0, _⟩ => rfl
  | ⟨1, _⟩ => rfl
  | ⟨2, _⟩ => rfl
  | ⟨3, _⟩ => rfl

variable (m : (ℓ : Loc nD τ sig) → Buf (Elt Ideal) ℓ) (c : Dev nD)

theorem key_at (b : Fin 4) (j : Fin 4) (r : Fin 128) (n : Fin 256) :
    ((Gen.dats m 0 c).arrAt 7 cfg0.N : FVec Ideal S4x4x128x256 .bf16) (ix4 b j r n) = rKey (m (c.tc.loc main_arg0)) (m (c.tc.loc main_arg2)) (m (c.tc.loc main_arg4)) (m (c.tc.loc main_arg5)) (ix4 b j r n) :=
  (key_result m c b j r n).trans (rKey_apply _ _ _ _ b j r n).symm

theorem key_eq : ((Gen.dats m 0 c).arrAt 7 cfg0.N : FVec Ideal S4x4x128x256 .bf16) = rKey (m (c.tc.loc main_arg0)) (m (c.tc.loc main_arg2)) (m (c.tc.loc main_arg4)) (m (c.tc.loc main_arg5)) :=
  funext fun i => (congrArg _ (eta4 i)).trans ((key_at m c _ _ _ _).trans (congrArg _ (eta4 i)).symm)

theorem val_at (b : Fin 4) (j : Fin 4) (n : Fin 256) (r : Fin 128) :
    ((Gen.dats m 0 c).arrAt 8 cfg0.N : FVec Ideal S4x4x256x128 .bf16) (ix4 b j n r) = rVal (m (c.tc.loc main_arg1)) (m (c.tc.loc main_arg3)) (m (c.tc.loc main_arg6)) (m (c.tc.loc main_arg7)) (ix4 b j n r) :=
  (val_result m c b j n r).trans (rVal_apply _ _ _ _ b j n r).symm

theorem val_eq : ((Gen.dats m 0 c).arrAt 8 cfg0.N : FVec Ideal S4x4x256x128 .bf16) = rVal (m (c.tc.loc main_arg1)) (m (c.tc.loc main_arg3)) (m (c.tc.loc main_arg6)) (m (c.tc.loc main_arg7)) :=
  funext fun i => (congrArg _ (eta4 i)).trans ((val_at m c _ _ _ _).trans (congrArg _ (eta4 i)).symm)

end Cert.Cmp
-- ==== Proof.lean ====
module

public import proofs.«01_k».proof.Defs
public import proofs.«01_k».proof.Proof.Gen.FfnKernel.Frame
public import proofs.«01_k».proof.Proof.Gen.FfnKernelIdeal.Frame
public import proofs.«01_k».proof.Proof.Gen.FfnReferenceIdeal.Run
public import proofs.«01_k».proof.Proof.Gen.FfnKernelIdeal.Value
public import proofs.«01_k».proof.Proof.Gen.GluKernel.Frame
public import proofs.«01_k».proof.Proof.Gen.GluKernelIdeal.Frame
public import proofs.«01_k».proof.Proof.Gen.GluKernelIdeal.Value
public import proofs.«01_k».proof.Proof.Gen.GluReferenceIdeal.Run
public import proofs.«01_k».proof.Proof.Gen.OutKernel.Frame
public import proofs.«01_k».proof.Proof.Gen.OutKernelIdeal.Frame
public import proofs.«01_k».proof.Proof.Gen.OutKernelIdeal.Value
public import proofs.«01_k».proof.Proof.Gen.OutReferenceIdeal.Run
public import proofs.«01_k».proof.Proof.Gen.KvKernel.Frame
public import proofs.«01_k».proof.Proof.Gen.KvKernelIdeal.Frame
public import proofs.«01_k».proof.Proof.Gen.KvKernelIdeal.Value
public import proofs.«01_k».proof.Proof.Gen.KvReferenceIdeal.Run
public import proofs.«01_k».proof.Proof.Gen.CmpKernel.Frame
public import proofs.«01_k».proof.Proof.Gen.CmpKernelIdeal.Frame
public import proofs.«01_k».proof.Proof.Gen.CmpKernelIdeal.Value
public import proofs.«01_k».proof.Proof.Gen.CmpReferenceIdeal.Run
public import proofs.«01_k».proof.Proof.Ffn.Value
public import proofs.«01_k».proof.Proof.Ffn.Reference
public import proofs.«01_k».proof.Proof.Glu.Kernel
public import proofs.«01_k».proof.Proof.Glu.Reference
public import proofs.«01_k».proof.Proof.Out.Kernel
public import proofs.«01_k».proof.Proof.Out.Reference
public import proofs.«01_k».proof.Proof.Kv.Equation
public import proofs.«01_k».proof.Proof.Cmp.Equation
public import Idealize.ShloMosaic.Adequacy
public import Idealize.ShloMosaic.Init

@[expose] public section

noncomputable section

namespace Cert.Proof

open Idealize.ShloMosaic Idealize.SL.Sem

/-- The kernel's result array is the reference's, on arrays that agree. -/
theorem ffn_eq (m : (ℓ : Loc Cert.FfnKernelIdeal.nD Cert.FfnKernelIdeal.τ Cert.FfnKernelIdeal.sig) → Buf (Elt Ideal) ℓ)
    (c : Dev Cert.FfnKernelIdeal.nD) :
    (Cert.FfnKernelIdeal.Value.G9 m c : FVec Ideal Cert.FfnKernelIdeal.S16384x1024 .f32)
      = Cert.Ffn.rRes (m (c.tc.loc Cert.FfnKernelIdeal.main_arg0)) (m (c.tc.loc Cert.FfnKernelIdeal.main_arg1))
          (m (c.tc.loc Cert.FfnKernelIdeal.main_arg2)) (m (c.tc.loc Cert.FfnKernelIdeal.main_arg3))
          (m (c.tc.loc Cert.FfnKernelIdeal.main_arg4)) (m (c.tc.loc Cert.FfnKernelIdeal.main_arg5))
          (m (c.tc.loc Cert.FfnKernelIdeal.main_arg6)) := by
  funext j
  have e : j = (ix2 (j 0) (j 1) : Cert.FfnKernelIdeal.S16384x1024.Idx) := by
    funext a
    match a with
    | ⟨0, _⟩ => rfl
    | ⟨1, _⟩ => rfl
  rw [e]
  exact (Cert.Ffn.result_apply m c (j 0) (j 1)).trans (Cert.Ffn.rRes_apply _ _ _ _ _ _ _ (j 0) (j 1)).symm

theorem frame_ffnReference : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

theorem algebraic_ffn : Cert.algebraic_FfnKernelIdeal_FfnReferenceIdeal := by
  intro m ρ m' ρ' _ hag
  refine ⟨fun c => Cert.FfnKernelIdeal.Value.G9 m c, Cert.FfnKernelIdeal.Value.run (F := Ideal) m ρ, ?_⟩
  refine (θ_run Cert.FfnReferenceIdeal.defs _ _).mono (fun _ h c => ⟨(h c).1.trans ?_, (h c).2⟩)
    (Cert.FfnReferenceIdeal.Value.run (F := Ideal) m' ρ')
  obtain ⟨h0, h1, h2, h3, h4, h5, h6⟩ := hag c
  refine (Cert.Ffn.res_eq m' c).trans (Eq.trans ?_ (ffn_eq m c).symm)
  rw [h0, h1, h2, h3, h4, h5, h6]

/-! ## The state-space layer's gated output -/

theorem glu_eq (m : (ℓ : Loc Cert.GluKernelIdeal.nD Cert.GluKernelIdeal.τ Cert.GluKernelIdeal.sig) → Buf (Elt Ideal) ℓ)
    (c : Dev Cert.GluKernelIdeal.nD) :
    ((Cert.GluKernelIdeal.Gen.dats m 0 c).arrAt 6 Cert.GluKernelIdeal.cfg0.N : FVec Ideal Cert.GluKernelIdeal.S16384x1024 .f32)
      = Cert.Glu.rRes (m (c.tc.loc Cert.GluKernelIdeal.main_arg0))
          (m (c.tc.loc Cert.GluKernelIdeal.main_arg1))
          (m (c.tc.loc Cert.GluKernelIdeal.main_arg2))
          (m (c.tc.loc Cert.GluKernelIdeal.main_arg3))
          (m (c.tc.loc Cert.GluKernelIdeal.main_arg4))
          (m (c.tc.loc Cert.GluKernelIdeal.main_arg5)) := by
  funext j
  have e : j = (ix2 (j 0) (j 1) : Cert.GluKernelIdeal.S16384x1024.Idx) := by
    funext a
    match a with
    | ⟨0, _⟩ => rfl
    | ⟨1, _⟩ => rfl
  rw [e]
  exact (Cert.Glu.result_apply m c (j 0) (j 1)).trans (Cert.Glu.rRes_apply _ _ _ _ _ _ (j 0) (j 1)).symm

theorem frame_gluReference : Cert.quiescent_GluReferenceIdeal := fun m ρ _ =>
  (θ_run Cert.GluReferenceIdeal.defs _ _).mono (fun r h => ⟨fun c => (h c).2, sem_eq_zero_of_no_sems (by decide) r.2⟩)
    (Cert.GluReferenceIdeal.Value.run (F := Ideal) m ρ)

theorem algebraic_glu : Cert.algebraic_GluKernelIdeal_GluReferenceIdeal := by
  intro m ρ m' ρ' _ hag
  refine ⟨fun c => (Cert.GluKernelIdeal.Gen.dats m 0 c).arrAt 6 Cert.GluKernelIdeal.cfg0.N,
    Cert.GluKernelIdeal.Value.run_blocks (F := Ideal) m ρ, ?_⟩
  refine (θ_run Cert.GluReferenceIdeal.defs _ _).mono (fun _ h c => ⟨(h c).1.trans ?_, (h c).2⟩)
    (Cert.GluReferenceIdeal.Value.run (F := Ideal) m' ρ')
  obtain ⟨h0, h1, h2, h3, h4, h5⟩ := hag c
  refine (Cert.Glu.res_eq m' c).trans (Eq.trans ?_ (glu_eq m c).symm)
  rw [h0, h1, h2, h3, h4, h5]

/-! ## The sparse-attention layer's output projection -/

theorem out_eq (m : (ℓ : Loc Cert.OutKernelIdeal.nD Cert.OutKernelIdeal.τ Cert.OutKernelIdeal.sig) → Buf (Elt Ideal) ℓ)
    (c : Dev Cert.OutKernelIdeal.nD) :
    ((Cert.OutKernelIdeal.Gen.dats m 0 c).arrAt 4 Cert.OutKernelIdeal.cfg0.N : FVec Ideal Cert.OutKernelIdeal.S16384x1024 .f32)
      = Cert.Out.rRes (m (c.tc.loc Cert.OutKernelIdeal.main_arg0))
          (m (c.tc.loc Cert.OutKernelIdeal.main_arg1))
          (m (c.tc.loc Cert.OutKernelIdeal.main_arg2))
          (m (c.tc.loc Cert.OutKernelIdeal.main_arg3)) := by
  funext j
  have e : j = (ix2 (j 0) (j 1) : Cert.OutKernelIdeal.S16384x1024.Idx) := by
    funext a
    match a with
    | ⟨0, _⟩ => rfl
    | ⟨1, _⟩ => rfl
  rw [e]
  exact (Cert.Out.result_apply m c (j 0) (j 1)).trans (Cert.Out.rRes_apply _ _ _ _ (j 0) (j 1)).symm

theorem frame_outReference : Cert.quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

theorem algebraic_out : Cert.algebraic_OutKernelIdeal_OutReferenceIdeal := by
  intro m ρ m' ρ' _ hag
  refine ⟨fun c => (Cert.OutKernelIdeal.Gen.dats m 0 c).arrAt 4 Cert.OutKernelIdeal.cfg0.N,
    Cert.OutKernelIdeal.Value.run_blocks (F := Ideal) m ρ, ?_⟩
  refine (θ_run Cert.OutReferenceIdeal.defs _ _).mono (fun _ h c => ⟨(h c).1.trans ?_, (h c).2⟩)
    (Cert.OutReferenceIdeal.Value.run (F := Ideal) m' ρ')
  obtain ⟨h0, h1, h2, h3⟩ := hag c
  refine (Eq.trans ?_ (out_eq m c).symm)
  rw [h0, h1, h2, h3]
  rfl

/-! ## The sparse-attention layer's key and value projection -/

theorem frame_kvReference : Cert.quiescent_KvReferenceIdeal := fun m ρ _ =>
  (θ_run Cert.KvReferenceIdeal.defs _ _).mono (fun r h => ⟨fun c => (h c).2.2.2.2, sem_eq_zero_of_no_sems (by decide) r.2⟩)
    (Cert.KvReferenceIdeal.Value.run (F := Ideal) m ρ)

theorem algebraic_kv : Cert.algebraic_KvKernelIdeal_KvReferenceIdeal := by
  intro m ρ m' ρ' _ hag
  refine ⟨fun c => (Cert.KvKernelIdeal.Gen.dats m 0 c).arrAt 6 Cert.KvKernelIdeal.cfg0.N,
    fun c => (Cert.KvKernelIdeal.Gen.dats m 0 c).arrAt 7 Cert.KvKernelIdeal.cfg0.N,
    fun c => (Cert.KvKernelIdeal.Gen.dats m 0 c).arrAt 8 Cert.KvKernelIdeal.cfg0.N,
    fun c => (Cert.KvKernelIdeal.Gen.dats m 0 c).arrAt 9 Cert.KvKernelIdeal.cfg0.N,
    Cert.KvKernelIdeal.Value.run_blocks (F := Ideal) m ρ, ?_⟩
  refine (θ_run Cert.KvReferenceIdeal.defs _ _).mono (fun _ h c => ⟨(h c).1.trans ?_, (h c).2.1.trans ?_, (h c).2.2.1.trans ?_,
    (h c).2.2.2.1.trans ?_, (h c).2.2.2.2⟩) (Cert.KvReferenceIdeal.Value.run (F := Ideal) m' ρ')
  all_goals obtain ⟨h0, h1, h2⟩ := hag c
  · refine Eq.trans (b := Cert.Kv.rKey (m' (c.tc.loc Cert.KvReferenceIdeal.main_arg0)) (m' (c.tc.loc Cert.KvReferenceIdeal.main_arg1))
      (m' (c.tc.loc Cert.KvReferenceIdeal.main_arg2))) rfl (Eq.trans ?_ (Cert.Kv.key_eq m c).symm)
    rw [h0, h1, h2]
  · refine Eq.trans (b := Cert.Kv.rV (m' (c.tc.loc Cert.KvReferenceIdeal.main_arg0)) (m' (c.tc.loc Cert.KvReferenceIdeal.main_arg1))
      (m' (c.tc.loc Cert.KvReferenceIdeal.main_arg2))) rfl (Eq.trans ?_ (Cert.Kv.v_eq m c).symm)
    rw [h0, h1, h2]
  · refine Eq.trans (b := Cert.Kv.rVSwap (m' (c.tc.loc Cert.KvReferenceIdeal.main_arg0)) (m' (c.tc.loc Cert.KvReferenceIdeal.main_arg1))
      (m' (c.tc.loc Cert.KvReferenceIdeal.main_arg2))) rfl (Eq.trans ?_ (Cert.Kv.vSwap_eq m c).symm)
    rw [h0, h1, h2]
  · refine Eq.trans (b := Cert.Kv.rC (m' (c.tc.loc Cert.KvReferenceIdeal.main_arg0)) (m' (c.tc.loc Cert.KvReferenceIdeal.main_arg1))
      (m' (c.tc.loc Cert.KvReferenceIdeal.main_arg2))) rfl (Eq.trans ?_ (Cert.Kv.c_eq m c).symm)
    rw [h0, h1, h2]

theorem frame_cmpReference : Cert.quiescent_CmpReferenceIdeal := fun m ρ _ =>
  (θ_run Cert.CmpReferenceIdeal.defs _ _).mono (fun r h => ⟨fun c => (h c).2.2, sem_eq_zero_of_no_sems (by decide) r.2⟩)
    (Cert.CmpReferenceIdeal.Value.run (F := Ideal) m ρ)

theorem algebraic_cmp : Cert.algebraic_CmpKernelIdeal_CmpReferenceIdeal := by
  intro m ρ m' ρ' _ hag
  refine ⟨fun c => (Cert.CmpKernelIdeal.Gen.dats m 0 c).arrAt 7 Cert.CmpKernelIdeal.cfg0.N,
    fun c => (Cert.CmpKernelIdeal.Gen.dats m 0 c).arrAt 8 Cert.CmpKernelIdeal.cfg0.N,
    Cert.CmpKernelIdeal.Value.run_blocks (F := Ideal) m ρ, ?_⟩
  refine (θ_run Cert.CmpReferenceIdeal.defs _ _).mono (fun _ h c => ⟨(h c).1.trans ?_, (h c).2.1.trans ?_, (h c).2.2⟩)
    (Cert.CmpReferenceIdeal.Value.run (F := Ideal) m' ρ')
  all_goals obtain ⟨h0, h1, h2, h3, h4, h5, h6, h7⟩ := hag c
  · refine (Cert.Cmp.key_run m' c).trans (Eq.trans ?_ (Cert.Cmp.key_eq m c).symm)
    rw [h0, h2, h4, h5]
  · refine (Cert.Cmp.val_run m' c).trans (Eq.trans ?_ (Cert.Cmp.val_eq m c).symm)
    rw [h1, h3, h6, h7]

theorem claim : Cert.Claim :=
  ⟨Cert.FfnKernel.Gen.facts, Cert.FfnKernelIdeal.Gen.facts, Cert.FfnReferenceIdeal.Gen.facts,
    Cert.GluKernel.Gen.facts, Cert.GluKernelIdeal.Gen.facts, Cert.GluReferenceIdeal.Gen.facts,
    Cert.OutKernel.Gen.facts, Cert.OutKernelIdeal.Gen.facts, Cert.OutReferenceIdeal.Gen.facts,
    Cert.KvKernel.Gen.facts, Cert.KvKernelIdeal.Gen.facts, Cert.KvReferenceIdeal.Gen.facts,
    Cert.CmpKernel.Gen.facts, Cert.CmpKernelIdeal.Gen.facts, Cert.CmpReferenceIdeal.Gen.facts,
    fun m ρ _ => Cert.FfnKernel.Gen.frame m ρ, fun m ρ _ => Cert.FfnKernelIdeal.Gen.frame m ρ, frame_ffnReference,
    fun m ρ _ => Cert.GluKernel.Gen.frame m ρ, fun m ρ _ => Cert.GluKernelIdeal.Gen.frame m ρ, frame_gluReference,
    fun m ρ _ => Cert.OutKernel.Gen.frame m ρ, fun m ρ _ => Cert.OutKernelIdeal.Gen.frame m ρ, frame_outReference,
    fun m ρ _ => Cert.KvKernel.Gen.frame m ρ, fun m ρ _ => Cert.KvKernelIdeal.Gen.frame m ρ, frame_kvReference,
    fun m ρ _ => Cert.CmpKernel.Gen.frame m ρ, fun m ρ _ => Cert.CmpKernelIdeal.Gen.frame m ρ, frame_cmpReference,
    trivial, algebraic_ffn, trivial, algebraic_glu, trivial, algebraic_out, trivial, algebraic_kv, trivial, algebraic_cmp⟩

end Cert.Proof

end
